-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_occupied [hPre_occupied : Cert.Pre_occupied.Facts] (m : (ℓ : Loc Cert.KernelIdeal.nD Cert.KernelIdeal.τ Cert.KernelIdeal.sig) → Buf (Elt Ideal) ℓ) : Prop :=
  ∀ c : Dev Cert.KernelIdeal.nD,
    (Cert.Pre_occupied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_occupied [hPre_occupied : Cert.Pre_occupied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_occupied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_occupied [hKernelIdeal : Cert.KernelIdeal.Facts] [hPre_occupied : Cert.Pre_occupied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_occupied m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_occupied [hReferenceIdeal : Cert.ReferenceIdeal.Facts] [hPre_occupied : Cert.Pre_occupied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_occupied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_occupied [hKernelIdeal : Cert.KernelIdeal.Facts] [hReferenceIdeal : Cert.ReferenceIdeal.Facts] [hPre_occupied : Cert.Pre_occupied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_occupied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_occupied : Cert.Pre_occupied.Facts),
    quiescent_Kernel (hKernel := hKernel)
    ∧ quiescent_KernelIdeal (hKernelIdeal := hKernelIdeal)
    ∧ quiescent_KernelIdeal_pre_occupied (hKernelIdeal := hKernelIdeal) (hPre_occupied := hPre_occupied)
    ∧ quiescent_ReferenceIdeal (hReferenceIdeal := hReferenceIdeal)
    ∧ quiescent_ReferenceIdeal_pre_occupied (hReferenceIdeal := hReferenceIdeal) (hPre_occupied := hPre_occupied)
    ∧ preserves_Kernel_KernelIdeal
    ∧ algebraic_KernelIdeal_ReferenceIdeal_pre_occupied (hKernelIdeal := hKernelIdeal) (hReferenceIdeal := hReferenceIdeal) (hPre_occupied := hPre_occupied)
-- ==== Pre_occupied.lean ====
abbrev S4194304x16 : Shape := ⟨2, ![4194304, 16]⟩
abbrev S1048576 : Shape := ⟨1, ![1048576]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S1048576 32) (arg1 : IVec S_ 32) : IVec S1048576 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S1048576 32 := broadcastInDim S1048576 ![] bcast_S_S1048576 v2
  let v4 : IVec S1048576 32 := Host.remsi arg0 v3
  let c_1 : IVec S_ 32 := constantI S_ 32 0#32
  let v5 : IVec S1048576 32 := broadcastInDim S1048576 ![] bcast_S_S1048576 c_1
  let v6 : IVec S1048576 1 := cmpi .ne v4 v5
  let c_2 : IVec S_ 32 := constantI S_ 32 0#32
  let v7 : IVec S1048576 32 := broadcastInDim S1048576 ![] bcast_S_S1048576 c_2
  let v8 : IVec S1048576 1 := cmpi .slt v4 v7
  let c_3 : IVec S_ 32 := constantI S_ 32 0#32
  let v9 : IVec S_ 1 := cmpi .slt v2 c_3
  let v10 : IVec S1048576 1 := broadcastInDim S1048576 ![] bcast_S_S1048576 v9
  let v11 : IVec S1048576 1 := cmpi .ne v8 v10
  let v12 : IVec S1048576 1 := andi v11 v6
  let v13 : IVec S1048576 32 := broadcastInDim S1048576 ![] bcast_S_S1048576 v2
  let v14 : IVec S1048576 32 := addi v4 v13
  let v15 : IVec S1048576 32 := select v12 v14 v4
  v15

def fn_remainder_0 {F : FTy → Type} [FloatOps F] (arg0 : IVec S1048576 32) (arg1 : IVec S_ 32) : IVec S1048576 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S1048576 32 := broadcastInDim S1048576 ![] bcast_S_S1048576 v2
  let v4 : IVec S1048576 32 := Host.remsi arg0 v3
  let c_1 : IVec S_ 32 := constantI S_ 32 0#32
  let v5 : IVec S1048576 32 := broadcastInDim S1048576 ![] bcast_S_S1048576 c_1
  let v6 : IVec S1048576 1 := cmpi .ne v4 v5
  let c_2 : IVec S_ 32 := constantI S_ 32 0#32
  let v7 : IVec S1048576 32 := broadcastInDim S1048576 ![] bcast_S_S1048576 c_2
  let v8 : IVec S1048576 1 := cmpi .slt v4 v7
  let c_3 : IVec S_ 32 := constantI S_ 32 0#32
  let v9 : IVec S_ 1 := cmpi .slt v2 c_3
  let v10 : IVec S1048576 1 := broadcastInDim S1048576 ![] bcast_S_S1048576 v9
  let v11 : IVec S1048576 1 := cmpi .ne v8 v10
  let v12 : IVec S1048576 1 := andi v11 v6
  let v13 : IVec S1048576 32 := broadcastInDim S1048576 ![] bcast_S_S1048576 v2
  let v14 : IVec S1048576 32 := addi v4 v13
  let v15 : IVec S1048576 32 := select v12 v14 v4
  v15

def fn {F : FTy → Type} [FloatOps F] (main_arg0 : FVec F S4194304x16 .f32) (main_arg1 : IVec S1048576 32) (main_arg2 : IVec S_ 32) : IVec S_ 1 :=
  let main_c : IVec S_ 32 := constantI S_ 32 2#32
  let main_v0 : IVec S1048576 32 := fn_remainder (F := F) main_arg1 main_c
  let main_c_0 : IVec S_ 32 := constantI S_ 32 0#32
  let main_v1 : IVec S1048576 32 := broadcastInDim S1048576 ![] bcast_S_S1048576 main_c_0
  let main_v2 : IVec S1048576 1 := cmpi .eq main_v0 main_v1
  let main_v3 : IVec S1048576 32 := iotaInDim S1048576 32 0
  let main_c_1 : IVec S_ 32 := constantI S_ 32 2#32
  let main_v4 : IVec S1048576 32 := fn_remainder_0 (F := F) main_v3 main_c_1
  let main_c_2 : IVec S_ 32 := constantI S_ 32 0#32
  let main_v5 : IVec S1048576 32 := broadcastInDim S1048576 ![] bcast_S_S1048576 main_c_2
  let main_v6 : IVec S1048576 1 := cmpi .eq main_v4 main_v5
  let main_v7 : IVec S1048576 1 := cmpi .eq main_v2 main_v6
  let main_c_3 : IVec S_ 1 := constantI S_ 1 1#1
  let main_v8 : IVec S_ 1 := (fun x v => Host.reduce IntOp.andi x v reducesTo_S1048576_S_d0 h_S_) main_v7 main_c_3
  main_v8
-- ==== Kernel.lean ====
abbrev S4194304x16 : Shape := ⟨2, ![4194304, 16]⟩
abbrev S1048576 : Shape := ⟨1, ![1048576]⟩
abbrev S_ : Shape := ⟨0, ![]⟩
abbrev S16x4194304 : Shape := ⟨2, ![16, 4194304]⟩
abbrev S16x1048576 : Shape := ⟨2, ![16, 1048576]⟩
abbrev S8x4096 : Shape := ⟨2, ![8, 4096]⟩
abbrev S8x1024 : Shape := ⟨2, ![8, 1024]⟩
abbrev S16 : Shape := ⟨1, ![16]⟩
abbrev S1x16 : Shape := ⟨2, ![1, 16]⟩
abbrev S1048576x16 : Shape := ⟨2, ![1048576, 16]⟩

abbrev nBuf : Table → Nat
  | .hbm => 6
  | .local .scVector .vmem => 4
  | _ => 0

abbrev bufTy : (tb : Table) → Fin (nBuf tb) → BufTy
  | .hbm, ⟨0, _⟩ => ⟨S4194304x16, .f32⟩
  | .hbm, ⟨1, _⟩ => ⟨S1048576, .i32⟩
  | .hbm, ⟨2, _⟩ => ⟨S_, .i32⟩
  | .hbm, ⟨3, _⟩ => ⟨S16x4194304, .f32⟩
  | .hbm, ⟨4, _⟩ => ⟨S16x1048576, .f32⟩
  | .hbm, ⟨5, _⟩ => ⟨S1048576x16, .f32⟩
  | .local .scVector .vmem, ⟨0, _⟩ => ⟨S8x4096, .f32⟩
  | .local .scVector .vmem, ⟨1, _⟩ => ⟨S8x4096, .f32⟩
  | .local .scVector .vmem, ⟨2, _⟩ => ⟨S8x1024, .f32⟩
  | .local .scVector .vmem, ⟨3, _⟩ => ⟨S8x1024, .f32⟩
  | _, _ => ⟨S4194304x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c8_i32 : BitVec 32 := 8#32
  let v29 : BitVec 32 := Scalar.muli v11 c8_i32
  v29
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c0_i32_30 : BitVec 32 := 0#32
  let v90 : BitVec 32 := Scalar.addi v31 c0_i32_30
  v90
def k0_off1 (i : grid0.Coords) (c0_i32_30 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c8_i32 : BitVec 32 := 8#32
  let v29 : BitVec 32 := Scalar.muli v11 c8_i32
  let v30 : BitVec 32 := v29
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let v90 : BitVec 32 := Scalar.addi v31 c0_i32_30
  let v91 : BitVec 32 := v90
  ![v30.toNat, v91.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c4096_i32 : BitVec 32 := 4096#32
  let v94 : BitVec 32 := Scalar.addi v31 c4096_i32
  v94
@[reducible] def k0_t1_loop : Scf.Loop 32 :=
  let c0_i32_31 : BitVec 32 := 0#32
  let c512_i32 : BitVec 32 := 512#32
  let v98 : BitVec 32 := Scalar.addi c0_i32_31 c512_i32
  let c1_i32_32 : BitVec 32 := 1#32
  ⟨c0_i32_31, v98, c1_i32_32⟩
def k0_off2 (k0_t1 : Fin k0_t1_loop.trips) : Fin 2 → Nat :=
  let c0_i32_31 : BitVec 32 := 0#32
  let c1_i32_32 : BitVec 32 := 1#32
  let arg12 : BitVec 32 := Scf.iv c0_i32_31 c1_i32_32 k0_t1
  let c0_i32_51 : BitVec 32 := 0#32
  let v143 : BitVec 1 := Scalar.cmpi .sgt arg12 c0_i32_51
  let v144 : BitVec 32 := Scalar.extui v143
  let c0_i32_52 : BitVec 32 := 0#32
  let v145 : BitVec 1 := Scalar.cmpi .slt arg12 c0_i32_52
  let v146 : BitVec 32 := Scalar.extui v145
  let v147 : BitVec 32 := Scalar.subi v144 v146
  let c64_i32 : BitVec 32 := 64#32
  let c0_i32_53 : BitVec 32 := 0#32
  let v148 : BitVec 1 := Scalar.cmpi .sgt c64_i32 c0_i32_53
  let v149 : BitVec 32 := Scalar.extui v148
  let c0_i32_54 : BitVec 32 := 0#32
  let v150 : BitVec 1 := Scalar.cmpi .slt c64_i32 c0_i32_54
  let v151 : BitVec 32 := Scalar.extui v150
  let v152 : BitVec 32 := Scalar.subi v149 v151
  let v153 : BitVec 1 := Scalar.cmpi .ne v147 v152
  let v154 : BitVec 32 := Scalar.remsi arg12 c64_i32
  let c0_i32_55 : BitVec 32 := 0#32
  let v155 : BitVec 1 := Scalar.cmpi .ne v154 c0_i32_55
  let v156 : BitVec 1 := Scalar.andi v153 v155
  let v142 : BitVec 32 := Scalar.divsi arg12 c64_i32
  let c1_i32_56 : BitVec 32 := 1#32
  let v157 : BitVec 32 := Scalar.subi v142 c1_i32_56
  let v158 : BitVec 32 := Scalar.select v156 v157 v142
  let v170 : Index := Scalar.indexCast v158
  let c64_i32_57 : BitVec 32 := 64#32
  let c0_i32_58 : BitVec 32 := 0#32
  let v159 : BitVec 1 := Scalar.cmpi .eq c64_i32_57 c0_i32_58
  let c1_i32_59 : BitVec 32 := 1#32
  let v160 : BitVec 32 := Scalar.select v159 c1_i32_59 c64_i32_57
  let v161 : BitVec 32 := Scalar.remsi arg12 v160
  let c0_i32_61 : BitVec 32 := 0#32
  let v163 : BitVec 1 := Scalar.cmpi .slt v161 c0_i32_61
  let c0_i32_62 : BitVec 32 := 0#32
  let v164 : BitVec 1 := Scalar.cmpi .slt v160 c0_i32_62
  let v165 : BitVec 1 := Scalar.xori v163 v164
  let c0_i32_60 : BitVec 32 := 0#32
  let v162 : BitVec 1 := Scalar.cmpi .ne v161 c0_i32_60
  let v166 : BitVec 1 := Scalar.andi v165 v162
  let v167 : BitVec 32 := Scalar.addi v161 v160
  let v168 : BitVec 32 := Scalar.select v166 v167 v161
  let c16_i32 : BitVec 32 := 16#32
  let v169 : BitVec 32 := Scalar.muli v168 c16_i32
  let v171 : Index := Scalar.indexCast v169
  ![v170.toNat, v171.toNat]
@[reducible] def k0_t2_loop : Scf.Loop 32 :=
  let c0_i32_34 : BitVec 32 := 0#32
  let c32_i32 : BitVec 32 := 32#32
  let v99 : BitVec 32 := Scalar.addi c0_i32_34 c32_i32
  let c1_i32_35 : BitVec 32 := 1#32
  ⟨c0_i32_34, v99, c1_i32_35⟩
def k0_mult4 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_51 : BitVec 32 := 2#32
  let c0_i32_34 : BitVec 32 := 0#32
  let c1_i32_35 : BitVec 32 := 1#32
  let arg12 : BitVec 32 := Scf.iv c0_i32_34 c1_i32_35 k0_t2
  let v142 : BitVec 32 := Scalar.muli c2_i32_51 arg12
  let c0_i32_52 : BitVec 32 := 0#32
  let v143 : BitVec 32 := Scalar.addi v142 c0_i32_52
  let c4096_i32_53 : BitVec 32 := 4096#32
  let v144 : BitVec 32 := Scalar.muli v143 c4096_i32_53
  let v145 : BitVec 32 := Scalar.addi v31 v144
  v145
def k0_off3 (i : grid0.Coords) (k0_t2 : Fin k0_t2_loop.trips) (c0_i32_52 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c8_i32 : BitVec 32 := 8#32
  let v29 : BitVec 32 := Scalar.muli v11 c8_i32
  let v30 : BitVec 32 := v29
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_51 : BitVec 32 := 2#32
  let c0_i32_34 : BitVec 32 := 0#32
  let c1_i32_35 : BitVec 32 := 1#32
  let arg12 : BitVec 32 := Scf.iv c0_i32_34 c1_i32_35 k0_t2
  let v142 : BitVec 32 := Scalar.muli c2_i32_51 arg12
  let v143 : BitVec 32 := Scalar.addi v142 c0_i32_52
  let c4096_i32_53 : BitVec 32 := 4096#32
  let v144 : BitVec 32 := Scalar.muli v143 c4096_i32_53
  let v145 : BitVec 32 := Scalar.addi v31 v144
  let v146 : BitVec 32 := v145
  ![v30.toNat, v146.toNat]
def k0_cond1 (k0_t2 : Fin k0_t2_loop.trips) : BitVec 1 :=
  let c0_i32_34 : BitVec 32 := 0#32
  let c1_i32_35 : BitVec 32 := 1#32
  let arg12 : BitVec 32 := Scf.iv c0_i32_34 c1_i32_35 k0_t2
  let c1_i32_54 : BitVec 32 := 1#32
  let v149 : BitVec 1 := Scalar.cmpi .sge arg12 c1_i32_54
  let v150 : BitVec 32 := Scalar.extui v149
  let c0_i32_55 : BitVec 32 := 0#32
  let v151 : BitVec 1 := Scalar.cmpi .ne v150 c0_i32_55
  v151

def k0_mult5 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_51 : BitVec 32 := 2#32
  let c0_i32_34 : BitVec 32 := 0#32
  let c1_i32_35 : BitVec 32 := 1#32
  let arg12 : BitVec 32 := Scf.iv c0_i32_34 c1_i32_35 k0_t2
  let v142 : BitVec 32 := Scalar.muli c2_i32_51 arg12
  let c0_i32_52 : BitVec 32 := 0#32
  let v143 : BitVec 32 := Scalar.addi v142 c0_i32_52
  let c2_i32_89 : BitVec 32 := 2#32
  let v216 : BitVec 32 := Scalar.subi v143 c2_i32_89
  let c4096_i32_90 : BitVec 32 := 4096#32
  let v217 : BitVec 32 := Scalar.muli v216 c4096_i32_90
  let v218 : BitVec 32 := Scalar.addi v31 v217
  let c0_i32_92 : BitVec 32 := 0#32
  let v220 : BitVec 1 := Scalar.cmpi .sgt v218 c0_i32_92
  let v221 : BitVec 32 := Scalar.extui v220
  let c0_i32_93 : BitVec 32 := 0#32
  let v222 : BitVec 1 := Scalar.cmpi .slt v218 c0_i32_93
  let v223 : BitVec 32 := Scalar.extui v222
  let v224 : BitVec 32 := Scalar.subi v221 v223
  let c4_i32_91 : BitVec 32 := 4#32
  let c0_i32_94 : BitVec 32 := 0#32
  let v225 : BitVec 1 := Scalar.cmpi .sgt c4_i32_91 c0_i32_94
  let v226 : BitVec 32 := Scalar.extui v225
  let c0_i32_95 : BitVec 32 := 0#32
  let v227 : BitVec 1 := Scalar.cmpi .slt c4_i32_91 c0_i32_95
  let v228 : BitVec 32 := Scalar.extui v227
  let v229 : BitVec 32 := Scalar.subi v226 v228
  let v230 : BitVec 1 := Scalar.cmpi .ne v224 v229
  let v231 : BitVec 32 := Scalar.remsi v218 c4_i32_91
  let c0_i32_96 : BitVec 32 := 0#32
  let v232 : BitVec 1 := Scalar.cmpi .ne v231 c0_i32_96
  let v233 : BitVec 1 := Scalar.andi v230 v232
  let v219 : BitVec 32 := Scalar.divsi v218 c4_i32_91
  let c1_i32_97 : BitVec 32 := 1#32
  let v234 : BitVec 32 := Scalar.subi v219 c1_i32_97
  let v235 : BitVec 32 := Scalar.select v233 v234 v219
  v235
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c8_i32 : BitVec 32 := 8#32
  let v29 : BitVec 32 := Scalar.muli v11 c8_i32
  let v30 : BitVec 32 := v29
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_51 : BitVec 32 := 2#32
  let c0_i32_34 : BitVec 32 := 0#32
  let c1_i32_35 : BitVec 32 := 1#32
  let arg12 : BitVec 32 := Scf.iv c0_i32_34 c1_i32_35 k0_t2
  let v142 : BitVec 32 := Scalar.muli c2_i32_51 arg12
  let c0_i32_52 : BitVec 32 := 0#32
  let v143 : BitVec 32 := Scalar.addi v142 c0_i32_52
  let c2_i32_89 : BitVec 32 := 2#32
  let v216 : BitVec 32 := Scalar.subi v143 c2_i32_89
  let c4096_i32_90 : BitVec 32 := 4096#32
  let v217 : BitVec 32 := Scalar.muli v216 c4096_i32_90
  let v218 : BitVec 32 := Scalar.addi v31 v217
  let c0_i32_92 : BitVec 32 := 0#32
  let v220 : BitVec 1 := Scalar.cmpi .sgt v218 c0_i32_92
  let v221 : BitVec 32 := Scalar.extui v220
  let c0_i32_93 : BitVec 32 := 0#32
  let v222 : BitVec 1 := Scalar.cmpi .slt v218 c0_i32_93
  let v223 : BitVec 32 := Scalar.extui v222
  let v224 : BitVec 32 := Scalar.subi v221 v223
  let c4_i32_91 : BitVec 32 := 4#32
  let c0_i32_94 : BitVec 32 := 0#32
  let v225 : BitVec 1 := Scalar.cmpi .sgt c4_i32_91 c0_i32_94
  let v226 : BitVec 32 := Scalar.extui v225
  let c0_i32_95 : BitVec 32 := 0#32
  let v227 : BitVec 1 := Scalar.cmpi .slt c4_i32_91 c0_i32_95
  let v228 : BitVec 32 := Scalar.extui v227
  let v229 : BitVec 32 := Scalar.subi v226 v228
  let v230 : BitVec 1 := Scalar.cmpi .ne v224 v229
  let v231 : BitVec 32 := Scalar.remsi v218 c4_i32_91
  let c0_i32_96 : BitVec 32 := 0#32
  let v232 : BitVec 1 := Scalar.cmpi .ne v231 c0_i32_96
  let v233 : BitVec 1 := Scalar.andi v230 v232
  let v219 : BitVec 32 := Scalar.divsi v218 c4_i32_91
  let c1_i32_97 : BitVec 32 := 1#32
  let v234 : BitVec 32 := Scalar.subi v219 c1_i32_97
  let v235 : BitVec 32 := Scalar.select v233 v234 v219
  let v236 : BitVec 32 := v235
  ![v30.toNat, v236.toNat]
@[reducible] def k0_t3_loop : Scf.Loop 32 :=
  let c0_i32_56 : BitVec 32 := 0#32
  let c16_i32 : BitVec 32 := 16#32
  let v152 : BitVec 32 := Scalar.addi c0_i32_56 c16_i32
  let c1_i32_57 : BitVec 32 := 1#32
  ⟨c0_i32_56, v152, c1_i32_57⟩

def k0_chk1 (v224 : IVec S16 32) (v226 : IVec S16 32) : Prop :=
  (∀ a x, ((![v224, v226] : Fin 2 → IVec S16 32) a x).toNat < S8x4096.size a)
theorem k0_idx1_inb : ∀ (v224 : IVec S16 32) (v226 : IVec S16 32) (k0_hw1 : k0_chk1 v224 v226), ∀ a x, ((![v224, v226] : Fin 2 → IVec S16 32) a x).toNat < S8x4096.size a := fun v224 v226 k0_hw1 => k0_hw1

def k0_chk2 (v224 : IVec S16 32) (v229 : IVec S16 32) : Prop :=
  (∀ a x, ((![v224, v229] : Fin 2 → IVec S16 32) a x).toNat < S8x4096.size a)
theorem k0_idx2_inb : ∀ (v224 : IVec S16 32) (v229 : IVec S16 32) (k0_hw2 : k0_chk2 v224 v229), ∀ a x, ((![v224, v229] : Fin 2 → IVec S16 32) a x).toNat < S8x4096.size a := fun v224 v229 k0_hw2 => k0_hw2

def k0_chk3 (v224 : IVec S16 32) (v233 : IVec S16 32) : Prop :=
  (∀ a x, ((![v224, v233] : Fin 2 → IVec S16 32) a x).toNat < S8x4096.size a)
theorem k0_idx3_inb : ∀ (v224 : IVec S16 32) (v233 : IVec S16 32) (k0_hw3 : k0_chk3 v224 v233), ∀ a x, ((![v224, v233] : Fin 2 → IVec S16 32) a x).toNat < S8x4096.size a := fun v224 v233 k0_hw3 => k0_hw3

def k0_chk4 (v224 : IVec S16 32) (v236 : IVec S16 32) : Prop :=
  (∀ a x, ((![v224, v236] : Fin 2 → IVec S16 32) a x).toNat < S8x4096.size a)
theorem k0_idx4_inb : ∀ (v224 : IVec S16 32) (v236 : IVec S16 32) (k0_hw4 : k0_chk4 v224 v236), ∀ a x, ((![v224, v236] : Fin 2 → IVec S16 32) a x).toNat < S8x4096.size a := fun v224 v236 k0_hw4 => k0_hw4

def k0_chk5 (v224 : IVec S16 32) (v240 : IVec S16 32) : Prop :=
  (∀ a x, ((![v224, v240] : Fin 2 → IVec S16 32) a x).toNat < S8x4096.size a)
theorem k0_idx5_inb : ∀ (v224 : IVec S16 32) (v240 : IVec S16 32) (k0_hw5 : k0_chk5 v224 v240), ∀ a x, ((![v224, v240] : Fin 2 → IVec S16 32) a x).toNat < S8x4096.size a := fun v224 v240 k0_hw5 => k0_hw5

def k0_chk6 (v224 : IVec S16 32) (v243 : IVec S16 32) : Prop :=
  (∀ a x, ((![v224, v243] : Fin 2 → IVec S16 32) a x).toNat < S8x4096.size a)
theorem k0_idx6_inb : ∀ (v224 : IVec S16 32) (v243 : IVec S16 32) (k0_hw6 : k0_chk6 v224 v243), ∀ a x, ((![v224, v243] : Fin 2 → IVec S16 32) a x).toNat < S8x4096.size a := fun v224 v243 k0_hw6 => k0_hw6

def k0_chk7 (v224 : IVec S16 32) (v247 : IVec S16 32) : Prop :=
  (∀ a x, ((![v224, v247] : Fin 2 → IVec S16 32) a x).toNat < S8x4096.size a)
theorem k0_idx7_inb : ∀ (v224 : IVec S16 32) (v247 : IVec S16 32) (k0_hw7 : k0_chk7 v224 v247), ∀ a x, ((![v224, v247] : Fin 2 → IVec S16 32) a x).toNat < S8x4096.size a := fun v224 v247 k0_hw7 => k0_hw7

def k0_chk8 (v224 : IVec S16 32) (v250 : IVec S16 32) : Prop :=
  (∀ a x, ((![v224, v250] : Fin 2 → IVec S16 32) a x).toNat < S8x4096.size a)
theorem k0_idx8_inb : ∀ (v224 : IVec S16 32) (v250 : IVec S16 32) (k0_hw8 : k0_chk8 v224 v250), ∀ a x, ((![v224, v250] : Fin 2 → IVec S16 32) a x).toNat < S8x4096.size a := fun v224 v250 k0_hw8 => k0_hw8

def k0_chk9 (v223 : IVec S16 32) (v224 : IVec S16 32) : Prop :=
  (∀ a x, ((![v224, v223] : Fin 2 → IVec S16 32) a x).toNat < S8x1024.size a)
theorem k0_idx9_inb : ∀ (v223 : IVec S16 32) (v224 : IVec S16 32) (k0_hw9 : k0_chk9 v223 v224), ∀ a x, ((![v224, v223] : Fin 2 → IVec S16 32) a x).toNat < S8x1024.size a := fun v223 v224 k0_hw9 => k0_hw9

def k0_chk10 (v256 : IVec S16 32) (v258 : IVec S16 32) : Prop :=
  (∀ a x, ((![v256, v258] : Fin 2 → IVec S16 32) a x).toNat < S8x4096.size a)
theorem k0_idx10_inb : ∀ (v256 : IVec S16 32) (v258 : IVec S16 32) (k0_hw10 : k0_chk10 v256 v258), ∀ a x, ((![v256, v258] : Fin 2 → IVec S16 32) a x).toNat < S8x4096.size a := fun v256 v258 k0_hw10 => k0_hw10

def k0_chk11 (v256 : IVec S16 32) (v261 : IVec S16 32) : Prop :=
  (∀ a x, ((![v256, v261] : Fin 2 → IVec S16 32) a x).toNat < S8x4096.size a)
theorem k0_idx11_inb : ∀ (v256 : IVec S16 32) (v261 : IVec S16 32) (k0_hw11 : k0_chk11 v256 v261), ∀ a x, ((![v256, v261] : Fin 2 → IVec S16 32) a x).toNat < S8x4096.size a := fun v256 v261 k0_hw11 => k0_hw11

def k0_chk12 (v256 : IVec S16 32) (v265 : IVec S16 32) : Prop :=
  (∀ a x, ((![v256, v265] : Fin 2 → IVec S16 32) a x).toNat < S8x4096.size a)
theorem k0_idx12_inb : ∀ (v256 : IVec S16 32) (v265 : IVec S16 32) (k0_hw12 : k0_chk12 v256 v265), ∀ a x, ((![v256, v265] : Fin 2 → IVec S16 32) a x).toNat < S8x4096.size a := fun v256 v265 k0_hw12 => k0_hw12

def k0_chk13 (v256 : IVec S16 32) (v268 : IVec S16 32) : Prop :=
  (∀ a x, ((![v256, v268] : Fin 2 → IVec S16 32) a x).toNat < S8x4096.size a)
theorem k0_idx13_inb : ∀ (v256 : IVec S16 32) (v268 : IVec S16 32) (k0_hw13 : k0_chk13 v256 v268), ∀ a x, ((![v256, v268] : Fin 2 → IVec S16 32) a x).toNat < S8x4096.size a := fun v256 v268 k0_hw13 => k0_hw13

def k0_chk14 (v256 : IVec S16 32) (v272 : IVec S16 32) : Prop :=
  (∀ a x, ((![v256, v272] : Fin 2 → IVec S16 32) a x).toNat < S8x4096.size a)
theorem k0_idx14_inb : ∀ (v256 : IVec S16 32) (v272 : IVec S16 32) (k0_hw14 : k0_chk14 v256 v272), ∀ a x, ((![v256, v272] : Fin 2 → IVec S16 32) a x).toNat < S8x4096.size a := fun v256 v272 k0_hw14 => k0_hw14

def k0_chk15 (v256 : IVec S16 32) (v275 : IVec S16 32) : Prop :=
  (∀ a x, ((![v256, v275] : Fin 2 → IVec S16 32) a x).toNat < S8x4096.size a)
theorem k0_idx15_inb : ∀ (v256 : IVec S16 32) (v275 : IVec S16 32) (k0_hw15 : k0_chk15 v256 v275), ∀ a x, ((![v256, v275] : Fin 2 → IVec S16 32) a x).toNat < S8x4096.size a := fun v256 v275 k0_hw15 => k0_hw15

def k0_chk16 (v256 : IVec S16 32) (v279 : IVec S16 32) : Prop :=
  (∀ a x, ((![v256, v279] : Fin 2 → IVec S16 32) a x).toNat < S8x4096.size a)
theorem k0_idx16_inb : ∀ (v256 : IVec S16 32) (v279 : IVec S16 32) (k0_hw16 : k0_chk16 v256 v279), ∀ a x, ((![v256, v279] : Fin 2 → IVec S16 32) a x).toNat < S8x4096.size a := fun v256 v279 k0_hw16 => k0_hw16

def k0_chk17 (v256 : IVec S16 32) (v282 : IVec S16 32) : Prop :=
  (∀ a x, ((![v256, v282] : Fin 2 → IVec S16 32) a x).toNat < S8x4096.size a)
theorem k0_idx17_inb : ∀ (v256 : IVec S16 32) (v282 : IVec S16 32) (k0_hw17 : k0_chk17 v256 v282), ∀ a x, ((![v256, v282] : Fin 2 → IVec S16 32) a x).toNat < S8x4096.size a := fun v256 v282 k0_hw17 => k0_hw17

def k0_chk18 (v223 : IVec S16 32) (v256 : IVec S16 32) : Prop :=
  (∀ a x, ((![v256, v223] : Fin 2 → IVec S16 32) a x).toNat < S8x1024.size a)
theorem k0_idx18_inb : ∀ (v223 : IVec S16 32) (v256 : IVec S16 32) (k0_hw18 : k0_chk18 v223 v256), ∀ a x, ((![v256, v223] : Fin 2 → IVec S16 32) a x).toNat < S8x1024.size a := fun v223 v256 k0_hw18 => k0_hw18

def k0_chk19 (v288 : IVec S16 32) (v290 : IVec S16 32) : Prop :=
  (∀ a x, ((![v288, v290] : Fin 2 → IVec S16 32) a x).toNat < S8x4096.size a)
theorem k0_idx19_inb : ∀ (v288 : IVec S16 32) (v290 : IVec S16 32) (k0_hw19 : k0_chk19 v288 v290), ∀ a x, ((![v288, v290] : Fin 2 → IVec S16 32) a x).toNat < S8x4096.size a := fun v288 v290 k0_hw19 => k0_hw19

def k0_chk20 (v288 : IVec S16 32) (v293 : IVec S16 32) : Prop :=
  (∀ a x, ((![v288, v293] : Fin 2 → IVec S16 32) a x).toNat < S8x4096.size a)
theorem k0_idx20_inb : ∀ (v288 : IVec S16 32) (v293 : IVec S16 32) (k0_hw20 : k0_chk20 v288 v293), ∀ a x, ((![v288, v293] : Fin 2 → IVec S16 32) a x).toNat < S8x4096.size a := fun v288 v293 k0_hw20 => k0_hw20

def k0_chk21 (v288 : IVec S16 32) (v297 : IVec S16 32) : Prop :=
  (∀ a x, ((![v288, v297] : Fin 2 → IVec S16 32) a x).toNat < S8x4096.size a)
theorem k0_idx21_inb : ∀ (v288 : IVec S16 32) (v297 : IVec S16 32) (k0_hw21 : k0_chk21 v288 v297), ∀ a x, ((![v288, v297] : Fin 2 → IVec S16 32) a x).toNat < S8x4096.size a := fun v288 v297 k0_hw21 => k0_hw21

def k0_chk22 (v288 : IVec S16 32) (v300 : IVec S16 32) : Prop :=
  (∀ a x, ((![v288, v300] : Fin 2 → IVec S16 32) a x).toNat < S8x4096.size a)
theorem k0_idx22_inb : ∀ (v288 : IVec S16 32) (v300 : IVec S16 32) (k0_hw22 : k0_chk22 v288 v300), ∀ a x, ((![v288, v300] : Fin 2 → IVec S16 32) a x).toNat < S8x4096.size a := fun v288 v300 k0_hw22 => k0_hw22

def k0_chk23 (v288 : IVec S16 32) (v304 : IVec S16 32) : Prop :=
  (∀ a x, ((![v288, v304] : Fin 2 → IVec S16 32) a x).toNat < S8x4096.size a)
theorem k0_idx23_inb : ∀ (v288 : IVec S16 32) (v304 : IVec S16 32) (k0_hw23 : k0_chk23 v288 v304), ∀ a x, ((![v288, v304] : Fin 2 → IVec S16 32) a x).toNat < S8x4096.size a := fun v288 v304 k0_hw23 => k0_hw23

def k0_chk24 (v288 : IVec S16 32) (v307 : IVec S16 32) : Prop :=
  (∀ a x, ((![v288, v307] : Fin 2 → IVec S16 32) a x).toNat < S8x4096.size a)
theorem k0_idx24_inb : ∀ (v288 : IVec S16 32) (v307 : IVec S16 32) (k0_hw24 : k0_chk24 v288 v307), ∀ a x, ((![v288, v307] : Fin 2 → IVec S16 32) a x).toNat < S8x4096.size a := fun v288 v307 k0_hw24 => k0_hw24

def k0_chk25 (v288 : IVec S16 32) (v311 : IVec S16 32) : Prop :=
  (∀ a x, ((![v288, v311] : Fin 2 → IVec S16 32) a x).toNat < S8x4096.size a)
theorem k0_idx25_inb : ∀ (v288 : IVec S16 32) (v311 : IVec S16 32) (k0_hw25 : k0_chk25 v288 v311), ∀ a x, ((![v288, v311] : Fin 2 → IVec S16 32) a x).toNat < S8x4096.size a := fun v288 v311 k0_hw25 => k0_hw25

def k0_chk26 (v288 : IVec S16 32) (v314 : IVec S16 32) : Prop :=
  (∀ a x, ((![v288, v314] : Fin 2 → IVec S16 32) a x).toNat < S8x4096.size a)
theorem k0_idx26_inb : ∀ (v288 : IVec S16 32) (v314 : IVec S16 32) (k0_hw26 : k0_chk26 v288 v314), ∀ a x, ((![v288, v314] : Fin 2 → IVec S16 32) a x).toNat < S8x4096.size a := fun v288 v314 k0_hw26 => k0_hw26

def k0_chk27 (v223 : IVec S16 32) (v288 : IVec S16 32) : Prop :=
  (∀ a x, ((![v288, v223] : Fin 2 → IVec S16 32) a x).toNat < S8x1024.size a)
theorem k0_idx27_inb : ∀ (v223 : IVec S16 32) (v288 : IVec S16 32) (k0_hw27 : k0_chk27 v223 v288), ∀ a x, ((![v288, v223] : Fin 2 → IVec S16 32) a x).toNat < S8x1024.size a := fun v223 v288 k0_hw27 => k0_hw27

def k0_chk28 (v320 : IVec S16 32) (v322 : IVec S16 32) : Prop :=
  (∀ a x, ((![v320, v322] : Fin 2 → IVec S16 32) a x).toNat < S8x4096.size a)
theorem k0_idx28_inb : ∀ (v320 : IVec S16 32) (v322 : IVec S16 32) (k0_hw28 : k0_chk28 v320 v322), ∀ a x, ((![v320, v322] : Fin 2 → IVec S16 32) a x).toNat < S8x4096.size a := fun v320 v322 k0_hw28 => k0_hw28

def k0_chk29 (v320 : IVec S16 32) (v325 : IVec S16 32) : Prop :=
  (∀ a x, ((![v320, v325] : Fin 2 → IVec S16 32) a x).toNat < S8x4096.size a)
theorem k0_idx29_inb : ∀ (v320 : IVec S16 32) (v325 : IVec S16 32) (k0_hw29 : k0_chk29 v320 v325), ∀ a x, ((![v320, v325] : Fin 2 → IVec S16 32) a x).toNat < S8x4096.size a := fun v320 v325 k0_hw29 => k0_hw29

def k0_chk30 (v320 : IVec S16 32) (v329 : IVec S16 32) : Prop :=
  (∀ a x, ((![v320, v329] : Fin 2 → IVec S16 32) a x).toNat < S8x4096.size a)
theorem k0_idx30_inb : ∀ (v320 : IVec S16 32) (v329 : IVec S16 32) (k0_hw30 : k0_chk30 v320 v329), ∀ a x, ((![v320, v329] : Fin 2 → IVec S16 32) a x).toNat < S8x4096.size a := fun v320 v329 k0_hw30 => k0_hw30

def k0_chk31 (v320 : IVec S16 32) (v332 : IVec S16 32) : Prop :=
  (∀ a x, ((![v320, v332] : Fin 2 → IVec S16 32) a x).toNat < S8x4096.size a)
theorem k0_idx31_inb : ∀ (v320 : IVec S16 32) (v332 : IVec S16 32) (k0_hw31 : k0_chk31 v320 v332), ∀ a x, ((![v320, v332] : Fin 2 → IVec S16 32) a x).toNat < S8x4096.size a := fun v320 v332 k0_hw31 => k0_hw31

def k0_chk32 (v320 : IVec S16 32) (v336 : IVec S16 32) : Prop :=
  (∀ a x, ((![v320, v336] : Fin 2 → IVec S16 32) a x).toNat < S8x4096.size a)
theorem k0_idx32_inb : ∀ (v320 : IVec S16 32) (v336 : IVec S16 32) (k0_hw32 : k0_chk32 v320 v336), ∀ a x, ((![v320, v336] : Fin 2 → IVec S16 32) a x).toNat < S8x4096.size a := fun v320 v336 k0_hw32 => k0_hw32

def k0_chk33 (v320 : IVec S16 32) (v339 : IVec S16 32) : Prop :=
  (∀ a x, ((![v320, v339] : Fin 2 → IVec S16 32) a x).toNat < S8x4096.size a)
theorem k0_idx33_inb : ∀ (v320 : IVec S16 32) (v339 : IVec S16 32) (k0_hw33 : k0_chk33 v320 v339), ∀ a x, ((![v320, v339] : Fin 2 → IVec S16 32) a x).toNat < S8x4096.size a := fun v320 v339 k0_hw33 => k0_hw33

def k0_chk34 (v320 : IVec S16 32) (v343 : IVec S16 32) : Prop :=
  (∀ a x, ((![v320, v343] : Fin 2 → IVec S16 32) a x).toNat < S8x4096.size a)
theorem k0_idx34_inb : ∀ (v320 : IVec S16 32) (v343 : IVec S16 32) (k0_hw34 : k0_chk34 v320 v343), ∀ a x, ((![v320, v343] : Fin 2 → IVec S16 32) a x).toNat < S8x4096.size a := fun v320 v343 k0_hw34 => k0_hw34

def k0_chk35 (v320 : IVec S16 32) (v346 : IVec S16 32) : Prop :=
  (∀ a x, ((![v320, v346] : Fin 2 → IVec S16 32) a x).toNat < S8x4096.size a)
theorem k0_idx35_inb : ∀ (v320 : IVec S16 32) (v346 : IVec S16 32) (k0_hw35 : k0_chk35 v320 v346), ∀ a x, ((![v320, v346] : Fin 2 → IVec S16 32) a x).toNat < S8x4096.size a := fun v320 v346 k0_hw35 => k0_hw35

def k0_chk36 (v223 : IVec S16 32) (v320 : IVec S16 32) : Prop :=
  (∀ a x, ((![v320, v223] : Fin 2 → IVec S16 32) a x).toNat < S8x1024.size a)
theorem k0_idx36_inb : ∀ (v223 : IVec S16 32) (v320 : IVec S16 32) (k0_hw36 : k0_chk36 v223 v320), ∀ a x, ((![v320, v223] : Fin 2 → IVec S16 32) a x).toNat < S8x1024.size a := fun v223 v320 k0_hw36 => k0_hw36

def k0_chk37 (v352 : IVec S16 32) (v354 : IVec S16 32) : Prop :=
  (∀ a x, ((![v352, v354] : Fin 2 → IVec S16 32) a x).toNat < S8x4096.size a)
theorem k0_idx37_inb : ∀ (v352 : IVec S16 32) (v354 : IVec S16 32) (k0_hw37 : k0_chk37 v352 v354), ∀ a x, ((![v352, v354] : Fin 2 → IVec S16 32) a x).toNat < S8x4096.size a := fun v352 v354 k0_hw37 => k0_hw37

def k0_chk38 (v352 : IVec S16 32) (v357 : IVec S16 32) : Prop :=
  (∀ a x, ((![v352, v357] : Fin 2 → IVec S16 32) a x).toNat < S8x4096.size a)
theorem k0_idx38_inb : ∀ (v352 : IVec S16 32) (v357 : IVec S16 32) (k0_hw38 : k0_chk38 v352 v357), ∀ a x, ((![v352, v357] : Fin 2 → IVec S16 32) a x).toNat < S8x4096.size a := fun v352 v357 k0_hw38 => k0_hw38

def k0_chk39 (v352 : IVec S16 32) (v361 : IVec S16 32) : Prop :=
  (∀ a x, ((![v352, v361] : Fin 2 → IVec S16 32) a x).toNat < S8x4096.size a)
theorem k0_idx39_inb : ∀ (v352 : IVec S16 32) (v361 : IVec S16 32) (k0_hw39 : k0_chk39 v352 v361), ∀ a x, ((![v352, v361] : Fin 2 → IVec S16 32) a x).toNat < S8x4096.size a := fun v352 v361 k0_hw39 => k0_hw39

def k0_chk40 (v352 : IVec S16 32) (v364 : IVec S16 32) : Prop :=
  (∀ a x, ((![v352, v364] : Fin 2 → IVec S16 32) a x).toNat < S8x4096.size a)
theorem k0_idx40_inb : ∀ (v352 : IVec S16 32) (v364 : IVec S16 32) (k0_hw40 : k0_chk40 v352 v364), ∀ a x, ((![v352, v364] : Fin 2 → IVec S16 32) a x).toNat < S8x4096.size a := fun v352 v364 k0_hw40 => k0_hw40

def k0_chk41 (v352 : IVec S16 32) (v368 : IVec S16 32) : Prop :=
  (∀ a x, ((![v352, v368] : Fin 2 → IVec S16 32) a x).toNat < S8x4096.size a)
theorem k0_idx41_inb : ∀ (v352 : IVec S16 32) (v368 : IVec S16 32) (k0_hw41 : k0_chk41 v352 v368), ∀ a x, ((![v352, v368] : Fin 2 → IVec S16 32) a x).toNat < S8x4096.size a := fun v352 v368 k0_hw41 => k0_hw41

def k0_chk42 (v352 : IVec S16 32) (v371 : IVec S16 32) : Prop :=
  (∀ a x, ((![v352, v371] : Fin 2 → IVec S16 32) a x).toNat < S8x4096.size a)
theorem k0_idx42_inb : ∀ (v352 : IVec S16 32) (v371 : IVec S16 32) (k0_hw42 : k0_chk42 v352 v371), ∀ a x, ((![v352, v371] : Fin 2 → IVec S16 32) a x).toNat < S8x4096.size a := fun v352 v371 k0_hw42 => k0_hw42

def k0_chk43 (v352 : IVec S16 32) (v375 : IVec S16 32) : Prop :=
  (∀ a x, ((![v352, v375] : Fin 2 → IVec S16 32) a x).toNat < S8x4096.size a)
theorem k0_idx43_inb : ∀ (v352 : IVec S16 32) (v375 : IVec S16 32) (k0_hw43 : k0_chk43 v352 v375), ∀ a x, ((![v352, v375] : Fin 2 → IVec S16 32) a x).toNat < S8x4096.size a := fun v352 v375 k0_hw43 => k0_hw43

def k0_chk44 (v352 : IVec S16 32) (v378 : IVec S16 32) : Prop :=
  (∀ a x, ((![v352, v378] : Fin 2 → IVec S16 32) a x).toNat < S8x4096.size a)
theorem k0_idx44_inb : ∀ (v352 : IVec S16 32) (v378 : IVec S16 32) (k0_hw44 : k0_chk44 v352 v378), ∀ a x, ((![v352, v378] : Fin 2 → IVec S16 32) a x).toNat < S8x4096.size a := fun v352 v378 k0_hw44 => k0_hw44

def k0_chk45 (v223 : IVec S16 32) (v352 : IVec S16 32) : Prop :=
  (∀ a x, ((![v352, v223] : Fin 2 → IVec S16 32) a x).toNat < S8x1024.size a)
theorem k0_idx45_inb : ∀ (v223 : IVec S16 32) (v352 : IVec S16 32) (k0_hw45 : k0_chk45 v223 v352), ∀ a x, ((![v352, v223] : Fin 2 → IVec S16 32) a x).toNat < S8x1024.size a := fun v223 v352 k0_hw45 => k0_hw45

def k0_chk46 (v384 : IVec S16 32) (v386 : IVec S16 32) : Prop :=
  (∀ a x, ((![v384, v386] : Fin 2 → IVec S16 32) a x).toNat < S8x4096.size a)
theorem k0_idx46_inb : ∀ (v384 : IVec S16 32) (v386 : IVec S16 32) (k0_hw46 : k0_chk46 v384 v386), ∀ a x, ((![v384, v386] : Fin 2 → IVec S16 32) a x).toNat < S8x4096.size a := fun v384 v386 k0_hw46 => k0_hw46

def k0_chk47 (v384 : IVec S16 32) (v389 : IVec S16 32) : Prop :=
  (∀ a x, ((![v384, v389] : Fin 2 → IVec S16 32) a x).toNat < S8x4096.size a)
theorem k0_idx47_inb : ∀ (v384 : IVec S16 32) (v389 : IVec S16 32) (k0_hw47 : k0_chk47 v384 v389), ∀ a x, ((![v384, v389] : Fin 2 → IVec S16 32) a x).toNat < S8x4096.size a := fun v384 v389 k0_hw47 => k0_hw47

def k0_chk48 (v384 : IVec S16 32) (v393 : IVec S16 32) : Prop :=
  (∀ a x, ((![v384, v393] : Fin 2 → IVec S16 32) a x).toNat < S8x4096.size a)
theorem k0_idx48_inb : ∀ (v384 : IVec S16 32) (v393 : IVec S16 32) (k0_hw48 : k0_chk48 v384 v393), ∀ a x, ((![v384, v393] : Fin 2 → IVec S16 32) a x).toNat < S8x4096.size a := fun v384 v393 k0_hw48 => k0_hw48

def k0_chk49 (v384 : IVec S16 32) (v396 : IVec S16 32) : Prop :=
  (∀ a x, ((![v384, v396] : Fin 2 → IVec S16 32) a x).toNat < S8x4096.size a)
theorem k0_idx49_inb : ∀ (v384 : IVec S16 32) (v396 : IVec S16 32) (k0_hw49 : k0_chk49 v384 v396), ∀ a x, ((![v384, v396] : Fin 2 → IVec S16 32) a x).toNat < S8x4096.size a := fun v384 v396 k0_hw49 => k0_hw49

def k0_chk50 (v384 : IVec S16 32) (v400 : IVec S16 32) : Prop :=
  (∀ a x, ((![v384, v400] : Fin 2 → IVec S16 32) a x).toNat < S8x4096.size a)
theorem k0_idx50_inb : ∀ (v384 : IVec S16 32) (v400 : IVec S16 32) (k0_hw50 : k0_chk50 v384 v400), ∀ a x, ((![v384, v400] : Fin 2 → IVec S16 32) a x).toNat < S8x4096.size a := fun v384 v400 k0_hw50 => k0_hw50

def k0_chk51 (v384 : IVec S16 32) (v403 : IVec S16 32) : Prop :=
  (∀ a x, ((![v384, v403] : Fin 2 → IVec S16 32) a x).toNat < S8x4096.size a)
theorem k0_idx51_inb : ∀ (v384 : IVec S16 32) (v403 : IVec S16 32) (k0_hw51 : k0_chk51 v384 v403), ∀ a x, ((![v384, v403] : Fin 2 → IVec S16 32) a x).toNat < S8x4096.size a := fun v384 v403 k0_hw51 => k0_hw51

def k0_chk52 (v384 : IVec S16 32) (v407 : IVec S16 32) : Prop :=
  (∀ a x, ((![v384, v407] : Fin 2 → IVec S16 32) a x).toNat < S8x4096.size a)
theorem k0_idx52_inb : ∀ (v384 : IVec S16 32) (v407 : IVec S16 32) (k0_hw52 : k0_chk52 v384 v407), ∀ a x, ((![v384, v407] : Fin 2 → IVec S16 32) a x).toNat < S8x4096.size a := fun v384 v407 k0_hw52 => k0_hw52

def k0_chk53 (v384 : IVec S16 32) (v410 : IVec S16 32) : Prop :=
  (∀ a x, ((![v384, v410] : Fin 2 → IVec S16 32) a x).toNat < S8x4096.size a)
theorem k0_idx53_inb : ∀ (v384 : IVec S16 32) (v410 : IVec S16 32) (k0_hw53 : k0_chk53 v384 v410), ∀ a x, ((![v384, v410] : Fin 2 → IVec S16 32) a x).toNat < S8x4096.size a := fun v384 v410 k0_hw53 => k0_hw53

def k0_chk54 (v223 : IVec S16 32) (v384 : IVec S16 32) : Prop :=
  (∀ a x, ((![v384, v223] : Fin 2 → IVec S16 32) a x).toNat < S8x1024.size a)
theorem k0_idx54_inb : ∀ (v223 : IVec S16 32) (v384 : IVec S16 32) (k0_hw54 : k0_chk54 v223 v384), ∀ a x, ((![v384, v223] : Fin 2 → IVec S16 32) a x).toNat < S8x1024.size a := fun v223 v384 k0_hw54 => k0_hw54

def k0_chk55 (v416 : IVec S16 32) (v418 : IVec S16 32) : Prop :=
  (∀ a x, ((![v416, v418] : Fin 2 → IVec S16 32) a x).toNat < S8x4096.size a)
theorem k0_idx55_inb : ∀ (v416 : IVec S16 32) (v418 : IVec S16 32) (k0_hw55 : k0_chk55 v416 v418), ∀ a x, ((![v416, v418] : Fin 2 → IVec S16 32) a x).toNat < S8x4096.size a := fun v416 v418 k0_hw55 => k0_hw55

def k0_chk56 (v416 : IVec S16 32) (v421 : IVec S16 32) : Prop :=
  (∀ a x, ((![v416, v421] : Fin 2 → IVec S16 32) a x).toNat < S8x4096.size a)
theorem k0_idx56_inb : ∀ (v416 : IVec S16 32) (v421 : IVec S16 32) (k0_hw56 : k0_chk56 v416 v421), ∀ a x, ((![v416, v421] : Fin 2 → IVec S16 32) a x).toNat < S8x4096.size a := fun v416 v421 k0_hw56 => k0_hw56

def k0_chk57 (v416 : IVec S16 32) (v425 : IVec S16 32) : Prop :=
  (∀ a x, ((![v416, v425] : Fin 2 → IVec S16 32) a x).toNat < S8x4096.size a)
theorem k0_idx57_inb : ∀ (v416 : IVec S16 32) (v425 : IVec S16 32) (k0_hw57 : k0_chk57 v416 v425), ∀ a x, ((![v416, v425] : Fin 2 → IVec S16 32) a x).toNat < S8x4096.size a := fun v416 v425 k0_hw57 => k0_hw57

def k0_chk58 (v416 : IVec S16 32) (v428 : IVec S16 32) : Prop :=
  (∀ a x, ((![v416, v428] : Fin 2 → IVec S16 32) a x).toNat < S8x4096.size a)
theorem k0_idx58_inb : ∀ (v416 : IVec S16 32) (v428 : IVec S16 32) (k0_hw58 : k0_chk58 v416 v428), ∀ a x, ((![v416, v428] : Fin 2 → IVec S16 32) a x).toNat < S8x4096.size a := fun v416 v428 k0_hw58 => k0_hw58

def k0_chk59 (v416 : IVec S16 32) (v432 : IVec S16 32) : Prop :=
  (∀ a x, ((![v416, v432] : Fin 2 → IVec S16 32) a x).toNat < S8x4096.size a)
theorem k0_idx59_inb : ∀ (v416 : IVec S16 32) (v432 : IVec S16 32) (k0_hw59 : k0_chk59 v416 v432), ∀ a x, ((![v416, v432] : Fin 2 → IVec S16 32) a x).toNat < S8x4096.size a := fun v416 v432 k0_hw59 => k0_hw59

def k0_chk60 (v416 : IVec S16 32) (v435 : IVec S16 32) : Prop :=
  (∀ a x, ((![v416, v435] : Fin 2 → IVec S16 32) a x).toNat < S8x4096.size a)
theorem k0_idx60_inb : ∀ (v416 : IVec S16 32) (v435 : IVec S16 32) (k0_hw60 : k0_chk60 v416 v435), ∀ a x, ((![v416, v435] : Fin 2 → IVec S16 32) a x).toNat < S8x4096.size a := fun v416 v435 k0_hw60 => k0_hw60

def k0_chk61 (v416 : IVec S16 32) (v439 : IVec S16 32) : Prop :=
  (∀ a x, ((![v416, v439] : Fin 2 → IVec S16 32) a x).toNat < S8x4096.size a)
theorem k0_idx61_inb : ∀ (v416 : IVec S16 32) (v439 : IVec S16 32) (k0_hw61 : k0_chk61 v416 v439), ∀ a x, ((![v416, v439] : Fin 2 → IVec S16 32) a x).toNat < S8x4096.size a := fun v416 v439 k0_hw61 => k0_hw61

def k0_chk62 (v416 : IVec S16 32) (v442 : IVec S16 32) : Prop :=
  (∀ a x, ((![v416, v442] : Fin 2 → IVec S16 32) a x).toNat < S8x4096.size a)
theorem k0_idx62_inb : ∀ (v416 : IVec S16 32) (v442 : IVec S16 32) (k0_hw62 : k0_chk62 v416 v442), ∀ a x, ((![v416, v442] : Fin 2 → IVec S16 32) a x).toNat < S8x4096.size a := fun v416 v442 k0_hw62 => k0_hw62

def k0_chk63 (v223 : IVec S16 32) (v416 : IVec S16 32) : Prop :=
  (∀ a x, ((![v416, v223] : Fin 2 → IVec S16 32) a x).toNat < S8x1024.size a)
theorem k0_idx63_inb : ∀ (v223 : IVec S16 32) (v416 : IVec S16 32) (k0_hw63 : k0_chk63 v223 v416), ∀ a x, ((![v416, v223] : Fin 2 → IVec S16 32) a x).toNat < S8x1024.size a := fun v223 v416 k0_hw63 => k0_hw63

def k0_chk64 (v448 : IVec S16 32) (v450 : IVec S16 32) : Prop :=
  (∀ a x, ((![v448, v450] : Fin 2 → IVec S16 32) a x).toNat < S8x4096.size a)
theorem k0_idx64_inb : ∀ (v448 : IVec S16 32) (v450 : IVec S16 32) (k0_hw64 : k0_chk64 v448 v450), ∀ a x, ((![v448, v450] : Fin 2 → IVec S16 32) a x).toNat < S8x4096.size a := fun v448 v450 k0_hw64 => k0_hw64

def k0_chk65 (v448 : IVec S16 32) (v453 : IVec S16 32) : Prop :=
  (∀ a x, ((![v448, v453] : Fin 2 → IVec S16 32) a x).toNat < S8x4096.size a)
theorem k0_idx65_inb : ∀ (v448 : IVec S16 32) (v453 : IVec S16 32) (k0_hw65 : k0_chk65 v448 v453), ∀ a x, ((![v448, v453] : Fin 2 → IVec S16 32) a x).toNat < S8x4096.size a := fun v448 v453 k0_hw65 => k0_hw65

def k0_chk66 (v448 : IVec S16 32) (v457 : IVec S16 32) : Prop :=
  (∀ a x, ((![v448, v457] : Fin 2 → IVec S16 32) a x).toNat < S8x4096.size a)
theorem k0_idx66_inb : ∀ (v448 : IVec S16 32) (v457 : IVec S16 32) (k0_hw66 : k0_chk66 v448 v457), ∀ a x, ((![v448, v457] : Fin 2 → IVec S16 32) a x).toNat < S8x4096.size a := fun v448 v457 k0_hw66 => k0_hw66

def k0_chk67 (v448 : IVec S16 32) (v460 : IVec S16 32) : Prop :=
  (∀ a x, ((![v448, v460] : Fin 2 → IVec S16 32) a x).toNat < S8x4096.size a)
theorem k0_idx67_inb : ∀ (v448 : IVec S16 32) (v460 : IVec S16 32) (k0_hw67 : k0_chk67 v448 v460), ∀ a x, ((![v448, v460] : Fin 2 → IVec S16 32) a x).toNat < S8x4096.size a := fun v448 v460 k0_hw67 => k0_hw67

def k0_chk68 (v448 : IVec S16 32) (v464 : IVec S16 32) : Prop :=
  (∀ a x, ((![v448, v464] : Fin 2 → IVec S16 32) a x).toNat < S8x4096.size a)
theorem k0_idx68_inb : ∀ (v448 : IVec S16 32) (v464 : IVec S16 32) (k0_hw68 : k0_chk68 v448 v464), ∀ a x, ((![v448, v464] : Fin 2 → IVec S16 32) a x).toNat < S8x4096.size a := fun v448 v464 k0_hw68 => k0_hw68

def k0_chk69 (v448 : IVec S16 32) (v467 : IVec S16 32) : Prop :=
  (∀ a x, ((![v448, v467] : Fin 2 → IVec S16 32) a x).toNat < S8x4096.size a)
theorem k0_idx69_inb : ∀ (v448 : IVec S16 32) (v467 : IVec S16 32) (k0_hw69 : k0_chk69 v448 v467), ∀ a x, ((![v448, v467] : Fin 2 → IVec S16 32) a x).toNat < S8x4096.size a := fun v448 v467 k0_hw69 => k0_hw69

def k0_chk70 (v448 : IVec S16 32) (v471 : IVec S16 32) : Prop :=
  (∀ a x, ((![v448, v471] : Fin 2 → IVec S16 32) a x).toNat < S8x4096.size a)
theorem k0_idx70_inb : ∀ (v448 : IVec S16 32) (v471 : IVec S16 32) (k0_hw70 : k0_chk70 v448 v471), ∀ a x, ((![v448, v471] : Fin 2 → IVec S16 32) a x).toNat < S8x4096.size a := fun v448 v471 k0_hw70 => k0_hw70

def k0_chk71 (v448 : IVec S16 32) (v474 : IVec S16 32) : Prop :=
  (∀ a x, ((![v448, v474] : Fin 2 → IVec S16 32) a x).toNat < S8x4096.size a)
theorem k0_idx71_inb : ∀ (v448 : IVec S16 32) (v474 : IVec S16 32) (k0_hw71 : k0_chk71 v448 v474), ∀ a x, ((![v448, v474] : Fin 2 → IVec S16 32) a x).toNat < S8x4096.size a := fun v448 v474 k0_hw71 => k0_hw71

def k0_chk72 (v223 : IVec S16 32) (v448 : IVec S16 32) : Prop :=
  (∀ a x, ((![v448, v223] : Fin 2 → IVec S16 32) a x).toNat < S8x1024.size a)
theorem k0_idx72_inb : ∀ (v223 : IVec S16 32) (v448 : IVec S16 32) (k0_hw72 : k0_chk72 v223 v448), ∀ a x, ((![v448, v223] : Fin 2 → IVec S16 32) a x).toNat < S8x1024.size a := fun v223 v448 k0_hw72 => k0_hw72

def k0_chk73 (v488 : IVec S16 32) (v490 : IVec S16 32) : Prop :=
  (∀ a x, ((![v488, v490] : Fin 2 → IVec S16 32) a x).toNat < S8x4096.size a)
theorem k0_idx73_inb : ∀ (v488 : IVec S16 32) (v490 : IVec S16 32) (k0_hw73 : k0_chk73 v488 v490), ∀ a x, ((![v488, v490] : Fin 2 → IVec S16 32) a x).toNat < S8x4096.size a := fun v488 v490 k0_hw73 => k0_hw73

def k0_chk74 (v488 : IVec S16 32) (v493 : IVec S16 32) : Prop :=
  (∀ a x, ((![v488, v493] : Fin 2 → IVec S16 32) a x).toNat < S8x4096.size a)
theorem k0_idx74_inb : ∀ (v488 : IVec S16 32) (v493 : IVec S16 32) (k0_hw74 : k0_chk74 v488 v493), ∀ a x, ((![v488, v493] : Fin 2 → IVec S16 32) a x).toNat < S8x4096.size a := fun v488 v493 k0_hw74 => k0_hw74

def k0_chk75 (v488 : IVec S16 32) (v497 : IVec S16 32) : Prop :=
  (∀ a x, ((![v488, v497] : Fin 2 → IVec S16 32) a x).toNat < S8x4096.size a)
theorem k0_idx75_inb : ∀ (v488 : IVec S16 32) (v497 : IVec S16 32) (k0_hw75 : k0_chk75 v488 v497), ∀ a x, ((![v488, v497] : Fin 2 → IVec S16 32) a x).toNat < S8x4096.size a := fun v488 v497 k0_hw75 => k0_hw75

def k0_chk76 (v488 : IVec S16 32) (v500 : IVec S16 32) : Prop :=
  (∀ a x, ((![v488, v500] : Fin 2 → IVec S16 32) a x).toNat < S8x4096.size a)
theorem k0_idx76_inb : ∀ (v488 : IVec S16 32) (v500 : IVec S16 32) (k0_hw76 : k0_chk76 v488 v500), ∀ a x, ((![v488, v500] : Fin 2 → IVec S16 32) a x).toNat < S8x4096.size a := fun v488 v500 k0_hw76 => k0_hw76

def k0_chk77 (v488 : IVec S16 32) (v504 : IVec S16 32) : Prop :=
  (∀ a x, ((![v488, v504] : Fin 2 → IVec S16 32) a x).toNat < S8x4096.size a)
theorem k0_idx77_inb : ∀ (v488 : IVec S16 32) (v504 : IVec S16 32) (k0_hw77 : k0_chk77 v488 v504), ∀ a x, ((![v488, v504] : Fin 2 → IVec S16 32) a x).toNat < S8x4096.size a := fun v488 v504 k0_hw77 => k0_hw77

def k0_chk78 (v488 : IVec S16 32) (v507 : IVec S16 32) : Prop :=
  (∀ a x, ((![v488, v507] : Fin 2 → IVec S16 32) a x).toNat < S8x4096.size a)
theorem k0_idx78_inb : ∀ (v488 : IVec S16 32) (v507 : IVec S16 32) (k0_hw78 : k0_chk78 v488 v507), ∀ a x, ((![v488, v507] : Fin 2 → IVec S16 32) a x).toNat < S8x4096.size a := fun v488 v507 k0_hw78 => k0_hw78

def k0_chk79 (v488 : IVec S16 32) (v511 : IVec S16 32) : Prop :=
  (∀ a x, ((![v488, v511] : Fin 2 → IVec S16 32) a x).toNat < S8x4096.size a)
theorem k0_idx79_inb : ∀ (v488 : IVec S16 32) (v511 : IVec S16 32) (k0_hw79 : k0_chk79 v488 v511), ∀ a x, ((![v488, v511] : Fin 2 → IVec S16 32) a x).toNat < S8x4096.size a := fun v488 v511 k0_hw79 => k0_hw79

def k0_chk80 (v488 : IVec S16 32) (v514 : IVec S16 32) : Prop :=
  (∀ a x, ((![v488, v514] : Fin 2 → IVec S16 32) a x).toNat < S8x4096.size a)
theorem k0_idx80_inb : ∀ (v488 : IVec S16 32) (v514 : IVec S16 32) (k0_hw80 : k0_chk80 v488 v514), ∀ a x, ((![v488, v514] : Fin 2 → IVec S16 32) a x).toNat < S8x4096.size a := fun v488 v514 k0_hw80 => k0_hw80

def k0_chk81 (v487 : IVec S16 32) (v488 : IVec S16 32) : Prop :=
  (∀ a x, ((![v488, v487] : Fin 2 → IVec S16 32) a x).toNat < S8x1024.size a)
theorem k0_idx81_inb : ∀ (v487 : IVec S16 32) (v488 : IVec S16 32) (k0_hw81 : k0_chk81 v487 v488), ∀ a x, ((![v488, v487] : Fin 2 → IVec S16 32) a x).toNat < S8x1024.size a := fun v487 v488 k0_hw81 => k0_hw81

def k0_chk82 (v520 : IVec S16 32) (v522 : IVec S16 32) : Prop :=
  (∀ a x, ((![v520, v522] : Fin 2 → IVec S16 32) a x).toNat < S8x4096.size a)
theorem k0_idx82_inb : ∀ (v520 : IVec S16 32) (v522 : IVec S16 32) (k0_hw82 : k0_chk82 v520 v522), ∀ a x, ((![v520, v522] : Fin 2 → IVec S16 32) a x).toNat < S8x4096.size a := fun v520 v522 k0_hw82 => k0_hw82

def k0_chk83 (v520 : IVec S16 32) (v525 : IVec S16 32) : Prop :=
  (∀ a x, ((![v520, v525] : Fin 2 → IVec S16 32) a x).toNat < S8x4096.size a)
theorem k0_idx83_inb : ∀ (v520 : IVec S16 32) (v525 : IVec S16 32) (k0_hw83 : k0_chk83 v520 v525), ∀ a x, ((![v520, v525] : Fin 2 → IVec S16 32) a x).toNat < S8x4096.size a := fun v520 v525 k0_hw83 => k0_hw83

def k0_chk84 (v520 : IVec S16 32) (v529 : IVec S16 32) : Prop :=
  (∀ a x, ((![v520, v529] : Fin 2 → IVec S16 32) a x).toNat < S8x4096.size a)
theorem k0_idx84_inb : ∀ (v520 : IVec S16 32) (v529 : IVec S16 32) (k0_hw84 : k0_chk84 v520 v529), ∀ a x, ((![v520, v529] : Fin 2 → IVec S16 32) a x).toNat < S8x4096.size a := fun v520 v529 k0_hw84 => k0_hw84

def k0_chk85 (v520 : IVec S16 32) (v532 : IVec S16 32) : Prop :=
  (∀ a x, ((![v520, v532] : Fin 2 → IVec S16 32) a x).toNat < S8x4096.size a)
theorem k0_idx85_inb : ∀ (v520 : IVec S16 32) (v532 : IVec S16 32) (k0_hw85 : k0_chk85 v520 v532), ∀ a x, ((![v520, v532] : Fin 2 → IVec S16 32) a x).toNat < S8x4096.size a := fun v520 v532 k0_hw85 => k0_hw85

def k0_chk86 (v520 : IVec S16 32) (v536 : IVec S16 32) : Prop :=
  (∀ a x, ((![v520, v536] : Fin 2 → IVec S16 32) a x).toNat < S8x4096.size a)
theorem k0_idx86_inb : ∀ (v520 : IVec S16 32) (v536 : IVec S16 32) (k0_hw86 : k0_chk86 v520 v536), ∀ a x, ((![v520, v536] : Fin 2 → IVec S16 32) a x).toNat < S8x4096.size a := fun v520 v536 k0_hw86 => k0_hw86

def k0_chk87 (v520 : IVec S16 32) (v539 : IVec S16 32) : Prop :=
  (∀ a x, ((![v520, v539] : Fin 2 → IVec S16 32) a x).toNat < S8x4096.size a)
theorem k0_idx87_inb : ∀ (v520 : IVec S16 32) (v539 : IVec S16 32) (k0_hw87 : k0_chk87 v520 v539), ∀ a x, ((![v520, v539] : Fin 2 → IVec S16 32) a x).toNat < S8x4096.size a := fun v520 v539 k0_hw87 => k0_hw87

def k0_chk88 (v520 : IVec S16 32) (v543 : IVec S16 32) : Prop :=
  (∀ a x, ((![v520, v543] : Fin 2 → IVec S16 32) a x).toNat < S8x4096.size a)
theorem k0_idx88_inb : ∀ (v520 : IVec S16 32) (v543 : IVec S16 32) (k0_hw88 : k0_chk88 v520 v543), ∀ a x, ((![v520, v543] : Fin 2 → IVec S16 32) a x).toNat < S8x4096.size a := fun v520 v543 k0_hw88 => k0_hw88

def k0_chk89 (v520 : IVec S16 32) (v546 : IVec S16 32) : Prop :=
  (∀ a x, ((![v520, v546] : Fin 2 → IVec S16 32) a x).toNat < S8x4096.size a)
theorem k0_idx89_inb : ∀ (v520 : IVec S16 32) (v546 : IVec S16 32) (k0_hw89 : k0_chk89 v520 v546), ∀ a x, ((![v520, v546] : Fin 2 → IVec S16 32) a x).toNat < S8x4096.size a := fun v520 v546 k0_hw89 => k0_hw89

def k0_chk90 (v487 : IVec S16 32) (v520 : IVec S16 32) : Prop :=
  (∀ a x, ((![v520, v487] : Fin 2 → IVec S16 32) a x).toNat < S8x1024.size a)
theorem k0_idx90_inb : ∀ (v487 : IVec S16 32) (v520 : IVec S16 32) (k0_hw90 : k0_chk90 v487 v520), ∀ a x, ((![v520, v487] : Fin 2 → IVec S16 32) a x).toNat < S8x1024.size a := fun v487 v520 k0_hw90 => k0_hw90

def k0_chk91 (v552 : IVec S16 32) (v554 : IVec S16 32) : Prop :=
  (∀ a x, ((![v552, v554] : Fin 2 → IVec S16 32) a x).toNat < S8x4096.size a)
theorem k0_idx91_inb : ∀ (v552 : IVec S16 32) (v554 : IVec S16 32) (k0_hw91 : k0_chk91 v552 v554), ∀ a x, ((![v552, v554] : Fin 2 → IVec S16 32) a x).toNat < S8x4096.size a := fun v552 v554 k0_hw91 => k0_hw91

def k0_chk92 (v552 : IVec S16 32) (v557 : IVec S16 32) : Prop :=
  (∀ a x, ((![v552, v557] : Fin 2 → IVec S16 32) a x).toNat < S8x4096.size a)
theorem k0_idx92_inb : ∀ (v552 : IVec S16 32) (v557 : IVec S16 32) (k0_hw92 : k0_chk92 v552 v557), ∀ a x, ((![v552, v557] : Fin 2 → IVec S16 32) a x).toNat < S8x4096.size a := fun v552 v557 k0_hw92 => k0_hw92

def k0_chk93 (v552 : IVec S16 32) (v561 : IVec S16 32) : Prop :=
  (∀ a x, ((![v552, v561] : Fin 2 → IVec S16 32) a x).toNat < S8x4096.size a)
theorem k0_idx93_inb : ∀ (v552 : IVec S16 32) (v561 : IVec S16 32) (k0_hw93 : k0_chk93 v552 v561), ∀ a x, ((![v552, v561] : Fin 2 → IVec S16 32) a x).toNat < S8x4096.size a := fun v552 v561 k0_hw93 => k0_hw93

def k0_chk94 (v552 : IVec S16 32) (v564 : IVec S16 32) : Prop :=
  (∀ a x, ((![v552, v564] : Fin 2 → IVec S16 32) a x).toNat < S8x4096.size a)
theorem k0_idx94_inb : ∀ (v552 : IVec S16 32) (v564 : IVec S16 32) (k0_hw94 : k0_chk94 v552 v564), ∀ a x, ((![v552, v564] : Fin 2 → IVec S16 32) a x).toNat < S8x4096.size a := fun v552 v564 k0_hw94 => k0_hw94

def k0_chk95 (v552 : IVec S16 32) (v568 : IVec S16 32) : Prop :=
  (∀ a x, ((![v552, v568] : Fin 2 → IVec S16 32) a x).toNat < S8x4096.size a)
theorem k0_idx95_inb : ∀ (v552 : IVec S16 32) (v568 : IVec S16 32) (k0_hw95 : k0_chk95 v552 v568), ∀ a x, ((![v552, v568] : Fin 2 → IVec S16 32) a x).toNat < S8x4096.size a := fun v552 v568 k0_hw95 => k0_hw95

def k0_chk96 (v552 : IVec S16 32) (v571 : IVec S16 32) : Prop :=
  (∀ a x, ((![v552, v571] : Fin 2 → IVec S16 32) a x).toNat < S8x4096.size a)
theorem k0_idx96_inb : ∀ (v552 : IVec S16 32) (v571 : IVec S16 32) (k0_hw96 : k0_chk96 v552 v571), ∀ a x, ((![v552, v571] : Fin 2 → IVec S16 32) a x).toNat < S8x4096.size a := fun v552 v571 k0_hw96 => k0_hw96

def k0_chk97 (v552 : IVec S16 32) (v575 : IVec S16 32) : Prop :=
  (∀ a x, ((![v552, v575] : Fin 2 → IVec S16 32) a x).toNat < S8x4096.size a)
theorem k0_idx97_inb : ∀ (v552 : IVec S16 32) (v575 : IVec S16 32) (k0_hw97 : k0_chk97 v552 v575), ∀ a x, ((![v552, v575] : Fin 2 → IVec S16 32) a x).toNat < S8x4096.size a := fun v552 v575 k0_hw97 => k0_hw97

def k0_chk98 (v552 : IVec S16 32) (v578 : IVec S16 32) : Prop :=
  (∀ a x, ((![v552, v578] : Fin 2 → IVec S16 32) a x).toNat < S8x4096.size a)
theorem k0_idx98_inb : ∀ (v552 : IVec S16 32) (v578 : IVec S16 32) (k0_hw98 : k0_chk98 v552 v578), ∀ a x, ((![v552, v578] : Fin 2 → IVec S16 32) a x).toNat < S8x4096.size a := fun v552 v578 k0_hw98 => k0_hw98

def k0_chk99 (v487 : IVec S16 32) (v552 : IVec S16 32) : Prop :=
  (∀ a x, ((![v552, v487] : Fin 2 → IVec S16 32) a x).toNat < S8x1024.size a)
theorem k0_idx99_inb : ∀ (v487 : IVec S16 32) (v552 : IVec S16 32) (k0_hw99 : k0_chk99 v487 v552), ∀ a x, ((![v552, v487] : Fin 2 → IVec S16 32) a x).toNat < S8x1024.size a := fun v487 v552 k0_hw99 => k0_hw99

def k0_chk100 (v584 : IVec S16 32) (v586 : IVec S16 32) : Prop :=
  (∀ a x, ((![v584, v586] : Fin 2 → IVec S16 32) a x).toNat < S8x4096.size a)
theorem k0_idx100_inb : ∀ (v584 : IVec S16 32) (v586 : IVec S16 32) (k0_hw100 : k0_chk100 v584 v586), ∀ a x, ((![v584, v586] : Fin 2 → IVec S16 32) a x).toNat < S8x4096.size a := fun v584 v586 k0_hw100 => k0_hw100

def k0_chk101 (v584 : IVec S16 32) (v589 : IVec S16 32) : Prop :=
  (∀ a x, ((![v584, v589] : Fin 2 → IVec S16 32) a x).toNat < S8x4096.size a)
theorem k0_idx101_inb : ∀ (v584 : IVec S16 32) (v589 : IVec S16 32) (k0_hw101 : k0_chk101 v584 v589), ∀ a x, ((![v584, v589] : Fin 2 → IVec S16 32) a x).toNat < S8x4096.size a := fun v584 v589 k0_hw101 => k0_hw101

def k0_chk102 (v584 : IVec S16 32) (v593 : IVec S16 32) : Prop :=
  (∀ a x, ((![v584, v593] : Fin 2 → IVec S16 32) a x).toNat < S8x4096.size a)
theorem k0_idx102_inb : ∀ (v584 : IVec S16 32) (v593 : IVec S16 32) (k0_hw102 : k0_chk102 v584 v593), ∀ a x, ((![v584, v593] : Fin 2 → IVec S16 32) a x).toNat < S8x4096.size a := fun v584 v593 k0_hw102 => k0_hw102

def k0_chk103 (v584 : IVec S16 32) (v596 : IVec S16 32) : Prop :=
  (∀ a x, ((![v584, v596] : Fin 2 → IVec S16 32) a x).toNat < S8x4096.size a)
theorem k0_idx103_inb : ∀ (v584 : IVec S16 32) (v596 : IVec S16 32) (k0_hw103 : k0_chk103 v584 v596), ∀ a x, ((![v584, v596] : Fin 2 → IVec S16 32) a x).toNat < S8x4096.size a := fun v584 v596 k0_hw103 => k0_hw103

def k0_chk104 (v584 : IVec S16 32) (v600 : IVec S16 32) : Prop :=
  (∀ a x, ((![v584, v600] : Fin 2 → IVec S16 32) a x).toNat < S8x4096.size a)
theorem k0_idx104_inb : ∀ (v584 : IVec S16 32) (v600 : IVec S16 32) (k0_hw104 : k0_chk104 v584 v600), ∀ a x, ((![v584, v600] : Fin 2 → IVec S16 32) a x).toNat < S8x4096.size a := fun v584 v600 k0_hw104 => k0_hw104

def k0_chk105 (v584 : IVec S16 32) (v603 : IVec S16 32) : Prop :=
  (∀ a x, ((![v584, v603] : Fin 2 → IVec S16 32) a x).toNat < S8x4096.size a)
theorem k0_idx105_inb : ∀ (v584 : IVec S16 32) (v603 : IVec S16 32) (k0_hw105 : k0_chk105 v584 v603), ∀ a x, ((![v584, v603] : Fin 2 → IVec S16 32) a x).toNat < S8x4096.size a := fun v584 v603 k0_hw105 => k0_hw105

def k0_chk106 (v584 : IVec S16 32) (v607 : IVec S16 32) : Prop :=
  (∀ a x, ((![v584, v607] : Fin 2 → IVec S16 32) a x).toNat < S8x4096.size a)
theorem k0_idx106_inb : ∀ (v584 : IVec S16 32) (v607 : IVec S16 32) (k0_hw106 : k0_chk106 v584 v607), ∀ a x, ((![v584, v607] : Fin 2 → IVec S16 32) a x).toNat < S8x4096.size a := fun v584 v607 k0_hw106 => k0_hw106

def k0_chk107 (v584 : IVec S16 32) (v610 : IVec S16 32) : Prop :=
  (∀ a x, ((![v584, v610] : Fin 2 → IVec S16 32) a x).toNat < S8x4096.size a)
theorem k0_idx107_inb : ∀ (v584 : IVec S16 32) (v610 : IVec S16 32) (k0_hw107 : k0_chk107 v584 v610), ∀ a x, ((![v584, v610] : Fin 2 → IVec S16 32) a x).toNat < S8x4096.size a := fun v584 v610 k0_hw107 => k0_hw107

def k0_chk108 (v487 : IVec S16 32) (v584 : IVec S16 32) : Prop :=
  (∀ a x, ((![v584, v487] : Fin 2 → IVec S16 32) a x).toNat < S8x1024.size a)
theorem k0_idx108_inb : ∀ (v487 : IVec S16 32) (v584 : IVec S16 32) (k0_hw108 : k0_chk108 v487 v584), ∀ a x, ((![v584, v487] : Fin 2 → IVec S16 32) a x).toNat < S8x1024.size a := fun v487 v584 k0_hw108 => k0_hw108

def k0_chk109 (v616 : IVec S16 32) (v618 : IVec S16 32) : Prop :=
  (∀ a x, ((![v616, v618] : Fin 2 → IVec S16 32) a x).toNat < S8x4096.size a)
theorem k0_idx109_inb : ∀ (v616 : IVec S16 32) (v618 : IVec S16 32) (k0_hw109 : k0_chk109 v616 v618), ∀ a x, ((![v616, v618] : Fin 2 → IVec S16 32) a x).toNat < S8x4096.size a := fun v616 v618 k0_hw109 => k0_hw109

def k0_chk110 (v616 : IVec S16 32) (v621 : IVec S16 32) : Prop :=
  (∀ a x, ((![v616, v621] : Fin 2 → IVec S16 32) a x).toNat < S8x4096.size a)
theorem k0_idx110_inb : ∀ (v616 : IVec S16 32) (v621 : IVec S16 32) (k0_hw110 : k0_chk110 v616 v621), ∀ a x, ((![v616, v621] : Fin 2 → IVec S16 32) a x).toNat < S8x4096.size a := fun v616 v621 k0_hw110 => k0_hw110

def k0_chk111 (v616 : IVec S16 32) (v625 : IVec S16 32) : Prop :=
  (∀ a x, ((![v616, v625] : Fin 2 → IVec S16 32) a x).toNat < S8x4096.size a)
theorem k0_idx111_inb : ∀ (v616 : IVec S16 32) (v625 : IVec S16 32) (k0_hw111 : k0_chk111 v616 v625), ∀ a x, ((![v616, v625] : Fin 2 → IVec S16 32) a x).toNat < S8x4096.size a := fun v616 v625 k0_hw111 => k0_hw111

def k0_chk112 (v616 : IVec S16 32) (v628 : IVec S16 32) : Prop :=
  (∀ a x, ((![v616, v628] : Fin 2 → IVec S16 32) a x).toNat < S8x4096.size a)
theorem k0_idx112_inb : ∀ (v616 : IVec S16 32) (v628 : IVec S16 32) (k0_hw112 : k0_chk112 v616 v628), ∀ a x, ((![v616, v628] : Fin 2 → IVec S16 32) a x).toNat < S8x4096.size a := fun v616 v628 k0_hw112 => k0_hw112

def k0_chk113 (v616 : IVec S16 32) (v632 : IVec S16 32) : Prop :=
  (∀ a x, ((![v616, v632] : Fin 2 → IVec S16 32) a x).toNat < S8x4096.size a)
theorem k0_idx113_inb : ∀ (v616 : IVec S16 32) (v632 : IVec S16 32) (k0_hw113 : k0_chk113 v616 v632), ∀ a x, ((![v616, v632] : Fin 2 → IVec S16 32) a x).toNat < S8x4096.size a := fun v616 v632 k0_hw113 => k0_hw113

def k0_chk114 (v616 : IVec S16 32) (v635 : IVec S16 32) : Prop :=
  (∀ a x, ((![v616, v635] : Fin 2 → IVec S16 32) a x).toNat < S8x4096.size a)
theorem k0_idx114_inb : ∀ (v616 : IVec S16 32) (v635 : IVec S16 32) (k0_hw114 : k0_chk114 v616 v635), ∀ a x, ((![v616, v635] : Fin 2 → IVec S16 32) a x).toNat < S8x4096.size a := fun v616 v635 k0_hw114 => k0_hw114

def k0_chk115 (v616 : IVec S16 32) (v639 : IVec S16 32) : Prop :=
  (∀ a x, ((![v616, v639] : Fin 2 → IVec S16 32) a x).toNat < S8x4096.size a)
theorem k0_idx115_inb : ∀ (v616 : IVec S16 32) (v639 : IVec S16 32) (k0_hw115 : k0_chk115 v616 v639), ∀ a x, ((![v616, v639] : Fin 2 → IVec S16 32) a x).toNat < S8x4096.size a := fun v616 v639 k0_hw115 => k0_hw115

def k0_chk116 (v616 : IVec S16 32) (v642 : IVec S16 32) : Prop :=
  (∀ a x, ((![v616, v642] : Fin 2 → IVec S16 32) a x).toNat < S8x4096.size a)
theorem k0_idx116_inb : ∀ (v616 : IVec S16 32) (v642 : IVec S16 32) (k0_hw116 : k0_chk116 v616 v642), ∀ a x, ((![v616, v642] : Fin 2 → IVec S16 32) a x).toNat < S8x4096.size a := fun v616 v642 k0_hw116 => k0_hw116

def k0_chk117 (v487 : IVec S16 32) (v616 : IVec S16 32) : Prop :=
  (∀ a x, ((![v616, v487] : Fin 2 → IVec S16 32) a x).toNat < S8x1024.size a)
theorem k0_idx117_inb : ∀ (v487 : IVec S16 32) (v616 : IVec S16 32) (k0_hw117 : k0_chk117 v487 v616), ∀ a x, ((![v616, v487] : Fin 2 → IVec S16 32) a x).toNat < S8x1024.size a := fun v487 v616 k0_hw117 => k0_hw117

def k0_chk118 (v648 : IVec S16 32) (v650 : IVec S16 32) : Prop :=
  (∀ a x, ((![v648, v650] : Fin 2 → IVec S16 32) a x).toNat < S8x4096.size a)
theorem k0_idx118_inb : ∀ (v648 : IVec S16 32) (v650 : IVec S16 32) (k0_hw118 : k0_chk118 v648 v650), ∀ a x, ((![v648, v650] : Fin 2 → IVec S16 32) a x).toNat < S8x4096.size a := fun v648 v650 k0_hw118 => k0_hw118

def k0_chk119 (v648 : IVec S16 32) (v653 : IVec S16 32) : Prop :=
  (∀ a x, ((![v648, v653] : Fin 2 → IVec S16 32) a x).toNat < S8x4096.size a)
theorem k0_idx119_inb : ∀ (v648 : IVec S16 32) (v653 : IVec S16 32) (k0_hw119 : k0_chk119 v648 v653), ∀ a x, ((![v648, v653] : Fin 2 → IVec S16 32) a x).toNat < S8x4096.size a := fun v648 v653 k0_hw119 => k0_hw119

def k0_chk120 (v648 : IVec S16 32) (v657 : IVec S16 32) : Prop :=
  (∀ a x, ((![v648, v657] : Fin 2 → IVec S16 32) a x).toNat < S8x4096.size a)
theorem k0_idx120_inb : ∀ (v648 : IVec S16 32) (v657 : IVec S16 32) (k0_hw120 : k0_chk120 v648 v657), ∀ a x, ((![v648, v657] : Fin 2 → IVec S16 32) a x).toNat < S8x4096.size a := fun v648 v657 k0_hw120 => k0_hw120

def k0_chk121 (v648 : IVec S16 32) (v660 : IVec S16 32) : Prop :=
  (∀ a x, ((![v648, v660] : Fin 2 → IVec S16 32) a x).toNat < S8x4096.size a)
theorem k0_idx121_inb : ∀ (v648 : IVec S16 32) (v660 : IVec S16 32) (k0_hw121 : k0_chk121 v648 v660), ∀ a x, ((![v648, v660] : Fin 2 → IVec S16 32) a x).toNat < S8x4096.size a := fun v648 v660 k0_hw121 => k0_hw121

def k0_chk122 (v648 : IVec S16 32) (v664 : IVec S16 32) : Prop :=
  (∀ a x, ((![v648, v664] : Fin 2 → IVec S16 32) a x).toNat < S8x4096.size a)
theorem k0_idx122_inb : ∀ (v648 : IVec S16 32) (v664 : IVec S16 32) (k0_hw122 : k0_chk122 v648 v664), ∀ a x, ((![v648, v664] : Fin 2 → IVec S16 32) a x).toNat < S8x4096.size a := fun v648 v664 k0_hw122 => k0_hw122

def k0_chk123 (v648 : IVec S16 32) (v667 : IVec S16 32) : Prop :=
  (∀ a x, ((![v648, v667] : Fin 2 → IVec S16 32) a x).toNat < S8x4096.size a)
theorem k0_idx123_inb : ∀ (v648 : IVec S16 32) (v667 : IVec S16 32) (k0_hw123 : k0_chk123 v648 v667), ∀ a x, ((![v648, v667] : Fin 2 → IVec S16 32) a x).toNat < S8x4096.size a := fun v648 v667 k0_hw123 => k0_hw123

def k0_chk124 (v648 : IVec S16 32) (v671 : IVec S16 32) : Prop :=
  (∀ a x, ((![v648, v671] : Fin 2 → IVec S16 32) a x).toNat < S8x4096.size a)
theorem k0_idx124_inb : ∀ (v648 : IVec S16 32) (v671 : IVec S16 32) (k0_hw124 : k0_chk124 v648 v671), ∀ a x, ((![v648, v671] : Fin 2 → IVec S16 32) a x).toNat < S8x4096.size a := fun v648 v671 k0_hw124 => k0_hw124

def k0_chk125 (v648 : IVec S16 32) (v674 : IVec S16 32) : Prop :=
  (∀ a x, ((![v648, v674] : Fin 2 → IVec S16 32) a x).toNat < S8x4096.size a)
theorem k0_idx125_inb : ∀ (v648 : IVec S16 32) (v674 : IVec S16 32) (k0_hw125 : k0_chk125 v648 v674), ∀ a x, ((![v648, v674] : Fin 2 → IVec S16 32) a x).toNat < S8x4096.size a := fun v648 v674 k0_hw125 => k0_hw125

def k0_chk126 (v487 : IVec S16 32) (v648 : IVec S16 32) : Prop :=
  (∀ a x, ((![v648, v487] : Fin 2 → IVec S16 32) a x).toNat < S8x1024.size a)
theorem k0_idx126_inb : ∀ (v487 : IVec S16 32) (v648 : IVec S16 32) (k0_hw126 : k0_chk126 v487 v648), ∀ a x, ((![v648, v487] : Fin 2 → IVec S16 32) a x).toNat < S8x1024.size a := fun v487 v648 k0_hw126 => k0_hw126

def k0_chk127 (v680 : IVec S16 32) (v682 : IVec S16 32) : Prop :=
  (∀ a x, ((![v680, v682] : Fin 2 → IVec S16 32) a x).toNat < S8x4096.size a)
theorem k0_idx127_inb : ∀ (v680 : IVec S16 32) (v682 : IVec S16 32) (k0_hw127 : k0_chk127 v680 v682), ∀ a x, ((![v680, v682] : Fin 2 → IVec S16 32) a x).toNat < S8x4096.size a := fun v680 v682 k0_hw127 => k0_hw127

def k0_chk128 (v680 : IVec S16 32) (v685 : IVec S16 32) : Prop :=
  (∀ a x, ((![v680, v685] : Fin 2 → IVec S16 32) a x).toNat < S8x4096.size a)
theorem k0_idx128_inb : ∀ (v680 : IVec S16 32) (v685 : IVec S16 32) (k0_hw128 : k0_chk128 v680 v685), ∀ a x, ((![v680, v685] : Fin 2 → IVec S16 32) a x).toNat < S8x4096.size a := fun v680 v685 k0_hw128 => k0_hw128

def k0_chk129 (v680 : IVec S16 32) (v689 : IVec S16 32) : Prop :=
  (∀ a x, ((![v680, v689] : Fin 2 → IVec S16 32) a x).toNat < S8x4096.size a)
theorem k0_idx129_inb : ∀ (v680 : IVec S16 32) (v689 : IVec S16 32) (k0_hw129 : k0_chk129 v680 v689), ∀ a x, ((![v680, v689] : Fin 2 → IVec S16 32) a x).toNat < S8x4096.size a := fun v680 v689 k0_hw129 => k0_hw129

def k0_chk130 (v680 : IVec S16 32) (v692 : IVec S16 32) : Prop :=
  (∀ a x, ((![v680, v692] : Fin 2 → IVec S16 32) a x).toNat < S8x4096.size a)
theorem k0_idx130_inb : ∀ (v680 : IVec S16 32) (v692 : IVec S16 32) (k0_hw130 : k0_chk130 v680 v692), ∀ a x, ((![v680, v692] : Fin 2 → IVec S16 32) a x).toNat < S8x4096.size a := fun v680 v692 k0_hw130 => k0_hw130

def k0_chk131 (v680 : IVec S16 32) (v696 : IVec S16 32) : Prop :=
  (∀ a x, ((![v680, v696] : Fin 2 → IVec S16 32) a x).toNat < S8x4096.size a)
theorem k0_idx131_inb : ∀ (v680 : IVec S16 32) (v696 : IVec S16 32) (k0_hw131 : k0_chk131 v680 v696), ∀ a x, ((![v680, v696] : Fin 2 → IVec S16 32) a x).toNat < S8x4096.size a := fun v680 v696 k0_hw131 => k0_hw131

def k0_chk132 (v680 : IVec S16 32) (v699 : IVec S16 32) : Prop :=
  (∀ a x, ((![v680, v699] : Fin 2 → IVec S16 32) a x).toNat < S8x4096.size a)
theorem k0_idx132_inb : ∀ (v680 : IVec S16 32) (v699 : IVec S16 32) (k0_hw132 : k0_chk132 v680 v699), ∀ a x, ((![v680, v699] : Fin 2 → IVec S16 32) a x).toNat < S8x4096.size a := fun v680 v699 k0_hw132 => k0_hw132

def k0_chk133 (v680 : IVec S16 32) (v703 : IVec S16 32) : Prop :=
  (∀ a x, ((![v680, v703] : Fin 2 → IVec S16 32) a x).toNat < S8x4096.size a)
theorem k0_idx133_inb : ∀ (v680 : IVec S16 32) (v703 : IVec S16 32) (k0_hw133 : k0_chk133 v680 v703), ∀ a x, ((![v680, v703] : Fin 2 → IVec S16 32) a x).toNat < S8x4096.size a := fun v680 v703 k0_hw133 => k0_hw133

def k0_chk134 (v680 : IVec S16 32) (v706 : IVec S16 32) : Prop :=
  (∀ a x, ((![v680, v706] : Fin 2 → IVec S16 32) a x).toNat < S8x4096.size a)
theorem k0_idx134_inb : ∀ (v680 : IVec S16 32) (v706 : IVec S16 32) (k0_hw134 : k0_chk134 v680 v706), ∀ a x, ((![v680, v706] : Fin 2 → IVec S16 32) a x).toNat < S8x4096.size a := fun v680 v706 k0_hw134 => k0_hw134

def k0_chk135 (v487 : IVec S16 32) (v680 : IVec S16 32) : Prop :=
  (∀ a x, ((![v680, v487] : Fin 2 → IVec S16 32) a x).toNat < S8x1024.size a)
theorem k0_idx135_inb : ∀ (v487 : IVec S16 32) (v680 : IVec S16 32) (k0_hw135 : k0_chk135 v487 v680), ∀ a x, ((![v680, v487] : Fin 2 → IVec S16 32) a x).toNat < S8x1024.size a := fun v487 v680 k0_hw135 => k0_hw135

def k0_chk136 (v712 : IVec S16 32) (v714 : IVec S16 32) : Prop :=
  (∀ a x, ((![v712, v714] : Fin 2 → IVec S16 32) a x).toNat < S8x4096.size a)
theorem k0_idx136_inb : ∀ (v712 : IVec S16 32) (v714 : IVec S16 32) (k0_hw136 : k0_chk136 v712 v714), ∀ a x, ((![v712, v714] : Fin 2 → IVec S16 32) a x).toNat < S8x4096.size a := fun v712 v714 k0_hw136 => k0_hw136

def k0_chk137 (v712 : IVec S16 32) (v717 : IVec S16 32) : Prop :=
  (∀ a x, ((![v712, v717] : Fin 2 → IVec S16 32) a x).toNat < S8x4096.size a)
theorem k0_idx137_inb : ∀ (v712 : IVec S16 32) (v717 : IVec S16 32) (k0_hw137 : k0_chk137 v712 v717), ∀ a x, ((![v712, v717] : Fin 2 → IVec S16 32) a x).toNat < S8x4096.size a := fun v712 v717 k0_hw137 => k0_hw137

def k0_chk138 (v712 : IVec S16 32) (v721 : IVec S16 32) : Prop :=
  (∀ a x, ((![v712, v721] : Fin 2 → IVec S16 32) a x).toNat < S8x4096.size a)
theorem k0_idx138_inb : ∀ (v712 : IVec S16 32) (v721 : IVec S16 32) (k0_hw138 : k0_chk138 v712 v721), ∀ a x, ((![v712, v721] : Fin 2 → IVec S16 32) a x).toNat < S8x4096.size a := fun v712 v721 k0_hw138 => k0_hw138

def k0_chk139 (v712 : IVec S16 32) (v724 : IVec S16 32) : Prop :=
  (∀ a x, ((![v712, v724] : Fin 2 → IVec S16 32) a x).toNat < S8x4096.size a)
theorem k0_idx139_inb : ∀ (v712 : IVec S16 32) (v724 : IVec S16 32) (k0_hw139 : k0_chk139 v712 v724), ∀ a x, ((![v712, v724] : Fin 2 → IVec S16 32) a x).toNat < S8x4096.size a := fun v712 v724 k0_hw139 => k0_hw139

def k0_chk140 (v712 : IVec S16 32) (v728 : IVec S16 32) : Prop :=
  (∀ a x, ((![v712, v728] : Fin 2 → IVec S16 32) a x).toNat < S8x4096.size a)
theorem k0_idx140_inb : ∀ (v712 : IVec S16 32) (v728 : IVec S16 32) (k0_hw140 : k0_chk140 v712 v728), ∀ a x, ((![v712, v728] : Fin 2 → IVec S16 32) a x).toNat < S8x4096.size a := fun v712 v728 k0_hw140 => k0_hw140

def k0_chk141 (v712 : IVec S16 32) (v731 : IVec S16 32) : Prop :=
  (∀ a x, ((![v712, v731] : Fin 2 → IVec S16 32) a x).toNat < S8x4096.size a)
theorem k0_idx141_inb : ∀ (v712 : IVec S16 32) (v731 : IVec S16 32) (k0_hw141 : k0_chk141 v712 v731), ∀ a x, ((![v712, v731] : Fin 2 → IVec S16 32) a x).toNat < S8x4096.size a := fun v712 v731 k0_hw141 => k0_hw141

def k0_chk142 (v712 : IVec S16 32) (v735 : IVec S16 32) : Prop :=
  (∀ a x, ((![v712, v735] : Fin 2 → IVec S16 32) a x).toNat < S8x4096.size a)
theorem k0_idx142_inb : ∀ (v712 : IVec S16 32) (v735 : IVec S16 32) (k0_hw142 : k0_chk142 v712 v735), ∀ a x, ((![v712, v735] : Fin 2 → IVec S16 32) a x).toNat < S8x4096.size a := fun v712 v735 k0_hw142 => k0_hw142

def k0_chk143 (v712 : IVec S16 32) (v738 : IVec S16 32) : Prop :=
  (∀ a x, ((![v712, v738] : Fin 2 → IVec S16 32) a x).toNat < S8x4096.size a)
theorem k0_idx143_inb : ∀ (v712 : IVec S16 32) (v738 : IVec S16 32) (k0_hw143 : k0_chk143 v712 v738), ∀ a x, ((![v712, v738] : Fin 2 → IVec S16 32) a x).toNat < S8x4096.size a := fun v712 v738 k0_hw143 => k0_hw143

def k0_chk144 (v487 : IVec S16 32) (v712 : IVec S16 32) : Prop :=
  (∀ a x, ((![v712, v487] : Fin 2 → IVec S16 32) a x).toNat < S8x1024.size a)
theorem k0_idx144_inb : ∀ (v487 : IVec S16 32) (v712 : IVec S16 32) (k0_hw144 : k0_chk144 v487 v712), ∀ a x, ((![v712, v487] : Fin 2 → IVec S16 32) a x).toNat < S8x1024.size a := fun v487 v712 k0_hw144 => k0_hw144
def k0_mult6 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_51 : BitVec 32 := 2#32
  let c0_i32_34 : BitVec 32 := 0#32
  let c1_i32_35 : BitVec 32 := 1#32
  let arg12 : BitVec 32 := Scf.iv c0_i32_34 c1_i32_35 k0_t2
  let v142 : BitVec 32 := Scalar.muli c2_i32_51 arg12
  let c0_i32_52 : BitVec 32 := 0#32
  let v143 : BitVec 32 := Scalar.addi v142 c0_i32_52
  let c4096_i32_59 : BitVec 32 := 4096#32
  let v153 : BitVec 32 := Scalar.muli v143 c4096_i32_59
  let v154 : BitVec 32 := Scalar.addi v31 v153
  let c0_i32_61 : BitVec 32 := 0#32
  let v156 : BitVec 1 := Scalar.cmpi .sgt v154 c0_i32_61
  let v157 : BitVec 32 := Scalar.extui v156
  let c0_i32_62 : BitVec 32 := 0#32
  let v158 : BitVec 1 := Scalar.cmpi .slt v154 c0_i32_62
  let v159 : BitVec 32 := Scalar.extui v158
  let v160 : BitVec 32 := Scalar.subi v157 v159
  let c4_i32_60 : BitVec 32 := 4#32
  let c0_i32_63 : BitVec 32 := 0#32
  let v161 : BitVec 1 := Scalar.cmpi .sgt c4_i32_60 c0_i32_63
  let v162 : BitVec 32 := Scalar.extui v161
  let c0_i32_64 : BitVec 32 := 0#32
  let v163 : BitVec 1 := Scalar.cmpi .slt c4_i32_60 c0_i32_64
  let v164 : BitVec 32 := Scalar.extui v163
  let v165 : BitVec 32 := Scalar.subi v162 v164
  let v166 : BitVec 1 := Scalar.cmpi .ne v160 v165
  let v167 : BitVec 32 := Scalar.remsi v154 c4_i32_60
  let c0_i32_65 : BitVec 32 := 0#32
  let v168 : BitVec 1 := Scalar.cmpi .ne v167 c0_i32_65
  let v169 : BitVec 1 := Scalar.andi v166 v168
  let v155 : BitVec 32 := Scalar.divsi v154 c4_i32_60
  let c1_i32_66 : BitVec 32 := 1#32
  let v170 : BitVec 32 := Scalar.subi v155 c1_i32_66
  let v171 : BitVec 32 := Scalar.select v169 v170 v155
  v171
def k0_off5 (i : grid0.Coords) (k0_t2 : Fin k0_t2_loop.trips) (c0_i32_52 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c8_i32 : BitVec 32 := 8#32
  let v29 : BitVec 32 := Scalar.muli v11 c8_i32
  let v30 : BitVec 32 := v29
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_51 : BitVec 32 := 2#32
  let c0_i32_34 : BitVec 32 := 0#32
  let c1_i32_35 : BitVec 32 := 1#32
  let arg12 : BitVec 32 := Scf.iv c0_i32_34 c1_i32_35 k0_t2
  let v142 : BitVec 32 := Scalar.muli c2_i32_51 arg12
  let v143 : BitVec 32 := Scalar.addi v142 c0_i32_52
  let c4096_i32_59 : BitVec 32 := 4096#32
  let v153 : BitVec 32 := Scalar.muli v143 c4096_i32_59
  let v154 : BitVec 32 := Scalar.addi v31 v153
  let c0_i32_61 : BitVec 32 := 0#32
  let v156 : BitVec 1 := Scalar.cmpi .sgt v154 c0_i32_61
  let v157 : BitVec 32 := Scalar.extui v156
  let c0_i32_62 : BitVec 32 := 0#32
  let v158 : BitVec 1 := Scalar.cmpi .slt v154 c0_i32_62
  let v159 : BitVec 32 := Scalar.extui v158
  let v160 : BitVec 32 := Scalar.subi v157 v159
  let c4_i32_60 : BitVec 32 := 4#32
  let c0_i32_63 : BitVec 32 := 0#32
  let v161 : BitVec 1 := Scalar.cmpi .sgt c4_i32_60 c0_i32_63
  let v162 : BitVec 32 := Scalar.extui v161
  let c0_i32_64 : BitVec 32 := 0#32
  let v163 : BitVec 1 := Scalar.cmpi .slt c4_i32_60 c0_i32_64
  let v164 : BitVec 32 := Scalar.extui v163
  let v165 : BitVec 32 := Scalar.subi v162 v164
  let v166 : BitVec 1 := Scalar.cmpi .ne v160 v165
  let v167 : BitVec 32 := Scalar.remsi v154 c4_i32_60
  let c0_i32_65 : BitVec 32 := 0#32
  let v168 : BitVec 1 := Scalar.cmpi .ne v167 c0_i32_65
  let v169 : BitVec 1 := Scalar.andi v166 v168
  let v155 : BitVec 32 := Scalar.divsi v154 c4_i32_60
  let c1_i32_66 : BitVec 32 := 1#32
  let v170 : BitVec 32 := Scalar.subi v155 c1_i32_66
  let v171 : BitVec 32 := Scalar.select v169 v170 v155
  let v172 : BitVec 32 := v171
  ![v30.toNat, v172.toNat]
def k0_cond2 (k0_t2 : Fin k0_t2_loop.trips) : BitVec 1 :=
  let c2_i32_51 : BitVec 32 := 2#32
  let c0_i32_34 : BitVec 32 := 0#32
  let c1_i32_35 : BitVec 32 := 1#32
  let arg12 : BitVec 32 := Scf.iv c0_i32_34 c1_i32_35 k0_t2
  let v142 : BitVec 32 := Scalar.muli c2_i32_51 arg12
  let c0_i32_52 : BitVec 32 := 0#32
  let v143 : BitVec 32 := Scalar.addi v142 c0_i32_52
  let c2_i32_67 : BitVec 32 := 2#32
  let v175 : BitVec 32 := Scalar.addi v143 c2_i32_67
  let c64_i32 : BitVec 32 := 64#32
  let v176 : BitVec 1 := Scalar.cmpi .slt v175 c64_i32
  let v177 : BitVec 32 := Scalar.extui v176
  let c0_i32_68 : BitVec 32 := 0#32
  let v178 : BitVec 1 := Scalar.cmpi .ne v177 c0_i32_68
  v178

def k0_mult7 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_51 : BitVec 32 := 2#32
  let c0_i32_34 : BitVec 32 := 0#32
  let c1_i32_35 : BitVec 32 := 1#32
  let arg12 : BitVec 32 := Scf.iv c0_i32_34 c1_i32_35 k0_t2
  let v142 : BitVec 32 := Scalar.muli c2_i32_51 arg12
  let c0_i32_52 : BitVec 32 := 0#32
  let v143 : BitVec 32 := Scalar.addi v142 c0_i32_52
  let c2_i32_89 : BitVec 32 := 2#32
  let v216 : BitVec 32 := Scalar.addi v143 c2_i32_89
  let c4096_i32_90 : BitVec 32 := 4096#32
  let v217 : BitVec 32 := Scalar.muli v216 c4096_i32_90
  let v218 : BitVec 32 := Scalar.addi v31 v217
  v218
def k0_off6 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c8_i32 : BitVec 32 := 8#32
  let v29 : BitVec 32 := Scalar.muli v11 c8_i32
  let v30 : BitVec 32 := v29
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_51 : BitVec 32 := 2#32
  let c0_i32_34 : BitVec 32 := 0#32
  let c1_i32_35 : BitVec 32 := 1#32
  let arg12 : BitVec 32 := Scf.iv c0_i32_34 c1_i32_35 k0_t2
  let v142 : BitVec 32 := Scalar.muli c2_i32_51 arg12
  let c0_i32_52 : BitVec 32 := 0#32
  let v143 : BitVec 32 := Scalar.addi v142 c0_i32_52
  let c2_i32_89 : BitVec 32 := 2#32
  let v216 : BitVec 32 := Scalar.addi v143 c2_i32_89
  let c4096_i32_90 : BitVec 32 := 4096#32
  let v217 : BitVec 32 := Scalar.muli v216 c4096_i32_90
  let v218 : BitVec 32 := Scalar.addi v31 v217
  let v219 : BitVec 32 := v218
  ![v30.toNat, v219.toNat]
def k0_mult8 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_69 : BitVec 32 := 2#32
  let c0_i32_34 : BitVec 32 := 0#32
  let c1_i32_35 : BitVec 32 := 1#32
  let arg12 : BitVec 32 := Scf.iv c0_i32_34 c1_i32_35 k0_t2
  let v179 : BitVec 32 := Scalar.muli c2_i32_69 arg12
  let c1_i32_70 : BitVec 32 := 1#32
  let v180 : BitVec 32 := Scalar.addi v179 c1_i32_70
  let c4096_i32_71 : BitVec 32 := 4096#32
  let v181 : BitVec 32 := Scalar.muli v180 c4096_i32_71
  let v182 : BitVec 32 := Scalar.addi v31 v181
  v182
def k0_cond3 (k0_t2 : Fin k0_t2_loop.trips) : BitVec 1 :=
  let c0_i32_34 : BitVec 32 := 0#32
  let c1_i32_35 : BitVec 32 := 1#32
  let arg12 : BitVec 32 := Scf.iv c0_i32_34 c1_i32_35 k0_t2
  let c1_i32_72 : BitVec 32 := 1#32
  let v186 : BitVec 1 := Scalar.cmpi .sge arg12 c1_i32_72
  let v187 : BitVec 32 := Scalar.extui v186
  let c0_i32_73 : BitVec 32 := 0#32
  let v188 : BitVec 1 := Scalar.cmpi .ne v187 c0_i32_73
  v188

def k0_mult9 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_69 : BitVec 32 := 2#32
  let c0_i32_34 : BitVec 32 := 0#32
  let c1_i32_35 : BitVec 32 := 1#32
  let arg12 : BitVec 32 := Scf.iv c0_i32_34 c1_i32_35 k0_t2
  let v179 : BitVec 32 := Scalar.muli c2_i32_69 arg12
  let c1_i32_70 : BitVec 32 := 1#32
  let v180 : BitVec 32 := Scalar.addi v179 c1_i32_70
  let c2_i32_89 : BitVec 32 := 2#32
  let v216 : BitVec 32 := Scalar.subi v180 c2_i32_89
  let c4096_i32_90 : BitVec 32 := 4096#32
  let v217 : BitVec 32 := Scalar.muli v216 c4096_i32_90
  let v218 : BitVec 32 := Scalar.addi v31 v217
  let c0_i32_92 : BitVec 32 := 0#32
  let v220 : BitVec 1 := Scalar.cmpi .sgt v218 c0_i32_92
  let v221 : BitVec 32 := Scalar.extui v220
  let c0_i32_93 : BitVec 32 := 0#32
  let v222 : BitVec 1 := Scalar.cmpi .slt v218 c0_i32_93
  let v223 : BitVec 32 := Scalar.extui v222
  let v224 : BitVec 32 := Scalar.subi v221 v223
  let c4_i32_91 : BitVec 32 := 4#32
  let c0_i32_94 : BitVec 32 := 0#32
  let v225 : BitVec 1 := Scalar.cmpi .sgt c4_i32_91 c0_i32_94
  let v226 : BitVec 32 := Scalar.extui v225
  let c0_i32_95 : BitVec 32 := 0#32
  let v227 : BitVec 1 := Scalar.cmpi .slt c4_i32_91 c0_i32_95
  let v228 : BitVec 32 := Scalar.extui v227
  let v229 : BitVec 32 := Scalar.subi v226 v228
  let v230 : BitVec 1 := Scalar.cmpi .ne v224 v229
  let v231 : BitVec 32 := Scalar.remsi v218 c4_i32_91
  let c0_i32_96 : BitVec 32 := 0#32
  let v232 : BitVec 1 := Scalar.cmpi .ne v231 c0_i32_96
  let v233 : BitVec 1 := Scalar.andi v230 v232
  let v219 : BitVec 32 := Scalar.divsi v218 c4_i32_91
  let c1_i32_97 : BitVec 32 := 1#32
  let v234 : BitVec 32 := Scalar.subi v219 c1_i32_97
  let v235 : BitVec 32 := Scalar.select v233 v234 v219
  v235
def k0_off7 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c8_i32 : BitVec 32 := 8#32
  let v29 : BitVec 32 := Scalar.muli v11 c8_i32
  let v30 : BitVec 32 := v29
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_69 : BitVec 32 := 2#32
  let c0_i32_34 : BitVec 32 := 0#32
  let c1_i32_35 : BitVec 32 := 1#32
  let arg12 : BitVec 32 := Scf.iv c0_i32_34 c1_i32_35 k0_t2
  let v179 : BitVec 32 := Scalar.muli c2_i32_69 arg12
  let c1_i32_70 : BitVec 32 := 1#32
  let v180 : BitVec 32 := Scalar.addi v179 c1_i32_70
  let c2_i32_89 : BitVec 32 := 2#32
  let v216 : BitVec 32 := Scalar.subi v180 c2_i32_89
  let c4096_i32_90 : BitVec 32 := 4096#32
  let v217 : BitVec 32 := Scalar.muli v216 c4096_i32_90
  let v218 : BitVec 32 := Scalar.addi v31 v217
  let c0_i32_92 : BitVec 32 := 0#32
  let v220 : BitVec 1 := Scalar.cmpi .sgt v218 c0_i32_92
  let v221 : BitVec 32 := Scalar.extui v220
  let c0_i32_93 : BitVec 32 := 0#32
  let v222 : BitVec 1 := Scalar.cmpi .slt v218 c0_i32_93
  let v223 : BitVec 32 := Scalar.extui v222
  let v224 : BitVec 32 := Scalar.subi v221 v223
  let c4_i32_91 : BitVec 32 := 4#32
  let c0_i32_94 : BitVec 32 := 0#32
  let v225 : BitVec 1 := Scalar.cmpi .sgt c4_i32_91 c0_i32_94
  let v226 : BitVec 32 := Scalar.extui v225
  let c0_i32_95 : BitVec 32 := 0#32
  let v227 : BitVec 1 := Scalar.cmpi .slt c4_i32_91 c0_i32_95
  let v228 : BitVec 32 := Scalar.extui v227
  let v229 : BitVec 32 := Scalar.subi v226 v228
  let v230 : BitVec 1 := Scalar.cmpi .ne v224 v229
  let v231 : BitVec 32 := Scalar.remsi v218 c4_i32_91
  let c0_i32_96 : BitVec 32 := 0#32
  let v232 : BitVec 1 := Scalar.cmpi .ne v231 c0_i32_96
  let v233 : BitVec 1 := Scalar.andi v230 v232
  let v219 : BitVec 32 := Scalar.divsi v218 c4_i32_91
  let c1_i32_97 : BitVec 32 := 1#32
  let v234 : BitVec 32 := Scalar.subi v219 c1_i32_97
  let v235 : BitVec 32 := Scalar.select v233 v234 v219
  let v236 : BitVec 32 := v235
  ![v30.toNat, v236.toNat]
@[reducible] def k0_t4_loop : Scf.Loop 32 :=
  let c0_i32_74 : BitVec 32 := 0#32
  let c16_i32_75 : BitVec 32 := 16#32
  let v189 : BitVec 32 := Scalar.addi c0_i32_74 c16_i32_75
  let c1_i32_76 : BitVec 32 := 1#32
  ⟨c0_i32_74, v189, c1_i32_76⟩

def k0_chk145 (v224 : IVec S16 32) (v226 : IVec S16 32) : Prop :=
  (∀ a x, ((![v224, v226] : Fin 2 → IVec S16 32) a x).toNat < S8x4096.size a)
theorem k0_idx145_inb : ∀ (v224 : IVec S16 32) (v226 : IVec S16 32) (k0_hw145 : k0_chk145 v224 v226), ∀ a x, ((![v224, v226] : Fin 2 → IVec S16 32) a x).toNat < S8x4096.size a := fun v224 v226 k0_hw145 => k0_hw145

def k0_chk146 (v224 : IVec S16 32) (v229 : IVec S16 32) : Prop :=
  (∀ a x, ((![v224, v229] : Fin 2 → IVec S16 32) a x).toNat < S8x4096.size a)
theorem k0_idx146_inb : ∀ (v224 : IVec S16 32) (v229 : IVec S16 32) (k0_hw146 : k0_chk146 v224 v229), ∀ a x, ((![v224, v229] : Fin 2 → IVec S16 32) a x).toNat < S8x4096.size a := fun v224 v229 k0_hw146 => k0_hw146

def k0_chk147 (v224 : IVec S16 32) (v233 : IVec S16 32) : Prop :=
  (∀ a x, ((![v224, v233] : Fin 2 → IVec S16 32) a x).toNat < S8x4096.size a)
theorem k0_idx147_inb : ∀ (v224 : IVec S16 32) (v233 : IVec S16 32) (k0_hw147 : k0_chk147 v224 v233), ∀ a x, ((![v224, v233] : Fin 2 → IVec S16 32) a x).toNat < S8x4096.size a := fun v224 v233 k0_hw147 => k0_hw147

def k0_chk148 (v224 : IVec S16 32) (v236 : IVec S16 32) : Prop :=
  (∀ a x, ((![v224, v236] : Fin 2 → IVec S16 32) a x).toNat < S8x4096.size a)
theorem k0_idx148_inb : ∀ (v224 : IVec S16 32) (v236 : IVec S16 32) (k0_hw148 : k0_chk148 v224 v236), ∀ a x, ((![v224, v236] : Fin 2 → IVec S16 32) a x).toNat < S8x4096.size a := fun v224 v236 k0_hw148 => k0_hw148

def k0_chk149 (v224 : IVec S16 32) (v240 : IVec S16 32) : Prop :=
  (∀ a x, ((![v224, v240] : Fin 2 → IVec S16 32) a x).toNat < S8x4096.size a)
theorem k0_idx149_inb : ∀ (v224 : IVec S16 32) (v240 : IVec S16 32) (k0_hw149 : k0_chk149 v224 v240), ∀ a x, ((![v224, v240] : Fin 2 → IVec S16 32) a x).toNat < S8x4096.size a := fun v224 v240 k0_hw149 => k0_hw149

def k0_chk150 (v224 : IVec S16 32) (v243 : IVec S16 32) : Prop :=
  (∀ a x, ((![v224, v243] : Fin 2 → IVec S16 32) a x).toNat < S8x4096.size a)
theorem k0_idx150_inb : ∀ (v224 : IVec S16 32) (v243 : IVec S16 32) (k0_hw150 : k0_chk150 v224 v243), ∀ a x, ((![v224, v243] : Fin 2 → IVec S16 32) a x).toNat < S8x4096.size a := fun v224 v243 k0_hw150 => k0_hw150

def k0_chk151 (v224 : IVec S16 32) (v247 : IVec S16 32) : Prop :=
  (∀ a x, ((![v224, v247] : Fin 2 → IVec S16 32) a x).toNat < S8x4096.size a)
theorem k0_idx151_inb : ∀ (v224 : IVec S16 32) (v247 : IVec S16 32) (k0_hw151 : k0_chk151 v224 v247), ∀ a x, ((![v224, v247] : Fin 2 → IVec S16 32) a x).toNat < S8x4096.size a := fun v224 v247 k0_hw151 => k0_hw151

def k0_chk152 (v224 : IVec S16 32) (v250 : IVec S16 32) : Prop :=
  (∀ a x, ((![v224, v250] : Fin 2 → IVec S16 32) a x).toNat < S8x4096.size a)
theorem k0_idx152_inb : ∀ (v224 : IVec S16 32) (v250 : IVec S16 32) (k0_hw152 : k0_chk152 v224 v250), ∀ a x, ((![v224, v250] : Fin 2 → IVec S16 32) a x).toNat < S8x4096.size a := fun v224 v250 k0_hw152 => k0_hw152

def k0_chk153 (v223 : IVec S16 32) (v224 : IVec S16 32) : Prop :=
  (∀ a x, ((![v224, v223] : Fin 2 → IVec S16 32) a x).toNat < S8x1024.size a)
theorem k0_idx153_inb : ∀ (v223 : IVec S16 32) (v224 : IVec S16 32) (k0_hw153 : k0_chk153 v223 v224), ∀ a x, ((![v224, v223] : Fin 2 → IVec S16 32) a x).toNat < S8x1024.size a := fun v223 v224 k0_hw153 => k0_hw153

def k0_chk154 (v256 : IVec S16 32) (v258 : IVec S16 32) : Prop :=
  (∀ a x, ((![v256, v258] : Fin 2 → IVec S16 32) a x).toNat < S8x4096.size a)
theorem k0_idx154_inb : ∀ (v256 : IVec S16 32) (v258 : IVec S16 32) (k0_hw154 : k0_chk154 v256 v258), ∀ a x, ((![v256, v258] : Fin 2 → IVec S16 32) a x).toNat < S8x4096.size a := fun v256 v258 k0_hw154 => k0_hw154

def k0_chk155 (v256 : IVec S16 32) (v261 : IVec S16 32) : Prop :=
  (∀ a x, ((![v256, v261] : Fin 2 → IVec S16 32) a x).toNat < S8x4096.size a)
theorem k0_idx155_inb : ∀ (v256 : IVec S16 32) (v261 : IVec S16 32) (k0_hw155 : k0_chk155 v256 v261), ∀ a x, ((![v256, v261] : Fin 2 → IVec S16 32) a x).toNat < S8x4096.size a := fun v256 v261 k0_hw155 => k0_hw155

def k0_chk156 (v256 : IVec S16 32) (v265 : IVec S16 32) : Prop :=
  (∀ a x, ((![v256, v265] : Fin 2 → IVec S16 32) a x).toNat < S8x4096.size a)
theorem k0_idx156_inb : ∀ (v256 : IVec S16 32) (v265 : IVec S16 32) (k0_hw156 : k0_chk156 v256 v265), ∀ a x, ((![v256, v265] : Fin 2 → IVec S16 32) a x).toNat < S8x4096.size a := fun v256 v265 k0_hw156 => k0_hw156

def k0_chk157 (v256 : IVec S16 32) (v268 : IVec S16 32) : Prop :=
  (∀ a x, ((![v256, v268] : Fin 2 → IVec S16 32) a x).toNat < S8x4096.size a)
theorem k0_idx157_inb : ∀ (v256 : IVec S16 32) (v268 : IVec S16 32) (k0_hw157 : k0_chk157 v256 v268), ∀ a x, ((![v256, v268] : Fin 2 → IVec S16 32) a x).toNat < S8x4096.size a := fun v256 v268 k0_hw157 => k0_hw157

def k0_chk158 (v256 : IVec S16 32) (v272 : IVec S16 32) : Prop :=
  (∀ a x, ((![v256, v272] : Fin 2 → IVec S16 32) a x).toNat < S8x4096.size a)
theorem k0_idx158_inb : ∀ (v256 : IVec S16 32) (v272 : IVec S16 32) (k0_hw158 : k0_chk158 v256 v272), ∀ a x, ((![v256, v272] : Fin 2 → IVec S16 32) a x).toNat < S8x4096.size a := fun v256 v272 k0_hw158 => k0_hw158

def k0_chk159 (v256 : IVec S16 32) (v275 : IVec S16 32) : Prop :=
  (∀ a x, ((![v256, v275] : Fin 2 → IVec S16 32) a x).toNat < S8x4096.size a)
theorem k0_idx159_inb : ∀ (v256 : IVec S16 32) (v275 : IVec S16 32) (k0_hw159 : k0_chk159 v256 v275), ∀ a x, ((![v256, v275] : Fin 2 → IVec S16 32) a x).toNat < S8x4096.size a := fun v256 v275 k0_hw159 => k0_hw159

def k0_chk160 (v256 : IVec S16 32) (v279 : IVec S16 32) : Prop :=
  (∀ a x, ((![v256, v279] : Fin 2 → IVec S16 32) a x).toNat < S8x4096.size a)
theorem k0_idx160_inb : ∀ (v256 : IVec S16 32) (v279 : IVec S16 32) (k0_hw160 : k0_chk160 v256 v279), ∀ a x, ((![v256, v279] : Fin 2 → IVec S16 32) a x).toNat < S8x4096.size a := fun v256 v279 k0_hw160 => k0_hw160

def k0_chk161 (v256 : IVec S16 32) (v282 : IVec S16 32) : Prop :=
  (∀ a x, ((![v256, v282] : Fin 2 → IVec S16 32) a x).toNat < S8x4096.size a)
theorem k0_idx161_inb : ∀ (v256 : IVec S16 32) (v282 : IVec S16 32) (k0_hw161 : k0_chk161 v256 v282), ∀ a x, ((![v256, v282] : Fin 2 → IVec S16 32) a x).toNat < S8x4096.size a := fun v256 v282 k0_hw161 => k0_hw161

def k0_chk162 (v223 : IVec S16 32) (v256 : IVec S16 32) : Prop :=
  (∀ a x, ((![v256, v223] : Fin 2 → IVec S16 32) a x).toNat < S8x1024.size a)
theorem k0_idx162_inb : ∀ (v223 : IVec S16 32) (v256 : IVec S16 32) (k0_hw162 : k0_chk162 v223 v256), ∀ a x, ((![v256, v223] : Fin 2 → IVec S16 32) a x).toNat < S8x1024.size a := fun v223 v256 k0_hw162 => k0_hw162

def k0_chk163 (v288 : IVec S16 32) (v290 : IVec S16 32) : Prop :=
  (∀ a x, ((![v288, v290] : Fin 2 → IVec S16 32) a x).toNat < S8x4096.size a)
theorem k0_idx163_inb : ∀ (v288 : IVec S16 32) (v290 : IVec S16 32) (k0_hw163 : k0_chk163 v288 v290), ∀ a x, ((![v288, v290] : Fin 2 → IVec S16 32) a x).toNat < S8x4096.size a := fun v288 v290 k0_hw163 => k0_hw163

def k0_chk164 (v288 : IVec S16 32) (v293 : IVec S16 32) : Prop :=
  (∀ a x, ((![v288, v293] : Fin 2 → IVec S16 32) a x).toNat < S8x4096.size a)
theorem k0_idx164_inb : ∀ (v288 : IVec S16 32) (v293 : IVec S16 32) (k0_hw164 : k0_chk164 v288 v293), ∀ a x, ((![v288, v293] : Fin 2 → IVec S16 32) a x).toNat < S8x4096.size a := fun v288 v293 k0_hw164 => k0_hw164

def k0_chk165 (v288 : IVec S16 32) (v297 : IVec S16 32) : Prop :=
  (∀ a x, ((![v288, v297] : Fin 2 → IVec S16 32) a x).toNat < S8x4096.size a)
theorem k0_idx165_inb : ∀ (v288 : IVec S16 32) (v297 : IVec S16 32) (k0_hw165 : k0_chk165 v288 v297), ∀ a x, ((![v288, v297] : Fin 2 → IVec S16 32) a x).toNat < S8x4096.size a := fun v288 v297 k0_hw165 => k0_hw165

def k0_chk166 (v288 : IVec S16 32) (v300 : IVec S16 32) : Prop :=
  (∀ a x, ((![v288, v300] : Fin 2 → IVec S16 32) a x).toNat < S8x4096.size a)
theorem k0_idx166_inb : ∀ (v288 : IVec S16 32) (v300 : IVec S16 32) (k0_hw166 : k0_chk166 v288 v300), ∀ a x, ((![v288, v300] : Fin 2 → IVec S16 32) a x).toNat < S8x4096.size a := fun v288 v300 k0_hw166 => k0_hw166

def k0_chk167 (v288 : IVec S16 32) (v304 : IVec S16 32) : Prop :=
  (∀ a x, ((![v288, v304] : Fin 2 → IVec S16 32) a x).toNat < S8x4096.size a)
theorem k0_idx167_inb : ∀ (v288 : IVec S16 32) (v304 : IVec S16 32) (k0_hw167 : k0_chk167 v288 v304), ∀ a x, ((![v288, v304] : Fin 2 → IVec S16 32) a x).toNat < S8x4096.size a := fun v288 v304 k0_hw167 => k0_hw167

def k0_chk168 (v288 : IVec S16 32) (v307 : IVec S16 32) : Prop :=
  (∀ a x, ((![v288, v307] : Fin 2 → IVec S16 32) a x).toNat < S8x4096.size a)
theorem k0_idx168_inb : ∀ (v288 : IVec S16 32) (v307 : IVec S16 32) (k0_hw168 : k0_chk168 v288 v307), ∀ a x, ((![v288, v307] : Fin 2 → IVec S16 32) a x).toNat < S8x4096.size a := fun v288 v307 k0_hw168 => k0_hw168

def k0_chk169 (v288 : IVec S16 32) (v311 : IVec S16 32) : Prop :=
  (∀ a x, ((![v288, v311] : Fin 2 → IVec S16 32) a x).toNat < S8x4096.size a)
theorem k0_idx169_inb : ∀ (v288 : IVec S16 32) (v311 : IVec S16 32) (k0_hw169 : k0_chk169 v288 v311), ∀ a x, ((![v288, v311] : Fin 2 → IVec S16 32) a x).toNat < S8x4096.size a := fun v288 v311 k0_hw169 => k0_hw169

def k0_chk170 (v288 : IVec S16 32) (v314 : IVec S16 32) : Prop :=
  (∀ a x, ((![v288, v314] : Fin 2 → IVec S16 32) a x).toNat < S8x4096.size a)
theorem k0_idx170_inb : ∀ (v288 : IVec S16 32) (v314 : IVec S16 32) (k0_hw170 : k0_chk170 v288 v314), ∀ a x, ((![v288, v314] : Fin 2 → IVec S16 32) a x).toNat < S8x4096.size a := fun v288 v314 k0_hw170 => k0_hw170

def k0_chk171 (v223 : IVec S16 32) (v288 : IVec S16 32) : Prop :=
  (∀ a x, ((![v288, v223] : Fin 2 → IVec S16 32) a x).toNat < S8x1024.size a)
theorem k0_idx171_inb : ∀ (v223 : IVec S16 32) (v288 : IVec S16 32) (k0_hw171 : k0_chk171 v223 v288), ∀ a x, ((![v288, v223] : Fin 2 → IVec S16 32) a x).toNat < S8x1024.size a := fun v223 v288 k0_hw171 => k0_hw171

def k0_chk172 (v320 : IVec S16 32) (v322 : IVec S16 32) : Prop :=
  (∀ a x, ((![v320, v322] : Fin 2 → IVec S16 32) a x).toNat < S8x4096.size a)
theorem k0_idx172_inb : ∀ (v320 : IVec S16 32) (v322 : IVec S16 32) (k0_hw172 : k0_chk172 v320 v322), ∀ a x, ((![v320, v322] : Fin 2 → IVec S16 32) a x).toNat < S8x4096.size a := fun v320 v322 k0_hw172 => k0_hw172

def k0_chk173 (v320 : IVec S16 32) (v325 : IVec S16 32) : Prop :=
  (∀ a x, ((![v320, v325] : Fin 2 → IVec S16 32) a x).toNat < S8x4096.size a)
theorem k0_idx173_inb : ∀ (v320 : IVec S16 32) (v325 : IVec S16 32) (k0_hw173 : k0_chk173 v320 v325), ∀ a x, ((![v320, v325] : Fin 2 → IVec S16 32) a x).toNat < S8x4096.size a := fun v320 v325 k0_hw173 => k0_hw173

def k0_chk174 (v320 : IVec S16 32) (v329 : IVec S16 32) : Prop :=
  (∀ a x, ((![v320, v329] : Fin 2 → IVec S16 32) a x).toNat < S8x4096.size a)
theorem k0_idx174_inb : ∀ (v320 : IVec S16 32) (v329 : IVec S16 32) (k0_hw174 : k0_chk174 v320 v329), ∀ a x, ((![v320, v329] : Fin 2 → IVec S16 32) a x).toNat < S8x4096.size a := fun v320 v329 k0_hw174 => k0_hw174

def k0_chk175 (v320 : IVec S16 32) (v332 : IVec S16 32) : Prop :=
  (∀ a x, ((![v320, v332] : Fin 2 → IVec S16 32) a x).toNat < S8x4096.size a)
theorem k0_idx175_inb : ∀ (v320 : IVec S16 32) (v332 : IVec S16 32) (k0_hw175 : k0_chk175 v320 v332), ∀ a x, ((![v320, v332] : Fin 2 → IVec S16 32) a x).toNat < S8x4096.size a := fun v320 v332 k0_hw175 => k0_hw175

def k0_chk176 (v320 : IVec S16 32) (v336 : IVec S16 32) : Prop :=
  (∀ a x, ((![v320, v336] : Fin 2 → IVec S16 32) a x).toNat < S8x4096.size a)
theorem k0_idx176_inb : ∀ (v320 : IVec S16 32) (v336 : IVec S16 32) (k0_hw176 : k0_chk176 v320 v336), ∀ a x, ((![v320, v336] : Fin 2 → IVec S16 32) a x).toNat < S8x4096.size a := fun v320 v336 k0_hw176 => k0_hw176

def k0_chk177 (v320 : IVec S16 32) (v339 : IVec S16 32) : Prop :=
  (∀ a x, ((![v320, v339] : Fin 2 → IVec S16 32) a x).toNat < S8x4096.size a)
theorem k0_idx177_inb : ∀ (v320 : IVec S16 32) (v339 : IVec S16 32) (k0_hw177 : k0_chk177 v320 v339), ∀ a x, ((![v320, v339] : Fin 2 → IVec S16 32) a x).toNat < S8x4096.size a := fun v320 v339 k0_hw177 => k0_hw177

def k0_chk178 (v320 : IVec S16 32) (v343 : IVec S16 32) : Prop :=
  (∀ a x, ((![v320, v343] : Fin 2 → IVec S16 32) a x).toNat < S8x4096.size a)
theorem k0_idx178_inb : ∀ (v320 : IVec S16 32) (v343 : IVec S16 32) (k0_hw178 : k0_chk178 v320 v343), ∀ a x, ((![v320, v343] : Fin 2 → IVec S16 32) a x).toNat < S8x4096.size a := fun v320 v343 k0_hw178 => k0_hw178

def k0_chk179 (v320 : IVec S16 32) (v346 : IVec S16 32) : Prop :=
  (∀ a x, ((![v320, v346] : Fin 2 → IVec S16 32) a x).toNat < S8x4096.size a)
theorem k0_idx179_inb : ∀ (v320 : IVec S16 32) (v346 : IVec S16 32) (k0_hw179 : k0_chk179 v320 v346), ∀ a x, ((![v320, v346] : Fin 2 → IVec S16 32) a x).toNat < S8x4096.size a := fun v320 v346 k0_hw179 => k0_hw179

def k0_chk180 (v223 : IVec S16 32) (v320 : IVec S16 32) : Prop :=
  (∀ a x, ((![v320, v223] : Fin 2 → IVec S16 32) a x).toNat < S8x1024.size a)
theorem k0_idx180_inb : ∀ (v223 : IVec S16 32) (v320 : IVec S16 32) (k0_hw180 : k0_chk180 v223 v320), ∀ a x, ((![v320, v223] : Fin 2 → IVec S16 32) a x).toNat < S8x1024.size a := fun v223 v320 k0_hw180 => k0_hw180

def k0_chk181 (v352 : IVec S16 32) (v354 : IVec S16 32) : Prop :=
  (∀ a x, ((![v352, v354] : Fin 2 → IVec S16 32) a x).toNat < S8x4096.size a)
theorem k0_idx181_inb : ∀ (v352 : IVec S16 32) (v354 : IVec S16 32) (k0_hw181 : k0_chk181 v352 v354), ∀ a x, ((![v352, v354] : Fin 2 → IVec S16 32) a x).toNat < S8x4096.size a := fun v352 v354 k0_hw181 => k0_hw181

def k0_chk182 (v352 : IVec S16 32) (v357 : IVec S16 32) : Prop :=
  (∀ a x, ((![v352, v357] : Fin 2 → IVec S16 32) a x).toNat < S8x4096.size a)
theorem k0_idx182_inb : ∀ (v352 : IVec S16 32) (v357 : IVec S16 32) (k0_hw182 : k0_chk182 v352 v357), ∀ a x, ((![v352, v357] : Fin 2 → IVec S16 32) a x).toNat < S8x4096.size a := fun v352 v357 k0_hw182 => k0_hw182

def k0_chk183 (v352 : IVec S16 32) (v361 : IVec S16 32) : Prop :=
  (∀ a x, ((![v352, v361] : Fin 2 → IVec S16 32) a x).toNat < S8x4096.size a)
theorem k0_idx183_inb : ∀ (v352 : IVec S16 32) (v361 : IVec S16 32) (k0_hw183 : k0_chk183 v352 v361), ∀ a x, ((![v352, v361] : Fin 2 → IVec S16 32) a x).toNat < S8x4096.size a := fun v352 v361 k0_hw183 => k0_hw183

def k0_chk184 (v352 : IVec S16 32) (v364 : IVec S16 32) : Prop :=
  (∀ a x, ((![v352, v364] : Fin 2 → IVec S16 32) a x).toNat < S8x4096.size a)
theorem k0_idx184_inb : ∀ (v352 : IVec S16 32) (v364 : IVec S16 32) (k0_hw184 : k0_chk184 v352 v364), ∀ a x, ((![v352, v364] : Fin 2 → IVec S16 32) a x).toNat < S8x4096.size a := fun v352 v364 k0_hw184 => k0_hw184

def k0_chk185 (v352 : IVec S16 32) (v368 : IVec S16 32) : Prop :=
  (∀ a x, ((![v352, v368] : Fin 2 → IVec S16 32) a x).toNat < S8x4096.size a)
theorem k0_idx185_inb : ∀ (v352 : IVec S16 32) (v368 : IVec S16 32) (k0_hw185 : k0_chk185 v352 v368), ∀ a x, ((![v352, v368] : Fin 2 → IVec S16 32) a x).toNat < S8x4096.size a := fun v352 v368 k0_hw185 => k0_hw185

def k0_chk186 (v352 : IVec S16 32) (v371 : IVec S16 32) : Prop :=
  (∀ a x, ((![v352, v371] : Fin 2 → IVec S16 32) a x).toNat < S8x4096.size a)
theorem k0_idx186_inb : ∀ (v352 : IVec S16 32) (v371 : IVec S16 32) (k0_hw186 : k0_chk186 v352 v371), ∀ a x, ((![v352, v371] : Fin 2 → IVec S16 32) a x).toNat < S8x4096.size a := fun v352 v371 k0_hw186 => k0_hw186

def k0_chk187 (v352 : IVec S16 32) (v375 : IVec S16 32) : Prop :=
  (∀ a x, ((![v352, v375] : Fin 2 → IVec S16 32) a x).toNat < S8x4096.size a)
theorem k0_idx187_inb : ∀ (v352 : IVec S16 32) (v375 : IVec S16 32) (k0_hw187 : k0_chk187 v352 v375), ∀ a x, ((![v352, v375] : Fin 2 → IVec S16 32) a x).toNat < S8x4096.size a := fun v352 v375 k0_hw187 => k0_hw187

def k0_chk188 (v352 : IVec S16 32) (v378 : IVec S16 32) : Prop :=
  (∀ a x, ((![v352, v378] : Fin 2 → IVec S16 32) a x).toNat < S8x4096.size a)
theorem k0_idx188_inb : ∀ (v352 : IVec S16 32) (v378 : IVec S16 32) (k0_hw188 : k0_chk188 v352 v378), ∀ a x, ((![v352, v378] : Fin 2 → IVec S16 32) a x).toNat < S8x4096.size a := fun v352 v378 k0_hw188 => k0_hw188

def k0_chk189 (v223 : IVec S16 32) (v352 : IVec S16 32) : Prop :=
  (∀ a x, ((![v352, v223] : Fin 2 → IVec S16 32) a x).toNat < S8x1024.size a)
theorem k0_idx189_inb : ∀ (v223 : IVec S16 32) (v352 : IVec S16 32) (k0_hw189 : k0_chk189 v223 v352), ∀ a x, ((![v352, v223] : Fin 2 → IVec S16 32) a x).toNat < S8x1024.size a := fun v223 v352 k0_hw189 => k0_hw189

def k0_chk190 (v384 : IVec S16 32) (v386 : IVec S16 32) : Prop :=
  (∀ a x, ((![v384, v386] : Fin 2 → IVec S16 32) a x).toNat < S8x4096.size a)
theorem k0_idx190_inb : ∀ (v384 : IVec S16 32) (v386 : IVec S16 32) (k0_hw190 : k0_chk190 v384 v386), ∀ a x, ((![v384, v386] : Fin 2 → IVec S16 32) a x).toNat < S8x4096.size a := fun v384 v386 k0_hw190 => k0_hw190

def k0_chk191 (v384 : IVec S16 32) (v389 : IVec S16 32) : Prop :=
  (∀ a x, ((![v384, v389] : Fin 2 → IVec S16 32) a x).toNat < S8x4096.size a)
theorem k0_idx191_inb : ∀ (v384 : IVec S16 32) (v389 : IVec S16 32) (k0_hw191 : k0_chk191 v384 v389), ∀ a x, ((![v384, v389] : Fin 2 → IVec S16 32) a x).toNat < S8x4096.size a := fun v384 v389 k0_hw191 => k0_hw191

def k0_chk192 (v384 : IVec S16 32) (v393 : IVec S16 32) : Prop :=
  (∀ a x, ((![v384, v393] : Fin 2 → IVec S16 32) a x).toNat < S8x4096.size a)
theorem k0_idx192_inb : ∀ (v384 : IVec S16 32) (v393 : IVec S16 32) (k0_hw192 : k0_chk192 v384 v393), ∀ a x, ((![v384, v393] : Fin 2 → IVec S16 32) a x).toNat < S8x4096.size a := fun v384 v393 k0_hw192 => k0_hw192

def k0_chk193 (v384 : IVec S16 32) (v396 : IVec S16 32) : Prop :=
  (∀ a x, ((![v384, v396] : Fin 2 → IVec S16 32) a x).toNat < S8x4096.size a)
theorem k0_idx193_inb : ∀ (v384 : IVec S16 32) (v396 : IVec S16 32) (k0_hw193 : k0_chk193 v384 v396), ∀ a x, ((![v384, v396] : Fin 2 → IVec S16 32) a x).toNat < S8x4096.size a := fun v384 v396 k0_hw193 => k0_hw193

def k0_chk194 (v384 : IVec S16 32) (v400 : IVec S16 32) : Prop :=
  (∀ a x, ((![v384, v400] : Fin 2 → IVec S16 32) a x).toNat < S8x4096.size a)
theorem k0_idx194_inb : ∀ (v384 : IVec S16 32) (v400 : IVec S16 32) (k0_hw194 : k0_chk194 v384 v400), ∀ a x, ((![v384, v400] : Fin 2 → IVec S16 32) a x).toNat < S8x4096.size a := fun v384 v400 k0_hw194 => k0_hw194

def k0_chk195 (v384 : IVec S16 32) (v403 : IVec S16 32) : Prop :=
  (∀ a x, ((![v384, v403] : Fin 2 → IVec S16 32) a x).toNat < S8x4096.size a)
theorem k0_idx195_inb : ∀ (v384 : IVec S16 32) (v403 : IVec S16 32) (k0_hw195 : k0_chk195 v384 v403), ∀ a x, ((![v384, v403] : Fin 2 → IVec S16 32) a x).toNat < S8x4096.size a := fun v384 v403 k0_hw195 => k0_hw195

def k0_chk196 (v384 : IVec S16 32) (v407 : IVec S16 32) : Prop :=
  (∀ a x, ((![v384, v407] : Fin 2 → IVec S16 32) a x).toNat < S8x4096.size a)
theorem k0_idx196_inb : ∀ (v384 : IVec S16 32) (v407 : IVec S16 32) (k0_hw196 : k0_chk196 v384 v407), ∀ a x, ((![v384, v407] : Fin 2 → IVec S16 32) a x).toNat < S8x4096.size a := fun v384 v407 k0_hw196 => k0_hw196

def k0_chk197 (v384 : IVec S16 32) (v410 : IVec S16 32) : Prop :=
  (∀ a x, ((![v384, v410] : Fin 2 → IVec S16 32) a x).toNat < S8x4096.size a)
theorem k0_idx197_inb : ∀ (v384 : IVec S16 32) (v410 : IVec S16 32) (k0_hw197 : k0_chk197 v384 v410), ∀ a x, ((![v384, v410] : Fin 2 → IVec S16 32) a x).toNat < S8x4096.size a := fun v384 v410 k0_hw197 => k0_hw197

def k0_chk198 (v223 : IVec S16 32) (v384 : IVec S16 32) : Prop :=
  (∀ a x, ((![v384, v223] : Fin 2 → IVec S16 32) a x).toNat < S8x1024.size a)
theorem k0_idx198_inb : ∀ (v223 : IVec S16 32) (v384 : IVec S16 32) (k0_hw198 : k0_chk198 v223 v384), ∀ a x, ((![v384, v223] : Fin 2 → IVec S16 32) a x).toNat < S8x1024.size a := fun v223 v384 k0_hw198 => k0_hw198

def k0_chk199 (v416 : IVec S16 32) (v418 : IVec S16 32) : Prop :=
  (∀ a x, ((![v416, v418] : Fin 2 → IVec S16 32) a x).toNat < S8x4096.size a)
theorem k0_idx199_inb : ∀ (v416 : IVec S16 32) (v418 : IVec S16 32) (k0_hw199 : k0_chk199 v416 v418), ∀ a x, ((![v416, v418] : Fin 2 → IVec S16 32) a x).toNat < S8x4096.size a := fun v416 v418 k0_hw199 => k0_hw199

def k0_chk200 (v416 : IVec S16 32) (v421 : IVec S16 32) : Prop :=
  (∀ a x, ((![v416, v421] : Fin 2 → IVec S16 32) a x).toNat < S8x4096.size a)
theorem k0_idx200_inb : ∀ (v416 : IVec S16 32) (v421 : IVec S16 32) (k0_hw200 : k0_chk200 v416 v421), ∀ a x, ((![v416, v421] : Fin 2 → IVec S16 32) a x).toNat < S8x4096.size a := fun v416 v421 k0_hw200 => k0_hw200

def k0_chk201 (v416 : IVec S16 32) (v425 : IVec S16 32) : Prop :=
  (∀ a x, ((![v416, v425] : Fin 2 → IVec S16 32) a x).toNat < S8x4096.size a)
theorem k0_idx201_inb : ∀ (v416 : IVec S16 32) (v425 : IVec S16 32) (k0_hw201 : k0_chk201 v416 v425), ∀ a x, ((![v416, v425] : Fin 2 → IVec S16 32) a x).toNat < S8x4096.size a := fun v416 v425 k0_hw201 => k0_hw201

def k0_chk202 (v416 : IVec S16 32) (v428 : IVec S16 32) : Prop :=
  (∀ a x, ((![v416, v428] : Fin 2 → IVec S16 32) a x).toNat < S8x4096.size a)
theorem k0_idx202_inb : ∀ (v416 : IVec S16 32) (v428 : IVec S16 32) (k0_hw202 : k0_chk202 v416 v428), ∀ a x, ((![v416, v428] : Fin 2 → IVec S16 32) a x).toNat < S8x4096.size a := fun v416 v428 k0_hw202 => k0_hw202

def k0_chk203 (v416 : IVec S16 32) (v432 : IVec S16 32) : Prop :=
  (∀ a x, ((![v416, v432] : Fin 2 → IVec S16 32) a x).toNat < S8x4096.size a)
theorem k0_idx203_inb : ∀ (v416 : IVec S16 32) (v432 : IVec S16 32) (k0_hw203 : k0_chk203 v416 v432), ∀ a x, ((![v416, v432] : Fin 2 → IVec S16 32) a x).toNat < S8x4096.size a := fun v416 v432 k0_hw203 => k0_hw203

def k0_chk204 (v416 : IVec S16 32) (v435 : IVec S16 32) : Prop :=
  (∀ a x, ((![v416, v435] : Fin 2 → IVec S16 32) a x).toNat < S8x4096.size a)
theorem k0_idx204_inb : ∀ (v416 : IVec S16 32) (v435 : IVec S16 32) (k0_hw204 : k0_chk204 v416 v435), ∀ a x, ((![v416, v435] : Fin 2 → IVec S16 32) a x).toNat < S8x4096.size a := fun v416 v435 k0_hw204 => k0_hw204

def k0_chk205 (v416 : IVec S16 32) (v439 : IVec S16 32) : Prop :=
  (∀ a x, ((![v416, v439] : Fin 2 → IVec S16 32) a x).toNat < S8x4096.size a)
theorem k0_idx205_inb : ∀ (v416 : IVec S16 32) (v439 : IVec S16 32) (k0_hw205 : k0_chk205 v416 v439), ∀ a x, ((![v416, v439] : Fin 2 → IVec S16 32) a x).toNat < S8x4096.size a := fun v416 v439 k0_hw205 => k0_hw205

def k0_chk206 (v416 : IVec S16 32) (v442 : IVec S16 32) : Prop :=
  (∀ a x, ((![v416, v442] : Fin 2 → IVec S16 32) a x).toNat < S8x4096.size a)
theorem k0_idx206_inb : ∀ (v416 : IVec S16 32) (v442 : IVec S16 32) (k0_hw206 : k0_chk206 v416 v442), ∀ a x, ((![v416, v442] : Fin 2 → IVec S16 32) a x).toNat < S8x4096.size a := fun v416 v442 k0_hw206 => k0_hw206

def k0_chk207 (v223 : IVec S16 32) (v416 : IVec S16 32) : Prop :=
  (∀ a x, ((![v416, v223] : Fin 2 → IVec S16 32) a x).toNat < S8x1024.size a)
theorem k0_idx207_inb : ∀ (v223 : IVec S16 32) (v416 : IVec S16 32) (k0_hw207 : k0_chk207 v223 v416), ∀ a x, ((![v416, v223] : Fin 2 → IVec S16 32) a x).toNat < S8x1024.size a := fun v223 v416 k0_hw207 => k0_hw207

def k0_chk208 (v448 : IVec S16 32) (v450 : IVec S16 32) : Prop :=
  (∀ a x, ((![v448, v450] : Fin 2 → IVec S16 32) a x).toNat < S8x4096.size a)
theorem k0_idx208_inb : ∀ (v448 : IVec S16 32) (v450 : IVec S16 32) (k0_hw208 : k0_chk208 v448 v450), ∀ a x, ((![v448, v450] : Fin 2 → IVec S16 32) a x).toNat < S8x4096.size a := fun v448 v450 k0_hw208 => k0_hw208

def k0_chk209 (v448 : IVec S16 32) (v453 : IVec S16 32) : Prop :=
  (∀ a x, ((![v448, v453] : Fin 2 → IVec S16 32) a x).toNat < S8x4096.size a)
theorem k0_idx209_inb : ∀ (v448 : IVec S16 32) (v453 : IVec S16 32) (k0_hw209 : k0_chk209 v448 v453), ∀ a x, ((![v448, v453] : Fin 2 → IVec S16 32) a x).toNat < S8x4096.size a := fun v448 v453 k0_hw209 => k0_hw209

def k0_chk210 (v448 : IVec S16 32) (v457 : IVec S16 32) : Prop :=
  (∀ a x, ((![v448, v457] : Fin 2 → IVec S16 32) a x).toNat < S8x4096.size a)
theorem k0_idx210_inb : ∀ (v448 : IVec S16 32) (v457 : IVec S16 32) (k0_hw210 : k0_chk210 v448 v457), ∀ a x, ((![v448, v457] : Fin 2 → IVec S16 32) a x).toNat < S8x4096.size a := fun v448 v457 k0_hw210 => k0_hw210

def k0_chk211 (v448 : IVec S16 32) (v460 : IVec S16 32) : Prop :=
  (∀ a x, ((![v448, v460] : Fin 2 → IVec S16 32) a x).toNat < S8x4096.size a)
theorem k0_idx211_inb : ∀ (v448 : IVec S16 32) (v460 : IVec S16 32) (k0_hw211 : k0_chk211 v448 v460), ∀ a x, ((![v448, v460] : Fin 2 → IVec S16 32) a x).toNat < S8x4096.size a := fun v448 v460 k0_hw211 => k0_hw211

def k0_chk212 (v448 : IVec S16 32) (v464 : IVec S16 32) : Prop :=
  (∀ a x, ((![v448, v464] : Fin 2 → IVec S16 32) a x).toNat < S8x4096.size a)
theorem k0_idx212_inb : ∀ (v448 : IVec S16 32) (v464 : IVec S16 32) (k0_hw212 : k0_chk212 v448 v464), ∀ a x, ((![v448, v464] : Fin 2 → IVec S16 32) a x).toNat < S8x4096.size a := fun v448 v464 k0_hw212 => k0_hw212

def k0_chk213 (v448 : IVec S16 32) (v467 : IVec S16 32) : Prop :=
  (∀ a x, ((![v448, v467] : Fin 2 → IVec S16 32) a x).toNat < S8x4096.size a)
theorem k0_idx213_inb : ∀ (v448 : IVec S16 32) (v467 : IVec S16 32) (k0_hw213 : k0_chk213 v448 v467), ∀ a x, ((![v448, v467] : Fin 2 → IVec S16 32) a x).toNat < S8x4096.size a := fun v448 v467 k0_hw213 => k0_hw213

def k0_chk214 (v448 : IVec S16 32) (v471 : IVec S16 32) : Prop :=
  (∀ a x, ((![v448, v471] : Fin 2 → IVec S16 32) a x).toNat < S8x4096.size a)
theorem k0_idx214_inb : ∀ (v448 : IVec S16 32) (v471 : IVec S16 32) (k0_hw214 : k0_chk214 v448 v471), ∀ a x, ((![v448, v471] : Fin 2 → IVec S16 32) a x).toNat < S8x4096.size a := fun v448 v471 k0_hw214 => k0_hw214

def k0_chk215 (v448 : IVec S16 32) (v474 : IVec S16 32) : Prop :=
  (∀ a x, ((![v448, v474] : Fin 2 → IVec S16 32) a x).toNat < S8x4096.size a)
theorem k0_idx215_inb : ∀ (v448 : IVec S16 32) (v474 : IVec S16 32) (k0_hw215 : k0_chk215 v448 v474), ∀ a x, ((![v448, v474] : Fin 2 → IVec S16 32) a x).toNat < S8x4096.size a := fun v448 v474 k0_hw215 => k0_hw215

def k0_chk216 (v223 : IVec S16 32) (v448 : IVec S16 32) : Prop :=
  (∀ a x, ((![v448, v223] : Fin 2 → IVec S16 32) a x).toNat < S8x1024.size a)
theorem k0_idx216_inb : ∀ (v223 : IVec S16 32) (v448 : IVec S16 32) (k0_hw216 : k0_chk216 v223 v448), ∀ a x, ((![v448, v223] : Fin 2 → IVec S16 32) a x).toNat < S8x1024.size a := fun v223 v448 k0_hw216 => k0_hw216

def k0_chk217 (v488 : IVec S16 32) (v490 : IVec S16 32) : Prop :=
  (∀ a x, ((![v488, v490] : Fin 2 → IVec S16 32) a x).toNat < S8x4096.size a)
theorem k0_idx217_inb : ∀ (v488 : IVec S16 32) (v490 : IVec S16 32) (k0_hw217 : k0_chk217 v488 v490), ∀ a x, ((![v488, v490] : Fin 2 → IVec S16 32) a x).toNat < S8x4096.size a := fun v488 v490 k0_hw217 => k0_hw217

def k0_chk218 (v488 : IVec S16 32) (v493 : IVec S16 32) : Prop :=
  (∀ a x, ((![v488, v493] : Fin 2 → IVec S16 32) a x).toNat < S8x4096.size a)
theorem k0_idx218_inb : ∀ (v488 : IVec S16 32) (v493 : IVec S16 32) (k0_hw218 : k0_chk218 v488 v493), ∀ a x, ((![v488, v493] : Fin 2 → IVec S16 32) a x).toNat < S8x4096.size a := fun v488 v493 k0_hw218 => k0_hw218

def k0_chk219 (v488 : IVec S16 32) (v497 : IVec S16 32) : Prop :=
  (∀ a x, ((![v488, v497] : Fin 2 → IVec S16 32) a x).toNat < S8x4096.size a)
theorem k0_idx219_inb : ∀ (v488 : IVec S16 32) (v497 : IVec S16 32) (k0_hw219 : k0_chk219 v488 v497), ∀ a x, ((![v488, v497] : Fin 2 → IVec S16 32) a x).toNat < S8x4096.size a := fun v488 v497 k0_hw219 => k0_hw219

def k0_chk220 (v488 : IVec S16 32) (v500 : IVec S16 32) : Prop :=
  (∀ a x, ((![v488, v500] : Fin 2 → IVec S16 32) a x).toNat < S8x4096.size a)
theorem k0_idx220_inb : ∀ (v488 : IVec S16 32) (v500 : IVec S16 32) (k0_hw220 : k0_chk220 v488 v500), ∀ a x, ((![v488, v500] : Fin 2 → IVec S16 32) a x).toNat < S8x4096.size a := fun v488 v500 k0_hw220 => k0_hw220

def k0_chk221 (v488 : IVec S16 32) (v504 : IVec S16 32) : Prop :=
  (∀ a x, ((![v488, v504] : Fin 2 → IVec S16 32) a x).toNat < S8x4096.size a)
theorem k0_idx221_inb : ∀ (v488 : IVec S16 32) (v504 : IVec S16 32) (k0_hw221 : k0_chk221 v488 v504), ∀ a x, ((![v488, v504] : Fin 2 → IVec S16 32) a x).toNat < S8x4096.size a := fun v488 v504 k0_hw221 => k0_hw221

def k0_chk222 (v488 : IVec S16 32) (v507 : IVec S16 32) : Prop :=
  (∀ a x, ((![v488, v507] : Fin 2 → IVec S16 32) a x).toNat < S8x4096.size a)
theorem k0_idx222_inb : ∀ (v488 : IVec S16 32) (v507 : IVec S16 32) (k0_hw222 : k0_chk222 v488 v507), ∀ a x, ((![v488, v507] : Fin 2 → IVec S16 32) a x).toNat < S8x4096.size a := fun v488 v507 k0_hw222 => k0_hw222

def k0_chk223 (v488 : IVec S16 32) (v511 : IVec S16 32) : Prop :=
  (∀ a x, ((![v488, v511] : Fin 2 → IVec S16 32) a x).toNat < S8x4096.size a)
theorem k0_idx223_inb : ∀ (v488 : IVec S16 32) (v511 : IVec S16 32) (k0_hw223 : k0_chk223 v488 v511), ∀ a x, ((![v488, v511] : Fin 2 → IVec S16 32) a x).toNat < S8x4096.size a := fun v488 v511 k0_hw223 => k0_hw223

def k0_chk224 (v488 : IVec S16 32) (v514 : IVec S16 32) : Prop :=
  (∀ a x, ((![v488, v514] : Fin 2 → IVec S16 32) a x).toNat < S8x4096.size a)
theorem k0_idx224_inb : ∀ (v488 : IVec S16 32) (v514 : IVec S16 32) (k0_hw224 : k0_chk224 v488 v514), ∀ a x, ((![v488, v514] : Fin 2 → IVec S16 32) a x).toNat < S8x4096.size a := fun v488 v514 k0_hw224 => k0_hw224

def k0_chk225 (v487 : IVec S16 32) (v488 : IVec S16 32) : Prop :=
  (∀ a x, ((![v488, v487] : Fin 2 → IVec S16 32) a x).toNat < S8x1024.size a)
theorem k0_idx225_inb : ∀ (v487 : IVec S16 32) (v488 : IVec S16 32) (k0_hw225 : k0_chk225 v487 v488), ∀ a x, ((![v488, v487] : Fin 2 → IVec S16 32) a x).toNat < S8x1024.size a := fun v487 v488 k0_hw225 => k0_hw225

def k0_chk226 (v520 : IVec S16 32) (v522 : IVec S16 32) : Prop :=
  (∀ a x, ((![v520, v522] : Fin 2 → IVec S16 32) a x).toNat < S8x4096.size a)
theorem k0_idx226_inb : ∀ (v520 : IVec S16 32) (v522 : IVec S16 32) (k0_hw226 : k0_chk226 v520 v522), ∀ a x, ((![v520, v522] : Fin 2 → IVec S16 32) a x).toNat < S8x4096.size a := fun v520 v522 k0_hw226 => k0_hw226

def k0_chk227 (v520 : IVec S16 32) (v525 : IVec S16 32) : Prop :=
  (∀ a x, ((![v520, v525] : Fin 2 → IVec S16 32) a x).toNat < S8x4096.size a)
theorem k0_idx227_inb : ∀ (v520 : IVec S16 32) (v525 : IVec S16 32) (k0_hw227 : k0_chk227 v520 v525), ∀ a x, ((![v520, v525] : Fin 2 → IVec S16 32) a x).toNat < S8x4096.size a := fun v520 v525 k0_hw227 => k0_hw227

def k0_chk228 (v520 : IVec S16 32) (v529 : IVec S16 32) : Prop :=
  (∀ a x, ((![v520, v529] : Fin 2 → IVec S16 32) a x).toNat < S8x4096.size a)
theorem k0_idx228_inb : ∀ (v520 : IVec S16 32) (v529 : IVec S16 32) (k0_hw228 : k0_chk228 v520 v529), ∀ a x, ((![v520, v529] : Fin 2 → IVec S16 32) a x).toNat < S8x4096.size a := fun v520 v529 k0_hw228 => k0_hw228

def k0_chk229 (v520 : IVec S16 32) (v532 : IVec S16 32) : Prop :=
  (∀ a x, ((![v520, v532] : Fin 2 → IVec S16 32) a x).toNat < S8x4096.size a)
theorem k0_idx229_inb : ∀ (v520 : IVec S16 32) (v532 : IVec S16 32) (k0_hw229 : k0_chk229 v520 v532), ∀ a x, ((![v520, v532] : Fin 2 → IVec S16 32) a x).toNat < S8x4096.size a := fun v520 v532 k0_hw229 => k0_hw229

def k0_chk230 (v520 : IVec S16 32) (v536 : IVec S16 32) : Prop :=
  (∀ a x, ((![v520, v536] : Fin 2 → IVec S16 32) a x).toNat < S8x4096.size a)
theorem k0_idx230_inb : ∀ (v520 : IVec S16 32) (v536 : IVec S16 32) (k0_hw230 : k0_chk230 v520 v536), ∀ a x, ((![v520, v536] : Fin 2 → IVec S16 32) a x).toNat < S8x4096.size a := fun v520 v536 k0_hw230 => k0_hw230

def k0_chk231 (v520 : IVec S16 32) (v539 : IVec S16 32) : Prop :=
  (∀ a x, ((![v520, v539] : Fin 2 → IVec S16 32) a x).toNat < S8x4096.size a)
theorem k0_idx231_inb : ∀ (v520 : IVec S16 32) (v539 : IVec S16 32) (k0_hw231 : k0_chk231 v520 v539), ∀ a x, ((![v520, v539] : Fin 2 → IVec S16 32) a x).toNat < S8x4096.size a := fun v520 v539 k0_hw231 => k0_hw231

def k0_chk232 (v520 : IVec S16 32) (v543 : IVec S16 32) : Prop :=
  (∀ a x, ((![v520, v543] : Fin 2 → IVec S16 32) a x).toNat < S8x4096.size a)
theorem k0_idx232_inb : ∀ (v520 : IVec S16 32) (v543 : IVec S16 32) (k0_hw232 : k0_chk232 v520 v543), ∀ a x, ((![v520, v543] : Fin 2 → IVec S16 32) a x).toNat < S8x4096.size a := fun v520 v543 k0_hw232 => k0_hw232

def k0_chk233 (v520 : IVec S16 32) (v546 : IVec S16 32) : Prop :=
  (∀ a x, ((![v520, v546] : Fin 2 → IVec S16 32) a x).toNat < S8x4096.size a)
theorem k0_idx233_inb : ∀ (v520 : IVec S16 32) (v546 : IVec S16 32) (k0_hw233 : k0_chk233 v520 v546), ∀ a x, ((![v520, v546] : Fin 2 → IVec S16 32) a x).toNat < S8x4096.size a := fun v520 v546 k0_hw233 => k0_hw233

def k0_chk234 (v487 : IVec S16 32) (v520 : IVec S16 32) : Prop :=
  (∀ a x, ((![v520, v487] : Fin 2 → IVec S16 32) a x).toNat < S8x1024.size a)
theorem k0_idx234_inb : ∀ (v487 : IVec S16 32) (v520 : IVec S16 32) (k0_hw234 : k0_chk234 v487 v520), ∀ a x, ((![v520, v487] : Fin 2 → IVec S16 32) a x).toNat < S8x1024.size a := fun v487 v520 k0_hw234 => k0_hw234

def k0_chk235 (v552 : IVec S16 32) (v554 : IVec S16 32) : Prop :=
  (∀ a x, ((![v552, v554] : Fin 2 → IVec S16 32) a x).toNat < S8x4096.size a)
theorem k0_idx235_inb : ∀ (v552 : IVec S16 32) (v554 : IVec S16 32) (k0_hw235 : k0_chk235 v552 v554), ∀ a x, ((![v552, v554] : Fin 2 → IVec S16 32) a x).toNat < S8x4096.size a := fun v552 v554 k0_hw235 => k0_hw235

def k0_chk236 (v552 : IVec S16 32) (v557 : IVec S16 32) : Prop :=
  (∀ a x, ((![v552, v557] : Fin 2 → IVec S16 32) a x).toNat < S8x4096.size a)
theorem k0_idx236_inb : ∀ (v552 : IVec S16 32) (v557 : IVec S16 32) (k0_hw236 : k0_chk236 v552 v557), ∀ a x, ((![v552, v557] : Fin 2 → IVec S16 32) a x).toNat < S8x4096.size a := fun v552 v557 k0_hw236 => k0_hw236

def k0_chk237 (v552 : IVec S16 32) (v561 : IVec S16 32) : Prop :=
  (∀ a x, ((![v552, v561] : Fin 2 → IVec S16 32) a x).toNat < S8x4096.size a)
theorem k0_idx237_inb : ∀ (v552 : IVec S16 32) (v561 : IVec S16 32) (k0_hw237 : k0_chk237 v552 v561), ∀ a x, ((![v552, v561] : Fin 2 → IVec S16 32) a x).toNat < S8x4096.size a := fun v552 v561 k0_hw237 => k0_hw237

def k0_chk238 (v552 : IVec S16 32) (v564 : IVec S16 32) : Prop :=
  (∀ a x, ((![v552, v564] : Fin 2 → IVec S16 32) a x).toNat < S8x4096.size a)
theorem k0_idx238_inb : ∀ (v552 : IVec S16 32) (v564 : IVec S16 32) (k0_hw238 : k0_chk238 v552 v564), ∀ a x, ((![v552, v564] : Fin 2 → IVec S16 32) a x).toNat < S8x4096.size a := fun v552 v564 k0_hw238 => k0_hw238

def k0_chk239 (v552 : IVec S16 32) (v568 : IVec S16 32) : Prop :=
  (∀ a x, ((![v552, v568] : Fin 2 → IVec S16 32) a x).toNat < S8x4096.size a)
theorem k0_idx239_inb : ∀ (v552 : IVec S16 32) (v568 : IVec S16 32) (k0_hw239 : k0_chk239 v552 v568), ∀ a x, ((![v552, v568] : Fin 2 → IVec S16 32) a x).toNat < S8x4096.size a := fun v552 v568 k0_hw239 => k0_hw239

def k0_chk240 (v552 : IVec S16 32) (v571 : IVec S16 32) : Prop :=
  (∀ a x, ((![v552, v571] : Fin 2 → IVec S16 32) a x).toNat < S8x4096.size a)
theorem k0_idx240_inb : ∀ (v552 : IVec S16 32) (v571 : IVec S16 32) (k0_hw240 : k0_chk240 v552 v571), ∀ a x, ((![v552, v571] : Fin 2 → IVec S16 32) a x).toNat < S8x4096.size a := fun v552 v571 k0_hw240 => k0_hw240

def k0_chk241 (v552 : IVec S16 32) (v575 : IVec S16 32) : Prop :=
  (∀ a x, ((![v552, v575] : Fin 2 → IVec S16 32) a x).toNat < S8x4096.size a)
theorem k0_idx241_inb : ∀ (v552 : IVec S16 32) (v575 : IVec S16 32) (k0_hw241 : k0_chk241 v552 v575), ∀ a x, ((![v552, v575] : Fin 2 → IVec S16 32) a x).toNat < S8x4096.size a := fun v552 v575 k0_hw241 => k0_hw241

def k0_chk242 (v552 : IVec S16 32) (v578 : IVec S16 32) : Prop :=
  (∀ a x, ((![v552, v578] : Fin 2 → IVec S16 32) a x).toNat < S8x4096.size a)
theorem k0_idx242_inb : ∀ (v552 : IVec S16 32) (v578 : IVec S16 32) (k0_hw242 : k0_chk242 v552 v578), ∀ a x, ((![v552, v578] : Fin 2 → IVec S16 32) a x).toNat < S8x4096.size a := fun v552 v578 k0_hw242 => k0_hw242

def k0_chk243 (v487 : IVec S16 32) (v552 : IVec S16 32) : Prop :=
  (∀ a x, ((![v552, v487] : Fin 2 → IVec S16 32) a x).toNat < S8x1024.size a)
theorem k0_idx243_inb : ∀ (v487 : IVec S16 32) (v552 : IVec S16 32) (k0_hw243 : k0_chk243 v487 v552), ∀ a x, ((![v552, v487] : Fin 2 → IVec S16 32) a x).toNat < S8x1024.size a := fun v487 v552 k0_hw243 => k0_hw243

def k0_chk244 (v584 : IVec S16 32) (v586 : IVec S16 32) : Prop :=
  (∀ a x, ((![v584, v586] : Fin 2 → IVec S16 32) a x).toNat < S8x4096.size a)
theorem k0_idx244_inb : ∀ (v584 : IVec S16 32) (v586 : IVec S16 32) (k0_hw244 : k0_chk244 v584 v586), ∀ a x, ((![v584, v586] : Fin 2 → IVec S16 32) a x).toNat < S8x4096.size a := fun v584 v586 k0_hw244 => k0_hw244

def k0_chk245 (v584 : IVec S16 32) (v589 : IVec S16 32) : Prop :=
  (∀ a x, ((![v584, v589] : Fin 2 → IVec S16 32) a x).toNat < S8x4096.size a)
theorem k0_idx245_inb : ∀ (v584 : IVec S16 32) (v589 : IVec S16 32) (k0_hw245 : k0_chk245 v584 v589), ∀ a x, ((![v584, v589] : Fin 2 → IVec S16 32) a x).toNat < S8x4096.size a := fun v584 v589 k0_hw245 => k0_hw245

def k0_chk246 (v584 : IVec S16 32) (v593 : IVec S16 32) : Prop :=
  (∀ a x, ((![v584, v593] : Fin 2 → IVec S16 32) a x).toNat < S8x4096.size a)
theorem k0_idx246_inb : ∀ (v584 : IVec S16 32) (v593 : IVec S16 32) (k0_hw246 : k0_chk246 v584 v593), ∀ a x, ((![v584, v593] : Fin 2 → IVec S16 32) a x).toNat < S8x4096.size a := fun v584 v593 k0_hw246 => k0_hw246

def k0_chk247 (v584 : IVec S16 32) (v596 : IVec S16 32) : Prop :=
  (∀ a x, ((![v584, v596] : Fin 2 → IVec S16 32) a x).toNat < S8x4096.size a)
theorem k0_idx247_inb : ∀ (v584 : IVec S16 32) (v596 : IVec S16 32) (k0_hw247 : k0_chk247 v584 v596), ∀ a x, ((![v584, v596] : Fin 2 → IVec S16 32) a x).toNat < S8x4096.size a := fun v584 v596 k0_hw247 => k0_hw247

def k0_chk248 (v584 : IVec S16 32) (v600 : IVec S16 32) : Prop :=
  (∀ a x, ((![v584, v600] : Fin 2 → IVec S16 32) a x).toNat < S8x4096.size a)
theorem k0_idx248_inb : ∀ (v584 : IVec S16 32) (v600 : IVec S16 32) (k0_hw248 : k0_chk248 v584 v600), ∀ a x, ((![v584, v600] : Fin 2 → IVec S16 32) a x).toNat < S8x4096.size a := fun v584 v600 k0_hw248 => k0_hw248

def k0_chk249 (v584 : IVec S16 32) (v603 : IVec S16 32) : Prop :=
  (∀ a x, ((![v584, v603] : Fin 2 → IVec S16 32) a x).toNat < S8x4096.size a)
theorem k0_idx249_inb : ∀ (v584 : IVec S16 32) (v603 : IVec S16 32) (k0_hw249 : k0_chk249 v584 v603), ∀ a x, ((![v584, v603] : Fin 2 → IVec S16 32) a x).toNat < S8x4096.size a := fun v584 v603 k0_hw249 => k0_hw249

def k0_chk250 (v584 : IVec S16 32) (v607 : IVec S16 32) : Prop :=
  (∀ a x, ((![v584, v607] : Fin 2 → IVec S16 32) a x).toNat < S8x4096.size a)
theorem k0_idx250_inb : ∀ (v584 : IVec S16 32) (v607 : IVec S16 32) (k0_hw250 : k0_chk250 v584 v607), ∀ a x, ((![v584, v607] : Fin 2 → IVec S16 32) a x).toNat < S8x4096.size a := fun v584 v607 k0_hw250 => k0_hw250

def k0_chk251 (v584 : IVec S16 32) (v610 : IVec S16 32) : Prop :=
  (∀ a x, ((![v584, v610] : Fin 2 → IVec S16 32) a x).toNat < S8x4096.size a)
theorem k0_idx251_inb : ∀ (v584 : IVec S16 32) (v610 : IVec S16 32) (k0_hw251 : k0_chk251 v584 v610), ∀ a x, ((![v584, v610] : Fin 2 → IVec S16 32) a x).toNat < S8x4096.size a := fun v584 v610 k0_hw251 => k0_hw251

def k0_chk252 (v487 : IVec S16 32) (v584 : IVec S16 32) : Prop :=
  (∀ a x, ((![v584, v487] : Fin 2 → IVec S16 32) a x).toNat < S8x1024.size a)
theorem k0_idx252_inb : ∀ (v487 : IVec S16 32) (v584 : IVec S16 32) (k0_hw252 : k0_chk252 v487 v584), ∀ a x, ((![v584, v487] : Fin 2 → IVec S16 32) a x).toNat < S8x1024.size a := fun v487 v584 k0_hw252 => k0_hw252

def k0_chk253 (v616 : IVec S16 32) (v618 : IVec S16 32) : Prop :=
  (∀ a x, ((![v616, v618] : Fin 2 → IVec S16 32) a x).toNat < S8x4096.size a)
theorem k0_idx253_inb : ∀ (v616 : IVec S16 32) (v618 : IVec S16 32) (k0_hw253 : k0_chk253 v616 v618), ∀ a x, ((![v616, v618] : Fin 2 → IVec S16 32) a x).toNat < S8x4096.size a := fun v616 v618 k0_hw253 => k0_hw253

def k0_chk254 (v616 : IVec S16 32) (v621 : IVec S16 32) : Prop :=
  (∀ a x, ((![v616, v621] : Fin 2 → IVec S16 32) a x).toNat < S8x4096.size a)
theorem k0_idx254_inb : ∀ (v616 : IVec S16 32) (v621 : IVec S16 32) (k0_hw254 : k0_chk254 v616 v621), ∀ a x, ((![v616, v621] : Fin 2 → IVec S16 32) a x).toNat < S8x4096.size a := fun v616 v621 k0_hw254 => k0_hw254

def k0_chk255 (v616 : IVec S16 32) (v625 : IVec S16 32) : Prop :=
  (∀ a x, ((![v616, v625] : Fin 2 → IVec S16 32) a x).toNat < S8x4096.size a)
theorem k0_idx255_inb : ∀ (v616 : IVec S16 32) (v625 : IVec S16 32) (k0_hw255 : k0_chk255 v616 v625), ∀ a x, ((![v616, v625] : Fin 2 → IVec S16 32) a x).toNat < S8x4096.size a := fun v616 v625 k0_hw255 => k0_hw255

def k0_chk256 (v616 : IVec S16 32) (v628 : IVec S16 32) : Prop :=
  (∀ a x, ((![v616, v628] : Fin 2 → IVec S16 32) a x).toNat < S8x4096.size a)
theorem k0_idx256_inb : ∀ (v616 : IVec S16 32) (v628 : IVec S16 32) (k0_hw256 : k0_chk256 v616 v628), ∀ a x, ((![v616, v628] : Fin 2 → IVec S16 32) a x).toNat < S8x4096.size a := fun v616 v628 k0_hw256 => k0_hw256

def k0_chk257 (v616 : IVec S16 32) (v632 : IVec S16 32) : Prop :=
  (∀ a x, ((![v616, v632] : Fin 2 → IVec S16 32) a x).toNat < S8x4096.size a)
theorem k0_idx257_inb : ∀ (v616 : IVec S16 32) (v632 : IVec S16 32) (k0_hw257 : k0_chk257 v616 v632), ∀ a x, ((![v616, v632] : Fin 2 → IVec S16 32) a x).toNat < S8x4096.size a := fun v616 v632 k0_hw257 => k0_hw257

def k0_chk258 (v616 : IVec S16 32) (v635 : IVec S16 32) : Prop :=
  (∀ a x, ((![v616, v635] : Fin 2 → IVec S16 32) a x).toNat < S8x4096.size a)
theorem k0_idx258_inb : ∀ (v616 : IVec S16 32) (v635 : IVec S16 32) (k0_hw258 : k0_chk258 v616 v635), ∀ a x, ((![v616, v635] : Fin 2 → IVec S16 32) a x).toNat < S8x4096.size a := fun v616 v635 k0_hw258 => k0_hw258

def k0_chk259 (v616 : IVec S16 32) (v639 : IVec S16 32) : Prop :=
  (∀ a x, ((![v616, v639] : Fin 2 → IVec S16 32) a x).toNat < S8x4096.size a)
theorem k0_idx259_inb : ∀ (v616 : IVec S16 32) (v639 : IVec S16 32) (k0_hw259 : k0_chk259 v616 v639), ∀ a x, ((![v616, v639] : Fin 2 → IVec S16 32) a x).toNat < S8x4096.size a := fun v616 v639 k0_hw259 => k0_hw259

def k0_chk260 (v616 : IVec S16 32) (v642 : IVec S16 32) : Prop :=
  (∀ a x, ((![v616, v642] : Fin 2 → IVec S16 32) a x).toNat < S8x4096.size a)
theorem k0_idx260_inb : ∀ (v616 : IVec S16 32) (v642 : IVec S16 32) (k0_hw260 : k0_chk260 v616 v642), ∀ a x, ((![v616, v642] : Fin 2 → IVec S16 32) a x).toNat < S8x4096.size a := fun v616 v642 k0_hw260 => k0_hw260

def k0_chk261 (v487 : IVec S16 32) (v616 : IVec S16 32) : Prop :=
  (∀ a x, ((![v616, v487] : Fin 2 → IVec S16 32) a x).toNat < S8x1024.size a)
theorem k0_idx261_inb : ∀ (v487 : IVec S16 32) (v616 : IVec S16 32) (k0_hw261 : k0_chk261 v487 v616), ∀ a x, ((![v616, v487] : Fin 2 → IVec S16 32) a x).toNat < S8x1024.size a := fun v487 v616 k0_hw261 => k0_hw261

def k0_chk262 (v648 : IVec S16 32) (v650 : IVec S16 32) : Prop :=
  (∀ a x, ((![v648, v650] : Fin 2 → IVec S16 32) a x).toNat < S8x4096.size a)
theorem k0_idx262_inb : ∀ (v648 : IVec S16 32) (v650 : IVec S16 32) (k0_hw262 : k0_chk262 v648 v650), ∀ a x, ((![v648, v650] : Fin 2 → IVec S16 32) a x).toNat < S8x4096.size a := fun v648 v650 k0_hw262 => k0_hw262

def k0_chk263 (v648 : IVec S16 32) (v653 : IVec S16 32) : Prop :=
  (∀ a x, ((![v648, v653] : Fin 2 → IVec S16 32) a x).toNat < S8x4096.size a)
theorem k0_idx263_inb : ∀ (v648 : IVec S16 32) (v653 : IVec S16 32) (k0_hw263 : k0_chk263 v648 v653), ∀ a x, ((![v648, v653] : Fin 2 → IVec S16 32) a x).toNat < S8x4096.size a := fun v648 v653 k0_hw263 => k0_hw263

def k0_chk264 (v648 : IVec S16 32) (v657 : IVec S16 32) : Prop :=
  (∀ a x, ((![v648, v657] : Fin 2 → IVec S16 32) a x).toNat < S8x4096.size a)
theorem k0_idx264_inb : ∀ (v648 : IVec S16 32) (v657 : IVec S16 32) (k0_hw264 : k0_chk264 v648 v657), ∀ a x, ((![v648, v657] : Fin 2 → IVec S16 32) a x).toNat < S8x4096.size a := fun v648 v657 k0_hw264 => k0_hw264

def k0_chk265 (v648 : IVec S16 32) (v660 : IVec S16 32) : Prop :=
  (∀ a x, ((![v648, v660] : Fin 2 → IVec S16 32) a x).toNat < S8x4096.size a)
theorem k0_idx265_inb : ∀ (v648 : IVec S16 32) (v660 : IVec S16 32) (k0_hw265 : k0_chk265 v648 v660), ∀ a x, ((![v648, v660] : Fin 2 → IVec S16 32) a x).toNat < S8x4096.size a := fun v648 v660 k0_hw265 => k0_hw265

def k0_chk266 (v648 : IVec S16 32) (v664 : IVec S16 32) : Prop :=
  (∀ a x, ((![v648, v664] : Fin 2 → IVec S16 32) a x).toNat < S8x4096.size a)
theorem k0_idx266_inb : ∀ (v648 : IVec S16 32) (v664 : IVec S16 32) (k0_hw266 : k0_chk266 v648 v664), ∀ a x, ((![v648, v664] : Fin 2 → IVec S16 32) a x).toNat < S8x4096.size a := fun v648 v664 k0_hw266 => k0_hw266

def k0_chk267 (v648 : IVec S16 32) (v667 : IVec S16 32) : Prop :=
  (∀ a x, ((![v648, v667] : Fin 2 → IVec S16 32) a x).toNat < S8x4096.size a)
theorem k0_idx267_inb : ∀ (v648 : IVec S16 32) (v667 : IVec S16 32) (k0_hw267 : k0_chk267 v648 v667), ∀ a x, ((![v648, v667] : Fin 2 → IVec S16 32) a x).toNat < S8x4096.size a := fun v648 v667 k0_hw267 => k0_hw267

def k0_chk268 (v648 : IVec S16 32) (v671 : IVec S16 32) : Prop :=
  (∀ a x, ((![v648, v671] : Fin 2 → IVec S16 32) a x).toNat < S8x4096.size a)
theorem k0_idx268_inb : ∀ (v648 : IVec S16 32) (v671 : IVec S16 32) (k0_hw268 : k0_chk268 v648 v671), ∀ a x, ((![v648, v671] : Fin 2 → IVec S16 32) a x).toNat < S8x4096.size a := fun v648 v671 k0_hw268 => k0_hw268

def k0_chk269 (v648 : IVec S16 32) (v674 : IVec S16 32) : Prop :=
  (∀ a x, ((![v648, v674] : Fin 2 → IVec S16 32) a x).toNat < S8x4096.size a)
theorem k0_idx269_inb : ∀ (v648 : IVec S16 32) (v674 : IVec S16 32) (k0_hw269 : k0_chk269 v648 v674), ∀ a x, ((![v648, v674] : Fin 2 → IVec S16 32) a x).toNat < S8x4096.size a := fun v648 v674 k0_hw269 => k0_hw269

def k0_chk270 (v487 : IVec S16 32) (v648 : IVec S16 32) : Prop :=
  (∀ a x, ((![v648, v487] : Fin 2 → IVec S16 32) a x).toNat < S8x1024.size a)
theorem k0_idx270_inb : ∀ (v487 : IVec S16 32) (v648 : IVec S16 32) (k0_hw270 : k0_chk270 v487 v648), ∀ a x, ((![v648, v487] : Fin 2 → IVec S16 32) a x).toNat < S8x1024.size a := fun v487 v648 k0_hw270 => k0_hw270

def k0_chk271 (v680 : IVec S16 32) (v682 : IVec S16 32) : Prop :=
  (∀ a x, ((![v680, v682] : Fin 2 → IVec S16 32) a x).toNat < S8x4096.size a)
theorem k0_idx271_inb : ∀ (v680 : IVec S16 32) (v682 : IVec S16 32) (k0_hw271 : k0_chk271 v680 v682), ∀ a x, ((![v680, v682] : Fin 2 → IVec S16 32) a x).toNat < S8x4096.size a := fun v680 v682 k0_hw271 => k0_hw271

def k0_chk272 (v680 : IVec S16 32) (v685 : IVec S16 32) : Prop :=
  (∀ a x, ((![v680, v685] : Fin 2 → IVec S16 32) a x).toNat < S8x4096.size a)
theorem k0_idx272_inb : ∀ (v680 : IVec S16 32) (v685 : IVec S16 32) (k0_hw272 : k0_chk272 v680 v685), ∀ a x, ((![v680, v685] : Fin 2 → IVec S16 32) a x).toNat < S8x4096.size a := fun v680 v685 k0_hw272 => k0_hw272

def k0_chk273 (v680 : IVec S16 32) (v689 : IVec S16 32) : Prop :=
  (∀ a x, ((![v680, v689] : Fin 2 → IVec S16 32) a x).toNat < S8x4096.size a)
theorem k0_idx273_inb : ∀ (v680 : IVec S16 32) (v689 : IVec S16 32) (k0_hw273 : k0_chk273 v680 v689), ∀ a x, ((![v680, v689] : Fin 2 → IVec S16 32) a x).toNat < S8x4096.size a := fun v680 v689 k0_hw273 => k0_hw273

def k0_chk274 (v680 : IVec S16 32) (v692 : IVec S16 32) : Prop :=
  (∀ a x, ((![v680, v692] : Fin 2 → IVec S16 32) a x).toNat < S8x4096.size a)
theorem k0_idx274_inb : ∀ (v680 : IVec S16 32) (v692 : IVec S16 32) (k0_hw274 : k0_chk274 v680 v692), ∀ a x, ((![v680, v692] : Fin 2 → IVec S16 32) a x).toNat < S8x4096.size a := fun v680 v692 k0_hw274 => k0_hw274

def k0_chk275 (v680 : IVec S16 32) (v696 : IVec S16 32) : Prop :=
  (∀ a x, ((![v680, v696] : Fin 2 → IVec S16 32) a x).toNat < S8x4096.size a)
theorem k0_idx275_inb : ∀ (v680 : IVec S16 32) (v696 : IVec S16 32) (k0_hw275 : k0_chk275 v680 v696), ∀ a x, ((![v680, v696] : Fin 2 → IVec S16 32) a x).toNat < S8x4096.size a := fun v680 v696 k0_hw275 => k0_hw275

def k0_chk276 (v680 : IVec S16 32) (v699 : IVec S16 32) : Prop :=
  (∀ a x, ((![v680, v699] : Fin 2 → IVec S16 32) a x).toNat < S8x4096.size a)
theorem k0_idx276_inb : ∀ (v680 : IVec S16 32) (v699 : IVec S16 32) (k0_hw276 : k0_chk276 v680 v699), ∀ a x, ((![v680, v699] : Fin 2 → IVec S16 32) a x).toNat < S8x4096.size a := fun v680 v699 k0_hw276 => k0_hw276

def k0_chk277 (v680 : IVec S16 32) (v703 : IVec S16 32) : Prop :=
  (∀ a x, ((![v680, v703] : Fin 2 → IVec S16 32) a x).toNat < S8x4096.size a)
theorem k0_idx277_inb : ∀ (v680 : IVec S16 32) (v703 : IVec S16 32) (k0_hw277 : k0_chk277 v680 v703), ∀ a x, ((![v680, v703] : Fin 2 → IVec S16 32) a x).toNat < S8x4096.size a := fun v680 v703 k0_hw277 => k0_hw277

def k0_chk278 (v680 : IVec S16 32) (v706 : IVec S16 32) : Prop :=
  (∀ a x, ((![v680, v706] : Fin 2 → IVec S16 32) a x).toNat < S8x4096.size a)
theorem k0_idx278_inb : ∀ (v680 : IVec S16 32) (v706 : IVec S16 32) (k0_hw278 : k0_chk278 v680 v706), ∀ a x, ((![v680, v706] : Fin 2 → IVec S16 32) a x).toNat < S8x4096.size a := fun v680 v706 k0_hw278 => k0_hw278

def k0_chk279 (v487 : IVec S16 32) (v680 : IVec S16 32) : Prop :=
  (∀ a x, ((![v680, v487] : Fin 2 → IVec S16 32) a x).toNat < S8x1024.size a)
theorem k0_idx279_inb : ∀ (v487 : IVec S16 32) (v680 : IVec S16 32) (k0_hw279 : k0_chk279 v487 v680), ∀ a x, ((![v680, v487] : Fin 2 → IVec S16 32) a x).toNat < S8x1024.size a := fun v487 v680 k0_hw279 => k0_hw279

def k0_chk280 (v712 : IVec S16 32) (v714 : IVec S16 32) : Prop :=
  (∀ a x, ((![v712, v714] : Fin 2 → IVec S16 32) a x).toNat < S8x4096.size a)
theorem k0_idx280_inb : ∀ (v712 : IVec S16 32) (v714 : IVec S16 32) (k0_hw280 : k0_chk280 v712 v714), ∀ a x, ((![v712, v714] : Fin 2 → IVec S16 32) a x).toNat < S8x4096.size a := fun v712 v714 k0_hw280 => k0_hw280

def k0_chk281 (v712 : IVec S16 32) (v717 : IVec S16 32) : Prop :=
  (∀ a x, ((![v712, v717] : Fin 2 → IVec S16 32) a x).toNat < S8x4096.size a)
theorem k0_idx281_inb : ∀ (v712 : IVec S16 32) (v717 : IVec S16 32) (k0_hw281 : k0_chk281 v712 v717), ∀ a x, ((![v712, v717] : Fin 2 → IVec S16 32) a x).toNat < S8x4096.size a := fun v712 v717 k0_hw281 => k0_hw281

def k0_chk282 (v712 : IVec S16 32) (v721 : IVec S16 32) : Prop :=
  (∀ a x, ((![v712, v721] : Fin 2 → IVec S16 32) a x).toNat < S8x4096.size a)
theorem k0_idx282_inb : ∀ (v712 : IVec S16 32) (v721 : IVec S16 32) (k0_hw282 : k0_chk282 v712 v721), ∀ a x, ((![v712, v721] : Fin 2 → IVec S16 32) a x).toNat < S8x4096.size a := fun v712 v721 k0_hw282 => k0_hw282

def k0_chk283 (v712 : IVec S16 32) (v724 : IVec S16 32) : Prop :=
  (∀ a x, ((![v712, v724] : Fin 2 → IVec S16 32) a x).toNat < S8x4096.size a)
theorem k0_idx283_inb : ∀ (v712 : IVec S16 32) (v724 : IVec S16 32) (k0_hw283 : k0_chk283 v712 v724), ∀ a x, ((![v712, v724] : Fin 2 → IVec S16 32) a x).toNat < S8x4096.size a := fun v712 v724 k0_hw283 => k0_hw283

def k0_chk284 (v712 : IVec S16 32) (v728 : IVec S16 32) : Prop :=
  (∀ a x, ((![v712, v728] : Fin 2 → IVec S16 32) a x).toNat < S8x4096.size a)
theorem k0_idx284_inb : ∀ (v712 : IVec S16 32) (v728 : IVec S16 32) (k0_hw284 : k0_chk284 v712 v728), ∀ a x, ((![v712, v728] : Fin 2 → IVec S16 32) a x).toNat < S8x4096.size a := fun v712 v728 k0_hw284 => k0_hw284

def k0_chk285 (v712 : IVec S16 32) (v731 : IVec S16 32) : Prop :=
  (∀ a x, ((![v712, v731] : Fin 2 → IVec S16 32) a x).toNat < S8x4096.size a)
theorem k0_idx285_inb : ∀ (v712 : IVec S16 32) (v731 : IVec S16 32) (k0_hw285 : k0_chk285 v712 v731), ∀ a x, ((![v712, v731] : Fin 2 → IVec S16 32) a x).toNat < S8x4096.size a := fun v712 v731 k0_hw285 => k0_hw285

def k0_chk286 (v712 : IVec S16 32) (v735 : IVec S16 32) : Prop :=
  (∀ a x, ((![v712, v735] : Fin 2 → IVec S16 32) a x).toNat < S8x4096.size a)
theorem k0_idx286_inb : ∀ (v712 : IVec S16 32) (v735 : IVec S16 32) (k0_hw286 : k0_chk286 v712 v735), ∀ a x, ((![v712, v735] : Fin 2 → IVec S16 32) a x).toNat < S8x4096.size a := fun v712 v735 k0_hw286 => k0_hw286

def k0_chk287 (v712 : IVec S16 32) (v738 : IVec S16 32) : Prop :=
  (∀ a x, ((![v712, v738] : Fin 2 → IVec S16 32) a x).toNat < S8x4096.size a)
theorem k0_idx287_inb : ∀ (v712 : IVec S16 32) (v738 : IVec S16 32) (k0_hw287 : k0_chk287 v712 v738), ∀ a x, ((![v712, v738] : Fin 2 → IVec S16 32) a x).toNat < S8x4096.size a := fun v712 v738 k0_hw287 => k0_hw287

def k0_chk288 (v487 : IVec S16 32) (v712 : IVec S16 32) : Prop :=
  (∀ a x, ((![v712, v487] : Fin 2 → IVec S16 32) a x).toNat < S8x1024.size a)
theorem k0_idx288_inb : ∀ (v487 : IVec S16 32) (v712 : IVec S16 32) (k0_hw288 : k0_chk288 v487 v712), ∀ a x, ((![v712, v487] : Fin 2 → IVec S16 32) a x).toNat < S8x1024.size a := fun v487 v712 k0_hw288 => k0_hw288
def k0_mult10 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_69 : BitVec 32 := 2#32
  let c0_i32_34 : BitVec 32 := 0#32
  let c1_i32_35 : BitVec 32 := 1#32
  let arg12 : BitVec 32 := Scf.iv c0_i32_34 c1_i32_35 k0_t2
  let v179 : BitVec 32 := Scalar.muli c2_i32_69 arg12
  let c1_i32_70 : BitVec 32 := 1#32
  let v180 : BitVec 32 := Scalar.addi v179 c1_i32_70
  let c4096_i32_78 : BitVec 32 := 4096#32
  let v190 : BitVec 32 := Scalar.muli v180 c4096_i32_78
  let v191 : BitVec 32 := Scalar.addi v31 v190
  let c0_i32_80 : BitVec 32 := 0#32
  let v193 : BitVec 1 := Scalar.cmpi .sgt v191 c0_i32_80
  let v194 : BitVec 32 := Scalar.extui v193
  let c0_i32_81 : BitVec 32 := 0#32
  let v195 : BitVec 1 := Scalar.cmpi .slt v191 c0_i32_81
  let v196 : BitVec 32 := Scalar.extui v195
  let v197 : BitVec 32 := Scalar.subi v194 v196
  let c4_i32_79 : BitVec 32 := 4#32
  let c0_i32_82 : BitVec 32 := 0#32
  let v198 : BitVec 1 := Scalar.cmpi .sgt c4_i32_79 c0_i32_82
  let v199 : BitVec 32 := Scalar.extui v198
  let c0_i32_83 : BitVec 32 := 0#32
  let v200 : BitVec 1 := Scalar.cmpi .slt c4_i32_79 c0_i32_83
  let v201 : BitVec 32 := Scalar.extui v200
  let v202 : BitVec 32 := Scalar.subi v199 v201
  let v203 : BitVec 1 := Scalar.cmpi .ne v197 v202
  let v204 : BitVec 32 := Scalar.remsi v191 c4_i32_79
  let c0_i32_84 : BitVec 32 := 0#32
  let v205 : BitVec 1 := Scalar.cmpi .ne v204 c0_i32_84
  let v206 : BitVec 1 := Scalar.andi v203 v205
  let v192 : BitVec 32 := Scalar.divsi v191 c4_i32_79
  let c1_i32_85 : BitVec 32 := 1#32
  let v207 : BitVec 32 := Scalar.subi v192 c1_i32_85
  let v208 : BitVec 32 := Scalar.select v206 v207 v192
  v208
def k0_cond4 (k0_t2 : Fin k0_t2_loop.trips) : BitVec 1 :=
  let c2_i32_69 : BitVec 32 := 2#32
  let c0_i32_34 : BitVec 32 := 0#32
  let c1_i32_35 : BitVec 32 := 1#32
  let arg12 : BitVec 32 := Scf.iv c0_i32_34 c1_i32_35 k0_t2
  let v179 : BitVec 32 := Scalar.muli c2_i32_69 arg12
  let c1_i32_70 : BitVec 32 := 1#32
  let v180 : BitVec 32 := Scalar.addi v179 c1_i32_70
  let c2_i32_86 : BitVec 32 := 2#32
  let v212 : BitVec 32 := Scalar.addi v180 c2_i32_86
  let c64_i32_87 : BitVec 32 := 64#32
  let v213 : BitVec 1 := Scalar.cmpi .slt v212 c64_i32_87
  let v214 : BitVec 32 := Scalar.extui v213
  let c0_i32_88 : BitVec 32 := 0#32
  let v215 : BitVec 1 := Scalar.cmpi .ne v214 c0_i32_88
  v215

def k0_mult11 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_69 : BitVec 32 := 2#32
  let c0_i32_34 : BitVec 32 := 0#32
  let c1_i32_35 : BitVec 32 := 1#32
  let arg12 : BitVec 32 := Scf.iv c0_i32_34 c1_i32_35 k0_t2
  let v179 : BitVec 32 := Scalar.muli c2_i32_69 arg12
  let c1_i32_70 : BitVec 32 := 1#32
  let v180 : BitVec 32 := Scalar.addi v179 c1_i32_70
  let c2_i32_89 : BitVec 32 := 2#32
  let v216 : BitVec 32 := Scalar.addi v180 c2_i32_89
  let c4096_i32_90 : BitVec 32 := 4096#32
  let v217 : BitVec 32 := Scalar.muli v216 c4096_i32_90
  let v218 : BitVec 32 := Scalar.addi v31 v217
  v218
def k0_off8 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c8_i32 : BitVec 32 := 8#32
  let v29 : BitVec 32 := Scalar.muli v11 c8_i32
  let v30 : BitVec 32 := v29
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c2_i32_69 : BitVec 32 := 2#32
  let c0_i32_34 : BitVec 32 := 0#32
  let c1_i32_35 : BitVec 32 := 1#32
  let arg12 : BitVec 32 := Scf.iv c0_i32_34 c1_i32_35 k0_t2
  let v179 : BitVec 32 := Scalar.muli c2_i32_69 arg12
  let c1_i32_70 : BitVec 32 := 1#32
  let v180 : BitVec 32 := Scalar.addi v179 c1_i32_70
  let c2_i32_89 : BitVec 32 := 2#32
  let v216 : BitVec 32 := Scalar.addi v180 c2_i32_89
  let c4096_i32_90 : BitVec 32 := 4096#32
  let v217 : BitVec 32 := Scalar.muli v216 c4096_i32_90
  let v218 : BitVec 32 := Scalar.addi v31 v217
  let v219 : BitVec 32 := v218
  ![v30.toNat, v219.toNat]
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c253952_i32 : BitVec 32 := 253952#32
  let v100 : BitVec 32 := Scalar.addi v31 c253952_i32
  let c0_i32_38 : BitVec 32 := 0#32
  let v102 : BitVec 1 := Scalar.cmpi .sgt v100 c0_i32_38
  let v103 : BitVec 32 := Scalar.extui v102
  let c0_i32_39 : BitVec 32 := 0#32
  let v104 : BitVec 1 := Scalar.cmpi .slt v100 c0_i32_39
  let v105 : BitVec 32 := Scalar.extui v104
  let v106 : BitVec 32 := Scalar.subi v103 v105
  let c4_i32_37 : BitVec 32 := 4#32
  let c0_i32_40 : BitVec 32 := 0#32
  let v107 : BitVec 1 := Scalar.cmpi .sgt c4_i32_37 c0_i32_40
  let v108 : BitVec 32 := Scalar.extui v107
  let c0_i32_41 : BitVec 32 := 0#32
  let v109 : BitVec 1 := Scalar.cmpi .slt c4_i32_37 c0_i32_41
  let v110 : BitVec 32 := Scalar.extui v109
  let v111 : BitVec 32 := Scalar.subi v108 v110
  let v112 : BitVec 1 := Scalar.cmpi .ne v106 v111
  let v113 : BitVec 32 := Scalar.remsi v100 c4_i32_37
  let c0_i32_42 : BitVec 32 := 0#32
  let v114 : BitVec 1 := Scalar.cmpi .ne v113 c0_i32_42
  let v115 : BitVec 1 := Scalar.andi v112 v114
  let v101 : BitVec 32 := Scalar.divsi v100 c4_i32_37
  let c1_i32_43 : BitVec 32 := 1#32
  let v116 : BitVec 32 := Scalar.subi v101 c1_i32_43
  let v117 : BitVec 32 := Scalar.select v115 v116 v101
  v117
def k0_off9 (i : grid0.Coords) (c253952_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c8_i32 : BitVec 32 := 8#32
  let v29 : BitVec 32 := Scalar.muli v11 c8_i32
  let v30 : BitVec 32 := v29
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let v100 : BitVec 32 := Scalar.addi v31 c253952_i32
  let c0_i32_38 : BitVec 32 := 0#32
  let v102 : BitVec 1 := Scalar.cmpi .sgt v100 c0_i32_38
  let v103 : BitVec 32 := Scalar.extui v102
  let c0_i32_39 : BitVec 32 := 0#32
  let v104 : BitVec 1 := Scalar.cmpi .slt v100 c0_i32_39
  let v105 : BitVec 32 := Scalar.extui v104
  let v106 : BitVec 32 := Scalar.subi v103 v105
  let c4_i32_37 : BitVec 32 := 4#32
  let c0_i32_40 : BitVec 32 := 0#32
  let v107 : BitVec 1 := Scalar.cmpi .sgt c4_i32_37 c0_i32_40
  let v108 : BitVec 32 := Scalar.extui v107
  let c0_i32_41 : BitVec 32 := 0#32
  let v109 : BitVec 1 := Scalar.cmpi .slt c4_i32_37 c0_i32_41
  let v110 : BitVec 32 := Scalar.extui v109
  let v111 : BitVec 32 := Scalar.subi v108 v110
  let v112 : BitVec 1 := Scalar.cmpi .ne v106 v111
  let v113 : BitVec 32 := Scalar.remsi v100 c4_i32_37
  let c0_i32_42 : BitVec 32 := 0#32
  let v114 : BitVec 1 := Scalar.cmpi .ne v113 c0_i32_42
  let v115 : BitVec 1 := Scalar.andi v112 v114
  let v101 : BitVec 32 := Scalar.divsi v100 c4_i32_37
  let c1_i32_43 : BitVec 32 := 1#32
  let v116 : BitVec 32 := Scalar.subi v101 c1_i32_43
  let v117 : BitVec 32 := Scalar.select v115 v116 v101
  let v118 : BitVec 32 := v117
  ![v30.toNat, v118.toNat]
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c262144_i32 : BitVec 32 := 262144#32
  let v31 : BitVec 32 := Scalar.muli v28 c262144_i32
  let c258048_i32 : BitVec 32 := 258048#32
  let v121 : BitVec 32 := Scalar.addi v31 c258048_i32
  let c0_i32_45 : BitVec 32 := 0#32
  let v123 : BitVec 1 := Scalar.cmpi .sgt v121 c0_i32_45
  let v124 : BitVec 32 := Scalar.extui v123
  let c0_i32_46 : BitVec 32 := 0#32
  let v125 : BitVec 1 := Scalar.cmpi .slt v121 c0_i32_46
  let v126 : BitVec 32 := Scalar.extui v125
  let v127 : BitVec 32 := Scalar.subi v124 v126
  let c4_i32_44 : BitVec 32 := 4#32
  let c0_i32_47 : BitVec 32 := 0#32
  let v128 : BitVec 1 := Scalar.cmpi .sgt c4_i32_44 c0_i32_47
  let v129 : BitVec 32 := Scalar.extui v128
  let c0_i32_48 : BitVec 32 := 0#32
  let v130 : BitVec 1 := Scalar.cmpi .slt c4_i32_44 c0_i32_48
  let v131 : BitVec 32 := Scalar.extui v130
  let v132 : BitVec 32 := Scalar.subi v129 v131
  let v133 : BitVec 1 := Scalar.cmpi .ne v127 v132
  let v134 : BitVec 32 := Scalar.remsi v121 c4_i32_44
  let c0_i32_49 : BitVec 32 := 0#32
  let v135 : BitVec 1 := Scalar.cmpi .ne v134 c0_i32_49
  let v136 : BitVec 1 := Scalar.andi v133 v135
  let v122 : BitVec 32 := Scalar.divsi v121 c4_i32_44
  let c1_i32_50 : BitVec 32 := 1#32
  let v137 : BitVec 32 := Scalar.subi v122 c1_i32_50
  let v138 : BitVec 32 := Scalar.select v136 v137 v122
  v138
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4194304x16 : Shape := ⟨2, ![4194304, 16]⟩
abbrev S1048576 : Shape := ⟨1, ![1048576]⟩
abbrev S_ : Shape := ⟨0, ![]⟩
abbrev S524288x8x16 : Shape := ⟨3, ![524288, 8, 16]⟩
abbrev S524288x16 : Shape := ⟨2, ![524288, 16]⟩
abbrev S524288 : Shape := ⟨1, ![524288]⟩
abbrev S1048576x1 : Shape := ⟨2, ![1048576, 1]⟩
abbrev S1 : Shape := ⟨1, ![1]⟩
abbrev S1048576x16 : Shape := ⟨2, ![1048576, 16]⟩
abbrev S524288x1 : Shape := ⟨2, ![524288, 1]⟩

abbrev nBuf : Space → Nat
  | .hbm => 113
  | .vmem => 0
  | .smem => 0
  | _ => 0

abbrev bufTy : (tb : Table) → Fin (tcTables nBuf tb) → BufTy
  | .hbm, ⟨0, _⟩ => ⟨S4194304x16, .f32⟩
  | .hbm, ⟨1, _⟩ => ⟨S1048576, .i32⟩
  | .hbm, ⟨2, _⟩ => ⟨S_, .i32⟩
  | .hbm, ⟨3, _⟩ => ⟨S524288x8x16, .f32⟩
  | .hbm, ⟨4, _⟩ => ⟨S_, .f32⟩
  | .hbm, ⟨5, _⟩ => ⟨S524288x16, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S_, .i32⟩
  | .hbm, ⟨15, _⟩ => ⟨S1048576, .i32⟩
  | .hbm, ⟨16, _⟩ => ⟨S1048576, .i1⟩
  | .hbm, ⟨17, _⟩ => ⟨S_, .i32⟩
  | .hbm, ⟨18, _⟩ => ⟨S1048576, .i32⟩
  | .hbm, ⟨19, _⟩ => ⟨S1048576, .i1⟩
  | .hbm, ⟨20, _⟩ => ⟨S_, .i32⟩
  | .hbm, ⟨21, _⟩ => ⟨S_, .i1⟩
  | .hbm, ⟨22, _⟩ => ⟨S1048576, .i1⟩
  | .hbm, ⟨23, _⟩ => ⟨S1048576, .i1⟩
  | .hbm, ⟨24, _⟩ => ⟨S1048576, .i1⟩
  | .hbm, ⟨25, _⟩ => ⟨S1048576, .i32⟩
  | .hbm, ⟨26, _⟩ => ⟨S1048576, .i32⟩
  | .hbm, ⟨27, _⟩ => ⟨S1048576, .i32⟩
  | .hbm, ⟨28, _⟩ => ⟨S_, .i32⟩
  | .hbm, ⟨29, _⟩ => ⟨S1048576, .i32⟩
  | .hbm, ⟨30, _⟩ => ⟨S1048576, .i1⟩
  | .hbm, ⟨31, _⟩ => ⟨S1048576, .i32⟩
  | .hbm, ⟨32, _⟩ => ⟨S_, .i32⟩
  | .hbm, ⟨33, _⟩ => ⟨S_, .i32⟩
  | .hbm, ⟨34, _⟩ => ⟨S1048576, .i32⟩
  | .hbm, ⟨35, _⟩ => ⟨S_, .i32⟩
  | .hbm, ⟨36, _⟩ => ⟨S524288, .i32⟩
  | .hbm, ⟨37, _⟩ => ⟨S_, .i32⟩
  | .hbm, ⟨38, _⟩ => ⟨S1048576, .i32⟩
  | .hbm, ⟨39, _⟩ => ⟨S1048576, .i1⟩
  | .hbm, ⟨40, _⟩ => ⟨S_, .i32⟩
  | .hbm, ⟨41, _⟩ => ⟨S1048576, .i32⟩
  | .hbm, ⟨42, _⟩ => ⟨S1048576, .i32⟩
  | .hbm, ⟨43, _⟩ => ⟨S1048576, .i32⟩
  | .hbm, ⟨44, _⟩ => ⟨S1048576x1, .i32⟩
  | .hbm, ⟨45, _⟩ => ⟨S_, .i32⟩
  | .hbm, ⟨46, _⟩ => ⟨S1048576, .i32⟩
  | .hbm, ⟨47, _⟩ => ⟨S524288, .i32⟩
  | .hbm, ⟨48, _⟩ => ⟨S_, .i32⟩
  | .hbm, ⟨49, _⟩ => ⟨S_, .i32⟩
  | .hbm, ⟨50, _⟩ => ⟨S524288, .i32⟩
  | .hbm, ⟨51, _⟩ => ⟨S_, .i32⟩
  | .hbm, ⟨52, _⟩ => ⟨S_, .i32⟩
  | .hbm, ⟨53, _⟩ => ⟨S524288, .i32⟩
  | .hbm, ⟨54, _⟩ => ⟨S524288, .i32⟩
  | .hbm, ⟨55, _⟩ => ⟨S524288, .i32⟩
  | .hbm, ⟨56, _⟩ => ⟨S_, .i32⟩
  | .hbm, ⟨57, _⟩ => ⟨S524288, .i32⟩
  | .hbm, ⟨58, _⟩ => ⟨S524288, .i1⟩
  | .hbm, ⟨59, _⟩ => ⟨S524288, .i32⟩
  | .hbm, ⟨60, _⟩ => ⟨S524288, .i32⟩
  | .hbm, ⟨61, _⟩ => ⟨S_, .i32⟩
  | .hbm, ⟨62, _⟩ => ⟨S524288, .i32⟩
  | .hbm, ⟨63, _⟩ => ⟨S524288, .i1⟩
  | .hbm, ⟨64, _⟩ => ⟨S524288, .i1⟩
  | .hbm, ⟨65, _⟩ => ⟨S_, .i32⟩
  | .hbm, ⟨66, _⟩ => ⟨S524288, .i32⟩
  | .hbm, ⟨67, _⟩ => ⟨S524288, .i32⟩
  | .hbm, ⟨68, _⟩ => ⟨S524288, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S524288, .i32⟩
  | .hbm, ⟨76, _⟩ => ⟨S524288, .i32⟩
  | .hbm, ⟨77, _⟩ => ⟨S_, .i32⟩
  | .hbm, ⟨78, _⟩ => ⟨S524288, .i32⟩
  | .hbm, ⟨79, _⟩ => ⟨S524288, .i1⟩
  | .hbm, ⟨80, _⟩ => ⟨S_, .i32⟩
  | .hbm, ⟨81, _⟩ => ⟨S524288, .i32⟩
  | .hbm, ⟨82, _⟩ => ⟨S524288, .i1⟩
  | .hbm, ⟨83, _⟩ => ⟨S_, .i32⟩
  | .hbm, ⟨84, _⟩ => ⟨S_, .i1⟩
  | .hbm, ⟨85, _⟩ => ⟨S524288, .i1⟩
  | .hbm, ⟨86, _⟩ => ⟨S524288, .i1⟩
  | .hbm, ⟨87, _⟩ => ⟨S524288, .i1⟩
  | .hbm, ⟨88, _⟩ => ⟨S524288, .i32⟩
  | .hbm, ⟨89, _⟩ => ⟨S524288, .i32⟩
  | .hbm, ⟨90, _⟩ => ⟨S524288, .i32⟩
  | .hbm, ⟨91, _⟩ => ⟨S1048576, .i32⟩
  | .hbm, ⟨92, _⟩ => ⟨S_, .i32⟩
  | .hbm, ⟨93, _⟩ => ⟨S_, .i32⟩
  | .hbm, ⟨94, _⟩ => ⟨S1, .i32⟩
  | .hbm, ⟨95, _⟩ => ⟨S524288, .i32⟩
  | .hbm, ⟨96, _⟩ => ⟨S524288, .i32⟩
  | .hbm, ⟨97, _⟩ => ⟨S524288, .i1⟩
  | .hbm, ⟨98, _⟩ => ⟨S_, .i32⟩
  | .hbm, ⟨99, _⟩ => ⟨S_, .i32⟩
  | .hbm, ⟨100, _⟩ => ⟨S524288, .i32⟩
  | .hbm, ⟨101, _⟩ => ⟨S524288, .i32⟩
  | .hbm, ⟨102, _⟩ => ⟨S_, .f32⟩
  | .hbm, ⟨103, _⟩ => ⟨S1048576x16, .f32⟩
  | .hbm, ⟨104, _⟩ => ⟨S_, .i32⟩
  | .hbm, ⟨105, _⟩ => ⟨S524288, .i32⟩
  | .hbm, ⟨106, _⟩ => ⟨S524288, .i1⟩
  | .hbm, ⟨107, _⟩ => ⟨S_, .i32⟩
  | .hbm, ⟨108, _⟩ => ⟨S524288, .i32⟩
  | .hbm, ⟨109, _⟩ => ⟨S524288, .i32⟩
  | .hbm, ⟨110, _⟩ => ⟨S524288, .i32⟩
  | .hbm, ⟨111, _⟩ => ⟨S524288x1, .i32⟩
  | .hbm, ⟨112, _⟩ => ⟨S1048576x16, .f32⟩
  | _, _ => ⟨S4194304x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_call1_v0 : Ref sig .tc := ⟨.hbm, 31, rfl⟩
abbrev main_call1_call0_c : Ref sig .tc := ⟨.hbm, 32, rfl⟩
abbrev main_call1_call0_v0 : Ref sig .tc := ⟨.hbm, 33, rfl⟩
abbrev main_v5 : Ref sig .tc := ⟨.hbm, 34, rfl⟩
abbrev main_c_1 : Ref sig .tc := ⟨.hbm, 35, rfl⟩
abbrev main_v6 : Ref sig .tc := ⟨.hbm, 36, rfl⟩
abbrev main_c_2 : Ref sig .tc := ⟨.hbm, 37, rfl⟩
abbrev main_v7 : Ref sig .tc := ⟨.hbm, 38, rfl⟩
abbrev main_v8 : Ref sig .tc := ⟨.hbm, 39, rfl⟩
abbrev main_c_3 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_c_4 : Ref sig .tc := ⟨.hbm, 45, rfl⟩
abbrev main_v13 : Ref sig .tc := ⟨.hbm, 46, rfl⟩
abbrev main_v14 : Ref sig .tc := ⟨.hbm, 47, rfl⟩
abbrev main_call2_call0_c : Ref sig .tc := ⟨.hbm, 48, rfl⟩
abbrev main_call2_call0_v0 : Ref sig .tc := ⟨.hbm, 49, rfl⟩
abbrev main_v15 : Ref sig .tc := ⟨.hbm, 50, rfl⟩
abbrev main_c_5 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_c : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_0 : Ref sig .tc := ⟨.hbm, 65, rfl⟩
abbrev main_call3_v12 : Ref sig .tc := ⟨.hbm, 66, rfl⟩
abbrev main_call3_v13 : Ref sig .tc := ⟨.hbm, 67, rfl⟩
abbrev main_v16 : Ref sig .tc := ⟨.hbm, 68, rfl⟩
abbrev main_c_6 : Ref sig .tc := ⟨.hbm, 69, rfl⟩
abbrev main_call4_v0 : Ref sig .tc := ⟨.hbm, 70, rfl⟩
abbrev main_call4_c : Ref sig .tc := ⟨.hbm, 71, rfl⟩
abbrev main_call4_v1 : Ref sig .tc := ⟨.hbm, 72, rfl⟩
abbrev main_call4_c_0 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_c_1 : Ref sig .tc := ⟨.hbm, 77, rfl⟩
abbrev main_call4_v5 : Ref sig .tc := ⟨.hbm, 78, rfl⟩
abbrev main_call4_v6 : Ref sig .tc := ⟨.hbm, 79, rfl⟩
abbrev main_call4_c_2 : Ref sig .tc := ⟨.hbm, 80, rfl⟩
abbrev main_call4_v7 : Ref sig .tc := ⟨.hbm, 81, rfl⟩
abbrev main_call4_v8 : Ref sig .tc := ⟨.hbm, 82, rfl⟩
abbrev main_call4_c_3 : Ref sig .tc := ⟨.hbm, 83, rfl⟩
abbrev main_call4_v9 : Ref sig .tc := ⟨.hbm, 84, rfl⟩
abbrev main_call4_v10 : Ref sig .tc := ⟨.hbm, 85, rfl⟩
abbrev main_call4_v11 : Ref sig .tc := ⟨.hbm, 86, rfl⟩
abbrev main_call4_v12 : Ref sig .tc := ⟨.hbm, 87, rfl⟩
abbrev main_call4_v13 : Ref sig .tc := ⟨.hbm, 88, rfl⟩
abbrev main_call4_v14 : Ref sig .tc := ⟨.hbm, 89, rfl⟩
abbrev main_v17 : Ref sig .tc := ⟨.hbm, 90, rfl⟩
abbrev main_v18 : Ref sig .tc := ⟨.hbm, 91, rfl⟩
abbrev main_c_7 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_c_8 : Ref sig .tc := ⟨.hbm, 98, rfl⟩
abbrev main_call5_v0 : Ref sig .tc := ⟨.hbm, 99, rfl⟩
abbrev main_call5_v1 : Ref sig .tc := ⟨.hbm, 100, rfl⟩
abbrev main_v24 : Ref sig .tc := ⟨.hbm, 101, rfl⟩
abbrev main_cst_9 : Ref sig .tc := ⟨.hbm, 102, rfl⟩
abbrev main_v25 : Ref sig .tc := ⟨.hbm, 103, rfl⟩
abbrev main_c_10 : Ref sig .tc := ⟨.hbm, 104, rfl⟩
abbrev main_v26 : Ref sig .tc := ⟨.hbm, 105, rfl⟩
abbrev main_v27 : Ref sig .tc := ⟨.hbm, 106, rfl⟩
abbrev main_c_11 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩

abbrev nD : Nat := 1
abbrev τ : Topo := Topo.v7x

variable {F : FTy → Type} [FloatOps F]
-- ==== Proof.Group.lean ====
/-
  One trip of the kernel's inner loop, said once. The printed body of the inner loop is the source's two nested
  Python loops unrolled: 2 vectors of 16 windows, 8 channels each, and for each of those sixteen GROUPS eight gathers
  (one per child) and a scatter of the maxima. `grp` is one such group, `trip` the sixteen in order; the two printed
  bodies (one per buffer) are `trip` at their own buffers by unfolding (`t3_eq_trip`, `t4_eq_trip`).
-/
module

public import proofs.«01_k».proof.Defs
public import proofs.«01_k».proof.Proof.Gen.KernelIdeal
public import proofs.«01_k».proof.Proof.Gen.KernelIdeal.Skeleton

@[expose] public section

noncomputable section

namespace Cert.Proof.Pool

open Cert.KernelIdeal Cert.KernelIdeal.Gen
open Idealize.ShloMosaic
open Idealize.SL.Sem

variable {F : FTy → Type} [FloatOps F]

/-- The larger of eight vectors, in the order the kernel takes it: neighbouring pairs, pairs of pairs, and the halves. -/
abbrev top8 (a b c d e f g h : FVec F S16 .f32) : FVec F S16 .f32 :=
  maximumf (maximumf (maximumf a b) (maximumf c d)) (maximumf (maximumf e f) (maximumf g h))

/-- The columns that the eight gathers of vector `u` read: the vector's first column beyond the offsets `g`. -/
abbrev colAt (u : BitVec 32) (g : IVec S16 32) : IVec S16 32 := addi (broadcast S16 (Scalar.muli u 128#32)) g

/-- The columns that vector `u`'s maxima go to: the even ones from `32 u` on. -/
abbrev outAt (v32 : IVec S16 32) (u : BitVec 32) : IVec S16 32 :=
  addi (broadcast S16 (Scalar.muli u 32#32)) (muli v32 (broadcast S16 2#32))

/-- Channel `ch` of vector `u`: eight gathers from row `ch` of `src`, the maxima scattered into row `ch` of `dst`. -/
def grp (i : grid0.Coords) (src : Memref sig .scVector .vmem S8x4096 .f32) (dst : Memref sig .scVector .vmem S8x1024 .f32)
    (v32 g0 g1 g2 g3 g4 g5 g6 g7 : IVec S16 32) (u ch : BitVec 32) :
    Prog (TpuEff nD τ sig (Elt F) Λ₀ (.scVector ((i 0).castLE hcore0) ((i 1).castLE hsub0))) PUnit := do
  have row : IVec S16 32 := broadcast S16 ch
  have hs := (← Prog.lift (TpuEff.assume (k0_chk9 (outAt v32 u) row) (k0_chk9.dec (outAt v32 u) row))).down
  have h0 := (← Prog.lift (TpuEff.assume (k0_chk1 row (colAt u g0)) (k0_chk1.dec row (colAt u g0)))).down
  let x0 ← SparseCore.vectorLoadIdx src ![row, colAt u g0] (k0_idx1_inb row (colAt u g0) h0) (View.loads_vmem h_S8x4096)
  have h1 := (← Prog.lift (TpuEff.assume (k0_chk1 row (colAt u g1)) (k0_chk1.dec row (colAt u g1)))).down
  let x1 ← SparseCore.vectorLoadIdx src ![row, colAt u g1] (k0_idx1_inb row (colAt u g1) h1) (View.loads_vmem h_S8x4096)
  have h2 := (← Prog.lift (TpuEff.assume (k0_chk1 row (colAt u g2)) (k0_chk1.dec row (colAt u g2)))).down
  let x2 ← SparseCore.vectorLoadIdx src ![row, colAt u g2] (k0_idx1_inb row (colAt u g2) h2) (View.loads_vmem h_S8x4096)
  have h3 := (← Prog.lift (TpuEff.assume (k0_chk1 row (colAt u g3)) (k0_chk1.dec row (colAt u g3)))).down
  let x3 ← SparseCore.vectorLoadIdx src ![row, colAt u g3] (k0_idx1_inb row (colAt u g3) h3) (View.loads_vmem h_S8x4096)
  have h4 := (← Prog.lift (TpuEff.assume (k0_chk1 row (colAt u g4)) (k0_chk1.dec row (colAt u g4)))).down
  let x4 ← SparseCore.vectorLoadIdx src ![row, colAt u g4] (k0_idx1_inb row (colAt u g4) h4) (View.loads_vmem h_S8x4096)
  have h5 := (← Prog.lift (TpuEff.assume (k0_chk1 row (colAt u g5)) (k0_chk1.dec row (colAt u g5)))).down
  let x5 ← SparseCore.vectorLoadIdx src ![row, colAt u g5] (k0_idx1_inb row (colAt u g5) h5) (View.loads_vmem h_S8x4096)
  have h6 := (← Prog.lift (TpuEff.assume (k0_chk1 row (colAt u g6)) (k0_chk1.dec row (colAt u g6)))).down
  let x6 ← SparseCore.vectorLoadIdx src ![row, colAt u g6] (k0_idx1_inb row (colAt u g6) h6) (View.loads_vmem h_S8x4096)
  have h7 := (← Prog.lift (TpuEff.assume (k0_chk1 row (colAt u g7)) (k0_chk1.dec row (colAt u g7)))).down
  let x7 ← SparseCore.vectorLoadIdx src ![row, colAt u g7] (k0_idx1_inb row (colAt u g7) h7) (View.loads_vmem h_S8x4096)
  SparseCore.vectorStoreIdx dst ![row, outAt v32 u] (top8 x0 x1 x2 x3 x4 x5 x6 x7) (fun _ => 1#1) false
    (k0_idx9_inb (outAt v32 u) row hs) (View.stores_vmem_bits_univ h_S8x1024 rfl)

/-- The groups of one trip `t`: vectors `2 t` and `2 t + 1`, the eight channels of each. -/
def trip (i : grid0.Coords) (src : Memref sig .scVector .vmem S8x4096 .f32) (dst : Memref sig .scVector .vmem S8x1024 .f32)
    (v32 g0 g1 g2 g3 g4 g5 g6 g7 : IVec S16 32) (t : BitVec 32) :
    Prog (TpuEff nD τ sig (Elt F) Λ₀ (.scVector ((i 0).castLE hcore0) ((i 1).castLE hsub0))) PUnit := do
  grp i src dst v32 g0 g1 g2 g3 g4 g5 g6 g7 (Scalar.addi (Scalar.muli t 2#32) 0#32) 0#32
  grp i src dst v32 g0 g1 g2 g3 g4 g5 g6 g7 (Scalar.addi (Scalar.muli t 2#32) 0#32) 1#32
  grp i src dst v32 g0 g1 g2 g3 g4 g5 g6 g7 (Scalar.addi (Scalar.muli t 2#32) 0#32) 2#32
  grp i src dst v32 g0 g1 g2 g3 g4 g5 g6 g7 (Scalar.addi (Scalar.muli t 2#32) 0#32) 3#32
  grp i src dst v32 g0 g1 g2 g3 g4 g5 g6 g7 (Scalar.addi (Scalar.muli t 2#32) 0#32) 4#32
  grp i src dst v32 g0 g1 g2 g3 g4 g5 g6 g7 (Scalar.addi (Scalar.muli t 2#32) 0#32) 5#32
  grp i src dst v32 g0 g1 g2 g3 g4 g5 g6 g7 (Scalar.addi (Scalar.muli t 2#32) 0#32) 6#32
  grp i src dst v32 g0 g1 g2 g3 g4 g5 g6 g7 (Scalar.addi (Scalar.muli t 2#32) 0#32) 7#32
  grp i src dst v32 g0 g1 g2 g3 g4 g5 g6 g7 (Scalar.addi (Scalar.muli t 2#32) 1#32) 0#32
  grp i src dst v32 g0 g1 g2 g3 g4 g5 g6 g7 (Scalar.addi (Scalar.muli t 2#32) 1#32) 1#32
  grp i src dst v32 g0 g1 g2 g3 g4 g5 g6 g7 (Scalar.addi (Scalar.muli t 2#32) 1#32) 2#32
  grp i src dst v32 g0 g1 g2 g3 g4 g5 g6 g7 (Scalar.addi (Scalar.muli t 2#32) 1#32) 3#32
  grp i src dst v32 g0 g1 g2 g3 g4 g5 g6 g7 (Scalar.addi (Scalar.muli t 2#32) 1#32) 4#32
  grp i src dst v32 g0 g1 g2 g3 g4 g5 g6 g7 (Scalar.addi (Scalar.muli t 2#32) 1#32) 5#32
  grp i src dst v32 g0 g1 g2 g3 g4 g5 g6 g7 (Scalar.addi (Scalar.muli t 2#32) 1#32) 6#32
  grp i src dst v32 g0 g1 g2 g3 g4 g5 g6 g7 (Scalar.addi (Scalar.muli t 2#32) 1#32) 7#32

section

variable (i : grid0.Coords) (a2 : Memref sig .scVector .hbm S16x4194304 .f32) (h2 : a2.IsWhole) (a3 : Memref sig .scVector .hbm S16x1048576 .f32)
  (h3 : a3.IsWhole) (a4 : Memref sig .scVector .vmem S8x4096 .f32) (h4 : a4.IsWhole) (a5 : Memref sig .scVector .vmem S8x4096 .f32) (h5 : a5.IsWhole)
  (a6 : Memref sig .scVector .vmem S8x1024 .f32) (h6 : a6.IsWhole) (a7 : Memref sig .scVector .vmem S8x1024 .f32) (h7 : a7.IsWhole)
  (a8 a9 a10 a11 : DmaSems sig S_) (v31 : BitVec 32) (v32 g0 g1 g2 g3 g4 g5 g6 g7 : IVec S16 32)

set_option maxRecDepth 65536 in
set_option maxHeartbeats 4000000 in
/-- The even buffer's inner loop does `trip` from its input buffer into its output buffer. -/
theorem t3_eq_trip (b0 b1 : BitVec 32) (t2 : Fin k0_t2_loop.trips) (t : Fin k0_t3_loop.trips) (w : Unit) :
    k0_t3_body (F := F) i a2 h2 a3 h3 a4 h4 a5 h5 a6 h6 a7 h7 a8 a9 a10 a11 v31 v32 g0 g1 g2 g3 g4 g5 g6 g7 b0 b1 t2 t w
      = trip i a4 a6 v32 g0 g1 g2 g3 g4 g5 g6 g7 (Scf.iv 0#32 1#32 t) := rfl

set_option maxRecDepth 65536 in
set_option maxHeartbeats 4000000 in
/-- The odd buffer's inner loop likewise. -/
theorem t4_eq_trip (b0 b1 b2 : BitVec 32) (t2 : Fin k0_t2_loop.trips) (t : Fin k0_t4_loop.trips) (w : Unit) :
    k0_t4_body (F := F) i a2 h2 a3 h3 a4 h4 a5 h5 a6 h6 a7 h7 a8 a9 a10 a11 v31 v32 g0 g1 g2 g3 g4 g5 g6 g7 t2 b0 b1 b2 t w
      = trip i a5 a7 v32 g0 g1 g2 g3 g4 g5 g6 g7 (Scf.iv 0#32 1#32 t) := rfl

end

end Cert.Proof.Pool

end
-- ==== Proof.Chunks.lean ====
/-
  The whole of a tile's program, said over the pieces of `Group.lean`: a trip of the double-buffered pipeline is two
  CHUNKS, one per buffer (`t2_eq_chunks`), and the kernel is the two first fetches, the loop that clears the output buffers,
  the pipeline, and the two last waits (`kernel_eq`).
-/
module

public import proofs.«01_k».proof.Proof.Group

@[expose] public section

noncomputable section

namespace Cert.Proof.Pool

open Cert.KernelIdeal Cert.KernelIdeal.Gen
open Idealize.ShloMosaic
open Idealize.SL.Sem

variable {F : FTy → Type} [FloatOps F]

/-! ## One chunk of the pipeline -/

/-- What one buffer does with its chunk: wait for the chunk `cur` to have come into `src`; where a store of an earlier chunk is
    still on its way (`c1`), wait for it; pool `src` into `dst`; start storing `dst` as `new`; where chunks are left (`c2`),
    start fetching the next into `src`. -/
def chunk (i : grid0.Coords) (src : Memref sig .scVector .vmem S8x4096 .f32) (hsrc : src.IsWhole) (dst : Memref sig .scVector .vmem S8x1024 .f32)
    (hdst : dst.IsWhole) (sin sout : DmaSems sig S_) (v32 g0 g1 g2 g3 g4 g5 g6 g7 : IVec S16 32)
    (cur : Memref sig .scVector .hbm S8x4096 .f32) (c1 : Prop) [Decidable c1] (old : c1 → Memref sig .scVector .hbm S8x1024 .f32)
    (new : Memref sig .scVector .hbm S8x1024 .f32) (c2 : Prop) [Decidable c2] (nxt : c2 → Memref sig .scVector .hbm S8x4096 .f32) :
    Prog (TpuEff nD τ sig (Elt F) Λ₀ (.scVector ((i 0).castLE hcore0) ((i 1).castLE hsub0))) PUnit := do
  Prog.lift (.waitDma2 sin.sem cur src (View.wordExact_bits rfl) hsrc.wordExact)
  if h : c1 then
    Prog.lift (.waitDma2 sout.sem dst (old h) hdst.wordExact (View.wordExact_bits rfl))
  else pure ⟨⟩
  Scf.Loop.for k0_t3_loop k0_t3_ok () fun t _ =>
    (trip i src dst v32 g0 g1 g2 g3 g4 g5 g6 g7 (Scf.iv 0#32 1#32 t) : Prog _ Unit)
  Prog.lift (.enqueueDma dst (.here new) (.dma sout.sem) hdst.wordExact (View.wordExact_bits rfl) ⟨Or.inl rfl, trivial⟩)
  if h : c2 then
    Prog.lift (.enqueueDma (nxt h) (.here src) (.dma sin.sem) (View.wordExact_bits rfl) hsrc.wordExact ⟨Or.inl rfl, trivial⟩)
  else pure ⟨⟩

section

variable (i : grid0.Coords) (a2 : Memref sig .scVector .hbm S16x4194304 .f32) (h2 : a2.IsWhole) (a3 : Memref sig .scVector .hbm S16x1048576 .f32)
  (h3 : a3.IsWhole) (a4 : Memref sig .scVector .vmem S8x4096 .f32) (h4 : a4.IsWhole) (a5 : Memref sig .scVector .vmem S8x4096 .f32) (h5 : a5.IsWhole)
  (a6 : Memref sig .scVector .vmem S8x1024 .f32) (h6 : a6.IsWhole) (a7 : Memref sig .scVector .vmem S8x1024 .f32) (h7 : a7.IsWhole)
  (a8 a9 a10 a11 : DmaSems sig S_) (v31 : BitVec 32) (v32 : IVec S16 32) (v33 : FVec F S16 .f32) (g0 g1 g2 g3 g4 g5 g6 g7 : IVec S16 32)

set_option maxRecDepth 65536 in
/-- One trip of the pipeline: the even buffer's chunk, then the odd buffer's. -/
theorem t2_eq_chunks (v77 v79 : IVec S16 32) (c7 : BitVec 32) (t : Fin k0_t2_loop.trips) (w : Unit) :
    k0_t2_body (F := F) i a2 h2 a3 h3 a4 h4 a5 h5 a6 h6 a7 h7 a8 a9 a10 a11 v31 v32 v33 g0 g1 g2 g3 g4 g5 v77 v79 c7 t w
      = (do
        chunk i a4 h4 a6 h6 a8 a10 v32 g0 g1 g2 g3 g4 g5 (k0_pay340 v77 v79 c7) (k0_pay341 v32)
          (a2.slice (Rect.unit (s := S16x4194304) (k0_off3 i t 0#32) S8x4096.size (k0_off3_inb i t 0)) (fun _ => rfl))
          (k0_cond1 t = 1#1) (fun h => a3.slice (Rect.unit (s := S16x1048576) (k0_off4 i t) S8x1024.size (k0_off4_inb i t h)) (fun _ => rfl))
          (a3.slice (Rect.unit (s := S16x1048576) (k0_off5 i t 0#32) S8x1024.size (k0_off5_inb i t 0)) (fun _ => rfl))
          (k0_cond2 t = 1#1) (fun h => a2.slice (Rect.unit (s := S16x4194304) (k0_off6 i t) S8x4096.size (k0_off6_inb i t h)) (fun _ => rfl))
        chunk i a5 h5 a7 h7 a9 a11 v32 g0 g1 g2 g3 g4 g5 (k0_pay340 v77 v79 c7) (k0_pay341 v32)
          (a2.slice (Rect.unit (s := S16x4194304) (k0_off3 i t 1#32) S8x4096.size (k0_off3_inb i t 1)) (fun _ => rfl))
          (k0_cond3 t = 1#1) (fun h => a3.slice (Rect.unit (s := S16x1048576) (k0_off7 i t) S8x1024.size (k0_off7_inb i t h)) (fun _ => rfl))
          (a3.slice (Rect.unit (s := S16x1048576) (k0_off5 i t 1#32) S8x1024.size (k0_off5_inb i t 1)) (fun _ => rfl))
          (k0_cond4 t = 1#1) (fun h => a2.slice (Rect.unit (s := S16x4194304) (k0_off8 i t) S8x4096.size (k0_off8_inb i t h)) (fun _ => rfl))) := by
  unfold k0_t2_body
  simp only [k0_part25_eq_skeleton, k0_part26_eq_skeleton, k0_part25_skel, k0_part26_skel, chunk, bind_assoc, pure_bind]
  have e3 : ∀ b0 b1, k0_t3_body (F := F) i a2 h2 a3 h3 a4 h4 a5 h5 a6 h6 a7 h7 a8 a9 a10 a11 v31 v32 g0 g1 g2 g3 g4 g5
      (k0_pay340 v77 v79 c7) (k0_pay341 v32) b0 b1 t
        = fun (t' : Fin k0_t3_loop.trips) (_ : Unit) => trip i a4 a6 v32 g0 g1 g2 g3 g4 g5 (k0_pay340 v77 v79 c7) (k0_pay341 v32) (Scf.iv 0#32 1#32 t') :=
    fun _ _ => funext fun _ => funext fun _ => t3_eq_trip ..
  have e4 : ∀ b0 b1 b2, k0_t4_body (F := F) i a2 h2 a3 h3 a4 h4 a5 h5 a6 h6 a7 h7 a8 a9 a10 a11 v31 v32 g0 g1 g2 g3 g4 g5
      (k0_pay340 v77 v79 c7) (k0_pay341 v32) t b0 b1 b2
        = fun (t' : Fin k0_t4_loop.trips) (_ : Unit) => trip i a5 a7 v32 g0 g1 g2 g3 g4 g5 (k0_pay340 v77 v79 c7) (k0_pay341 v32) (Scf.iv 0#32 1#32 t') :=
    fun _ _ _ => funext fun _ => funext fun _ => t4_eq_trip ..
  simp only [e3, e4]
  by_cases c1 : k0_cond1 t = 1#1 <;> by_cases c2 : k0_cond2 t = 1#1 <;> by_cases c3 : k0_cond3 t = 1#1 <;>
    by_cases c4 : k0_cond4 t = 1#1 <;>
    simp only [c1, c2, c3, c4, ↓reduceDIte, bind_assoc, pure_bind] <;> rfl

/-- Lane numbers `0 … 15`. -/
abbrev iotaV : IVec S16 32 := iota .scVector S16 32 [0] iota_S16_d0_w32_scVector

/-- Gather `c`'s offset for each lane: the lane's window of eight, entered at its own number plus `c`, round the window. -/
abbrev off (c : BitVec 32) : IVec S16 32 :=
  addi (muli iotaV (broadcast S16 8#32)) (andi (addi iotaV (broadcast S16 c)) (broadcast S16 7#32))

/-- A trip of the loop that clears the output buffers: sixteen zeros into each (what was there read first, and not used). -/
def clearBody (t : Fin k0_t1_loop.trips) (_ : Unit) :
    Prog (TpuEff nD τ sig (Elt F) Λ₀ (.scVector ((i 0).castLE hcore0) ((i 1).castLE hsub0))) Unit := do
  let _ : Vec F S1x16 .f32 ← Prog.lift (.load a6 (Rect.unit (s := S8x1024) (k0_off2 t) S1x16.size (k0_off2_inb t)).toLoadRect (View.loadsAt_vmem h_S1x16))
  Prog.lift (.store a6 (Rect.unit (s := S8x1024) (k0_off2 t) S1x16.size (k0_off2_inb t)) (shapeCast S1x16 k0_pay329 shapeCasts_S16_S1x16)
    Finset.univ (View.stores_vmem_bits_univ h_S1x16 rfl) (.inl rfl))
  let _ : Vec F S1x16 .f32 ← Prog.lift (.load a7 (Rect.unit (s := S8x1024) (k0_off2 t) S1x16.size (k0_off2_inb t)).toLoadRect (View.loadsAt_vmem h_S1x16))
  Prog.lift (.store a7 (Rect.unit (s := S8x1024) (k0_off2 t) S1x16.size (k0_off2_inb t)) (shapeCast S1x16 k0_pay329 shapeCasts_S16_S1x16)
    Finset.univ (View.stores_vmem_bits_univ h_S1x16 rfl) (.inl rfl))

/-- A trip of the pipeline: chunk `2 t` through the even buffers, chunk `2 t + 1` through the odd ones. -/
def pipeBody (t : Fin k0_t2_loop.trips) :
    Prog (TpuEff nD τ sig (Elt F) Λ₀ (.scVector ((i 0).castLE hcore0) ((i 1).castLE hsub0))) PUnit := do
  chunk i a4 h4 a6 h6 a8 a10 iotaV (off 0) (off 1) (off 2) (off 3) (off 4) (off 5) (off 6) (off 7)
    (a2.slice (Rect.unit (s := S16x4194304) (k0_off3 i t 0#32) S8x4096.size (k0_off3_inb i t 0)) (fun _ => rfl))
    (k0_cond1 t = 1#1) (fun h => a3.slice (Rect.unit (s := S16x1048576) (k0_off4 i t) S8x1024.size (k0_off4_inb i t h)) (fun _ => rfl))
    (a3.slice (Rect.unit (s := S16x1048576) (k0_off5 i t 0#32) S8x1024.size (k0_off5_inb i t 0)) (fun _ => rfl))
    (k0_cond2 t = 1#1) (fun h => a2.slice (Rect.unit (s := S16x4194304) (k0_off6 i t) S8x4096.size (k0_off6_inb i t h)) (fun _ => rfl))
  chunk i a5 h5 a7 h7 a9 a11 iotaV (off 0) (off 1) (off 2) (off 3) (off 4) (off 5) (off 6) (off 7)
    (a2.slice (Rect.unit (s := S16x4194304) (k0_off3 i t 1#32) S8x4096.size (k0_off3_inb i t 1)) (fun _ => rfl))
    (k0_cond3 t = 1#1) (fun h => a3.slice (Rect.unit (s := S16x1048576) (k0_off7 i t) S8x1024.size (k0_off7_inb i t h)) (fun _ => rfl))
    (a3.slice (Rect.unit (s := S16x1048576) (k0_off5 i t 1#32) S8x1024.size (k0_off5_inb i t 1)) (fun _ => rfl))
    (k0_cond4 t = 1#1) (fun h => a2.slice (Rect.unit (s := S16x4194304) (k0_off8 i t) S8x4096.size (k0_off8_inb i t h)) (fun _ => rfl))

set_option maxRecDepth 65536 in
/-- The kernel: fetch the first two chunks, clear the two output buffers, run the pipeline, wait for the last two stores. -/
theorem kernel_eq :
    cc0__mp_kernel (F := F) i a2 h2 a3 h3 a4 h4 a5 h5 a6 h6 a7 h7 a8 a9 a10 a11
      = (do
        Prog.lift (.enqueueDma (a2.slice (Rect.unit (s := S16x4194304) (k0_off1 i 0#32) S8x4096.size (k0_off1_inb i 0)) (fun _ => rfl))
          (.here a4) (.dma a8.sem) (View.wordExact_bits rfl) h4.wordExact ⟨Or.inl rfl, trivial⟩)
        Prog.lift (.enqueueDma (a2.slice (Rect.unit (s := S16x4194304) (k0_off1 i 4096#32) S8x4096.size (k0_off1_inb i 1)) (fun _ => rfl))
          (.here a5) (.dma a9.sem) (View.wordExact_bits rfl) h5.wordExact ⟨Or.inl rfl, trivial⟩)
        Scf.Loop.for k0_t1_loop k0_t1_ok () (clearBody i a6 a7)
        Scf.Loop.for k0_t2_loop k0_t2_ok () fun t _ => (pipeBody i a2 a3 a4 h4 a5 h5 a6 h6 a7 h7 a8 a9 a10 a11 t : Prog _ Unit)
        Prog.lift (.waitDma2 a10.sem a6 (a3.slice (Rect.unit (s := S16x1048576) (k0_off9 i 253952#32) S8x1024.size (k0_off9_inb i 0)) (fun _ => rfl))
          h6.wordExact (View.wordExact_bits rfl))
        Prog.lift (.waitDma2 a11.sem a7 (a3.slice (Rect.unit (s := S16x1048576) (k0_off9 i 258048#32) S8x1024.size (k0_off9_inb i 1)) (fun _ => rfl))
          h7.wordExact (View.wordExact_bits rfl))) := by
  simp only [cc0__mp_kernel_eq_skeleton, cc0__mp_kernel_skel, k0_part27_eq_skeleton, k0_part27_skel, k0_part28_eq_skeleton, k0_part28_skel,
    k0_part29_eq_skeleton, k0_part29_skel, bind_assoc, pure_bind]
  have e1 : ∀ v31, k0_t1_body (F := F) i a2 h2 a3 h3 a4 h4 a5 h5 a6 h6 a7 h7 a8 a9 a10 a11 v31 iotaV k0_pay329
      (k0_pay332 k0_pay330 k0_pay331 7#32) (k0_pay333 iotaV) (k0_pay334 iotaV) (k0_pay335 iotaV) (k0_pay336 iotaV) (k0_pay337 iotaV)
      (k0_pay338 iotaV) (k0_pay339 iotaV) 7#32 = clearBody i a6 a7 := fun _ => rfl
  have e2 : ∀ v31, k0_t2_body (F := F) i a2 h2 a3 h3 a4 h4 a5 h5 a6 h6 a7 h7 a8 a9 a10 a11 v31 iotaV k0_pay329
      (k0_pay332 k0_pay330 k0_pay331 7#32) (k0_pay333 iotaV) (k0_pay334 iotaV) (k0_pay335 iotaV) (k0_pay336 iotaV) (k0_pay337 iotaV)
      (k0_pay338 iotaV) (k0_pay339 iotaV) 7#32
        = fun (t : Fin k0_t2_loop.trips) (_ : Unit) => pipeBody i a2 a3 a4 h4 a5 h5 a6 h6 a7 h7 a8 a9 a10 a11 t :=
    fun _ => funext fun t => funext fun w => (t2_eq_chunks i a2 h2 a3 h3 a4 h4 a5 h5 a6 h6 a7 h7 a8 a9 a10 a11 ..).trans rfl
  simp only [e1, e2]
  rfl

end

end Cert.Proof.Pool

end
-- ==== Proof.Rows.lean ====
/-
  The arithmetic of one group of the pooling loop, with no program in it. A group works on one CHANNEL `ch` and one VECTOR
  `u` of sixteen parents: lane `l` stands for parent `16 u + l` of the chunk. Its `c`-th gather reads child `(l + c) mod 8`
  of that parent (so that the sixteen lanes read sixteen different banks), and its maximum goes to column `2 (16 u + l)` of
  the output buffer, every second column, as the other one belongs to an unlabelled node and stays zero.
  `Pooled X O n`: the output buffer `O` after the first `n` groups on the input buffer `X`.
-/
module

public import proofs.«01_k».proof.Proof.Chunks
public import Idealize.ShloMosaic.Lib.Pointwise

@[expose] public section

noncomputable section

namespace Cert.Proof.Pool

open Cert.KernelIdeal Cert.KernelIdeal.Gen
open Idealize.ShloMosaic

variable {F : FTy → Type} [FloatOps F]

/-! ## The columns the lanes name -/

omit [FloatOps F] in
/-- The number of a lane, as a word. -/
theorem iotaV_apply (x : S16.Idx) : iotaV x = BitVec.ofNat 32 (x 0).val := by
  show BitVec.ofNat 32 (0 * S16.size 0 + (x 0).val) = _
  rw [Nat.zero_mul, Nat.zero_add]

/-- Lane `l`'s `c`-th child sits at `8 l + (l + c) mod 8`. -/
theorem off_word : ∀ (c : Fin 8) (l : Fin 16),
    (IntOp.addi (IntOp.muli (BitVec.ofNat 32 l.val) 8#32)
      (IntOp.andi (IntOp.addi (BitVec.ofNat 32 l.val) (BitVec.ofNat 32 c.val)) 7#32)).toNat = 8 * l.val + (l.val + c.val) % 8 := by
  decide +kernel

theorem off_apply (c : Fin 8) (x : S16.Idx) : (off (BitVec.ofNat 32 c.val) x).toNat = 8 * (x 0).val + ((x 0).val + c.val) % 8 := by
  show (IntOp.addi (IntOp.muli (iotaV x) 8#32) (IntOp.andi (IntOp.addi (iotaV x) (BitVec.ofNat 32 c.val)) 7#32)).toNat = _
  rw [iotaV_apply]
  exact off_word c (x 0)

/-- The column of the input buffer that lane `x` reads as its `c`-th. -/
theorem colAt_apply (u : BitVec 32) (hu : u.toNat < 32) (c : Fin 8) (x : S16.Idx) :
    (colAt u (off (BitVec.ofNat 32 c.val)) x).toNat = 8 * (16 * u.toNat + (x 0).val) + (16 * u.toNat + (x 0).val + c.val) % 8 := by
  have h := off_apply c x
  have hx : (x 0).val < 16 := (x 0).isLt
  show (u * 128#32 + off (BitVec.ofNat 32 c.val) x).toNat = _
  rw [BitVec.toNat_add, BitVec.toNat_mul, h, show (128#32 : BitVec 32).toNat = 128 from rfl]
  omega

/-- The column of the output buffer that lane `x` writes. -/
theorem outAt_apply (u : BitVec 32) (hu : u.toNat < 32) (x : S16.Idx) :
    (outAt iotaV u x).toNat = 2 * (16 * u.toNat + (x 0).val) := by
  have hx : (x 0).val < 16 := (x 0).isLt
  show (u * 32#32 + iotaV x * 2#32).toNat = _
  rw [iotaV_apply, BitVec.toNat_add, BitVec.toNat_mul, BitVec.toNat_mul, show (32#32 : BitVec 32).toNat = 32 from rfl,
    show (2#32 : BitVec 32).toNat = 2 from rfl, BitVec.toNat_ofNat]
  omega

/-- Each gather's columns are inside the input buffer. -/
theorem chk_load (u ch : BitVec 32) (hu : u.toNat < 32) (hch : ch.toNat < 8) (c : Fin 8) :
    k0_chk1 (broadcast S16 ch) (colAt u (off (BitVec.ofNat 32 c.val))) := by
  intro a x
  match a with
  | 0 => exact hch
  | 1 =>
    have hx : (x 0).val < 16 := (x 0).isLt
    show (colAt u (off (BitVec.ofNat 32 c.val)) x).toNat < 4096
    rw [colAt_apply u hu]; omega

/-- The scatter's columns are inside the output buffer. -/
theorem chk_store (u ch : BitVec 32) (hu : u.toNat < 32) (hch : ch.toNat < 8) : k0_chk9 (outAt iotaV u) (broadcast S16 ch) := by
  intro a x
  match a with
  | 0 => exact hch
  | 1 =>
    have hx : (x 0).val < 16 := (x 0).isLt
    show (outAt iotaV u x).toNat < 1024
    rw [outAt_apply u hu]; omega

/-! ## The maximum over a parent's children -/

/-- The larger of eight numbers, in the order the kernel takes it. -/
def max8 (x : Fin 8 → F .f32) : F .f32 :=
  FloatOps.maximumf (FloatOps.maximumf (FloatOps.maximumf (x 0) (x 1)) (FloatOps.maximumf (x 2) (x 3)))
    (FloatOps.maximumf (FloatOps.maximumf (x 4) (x 5)) (FloatOps.maximumf (x 6) (x 7)))

/-- The child that is taken as the `c`-th of parent `p`. -/
def childCol {N : ℕ} (p : ℕ) (hp : 8 * p + 8 ≤ N) (c : Fin 8) : Fin N := ⟨8 * p + (p + c.val) % 8, by omega⟩

omit [FloatOps F] in
/-- The `c`-th gather of a group reads, in lane `x`, the `c`-th child of the lane's parent. -/
theorem load_child (X : Vec F S8x4096 .f32) (u ch : BitVec 32) (hu : u.toNat < 32) (hch : ch.toNat < 8) (c : Fin 8)
    (h : k0_chk1 (broadcast S16 ch) (colAt u (off (BitVec.ofNat 32 c.val)))) (x : S16.Idx) (hp : 8 * (16 * u.toNat + (x 0).val) + 8 ≤ 4096) :
    loadIdx X ![broadcast S16 ch, colAt u (off (BitVec.ofNat 32 c.val))] (k0_idx1_inb _ _ h) x
      = X (ValueIdx.ix2 ⟨ch.toNat, hch⟩ (childCol (16 * u.toNat + (x 0).val) hp c)) := by
  refine congrArg X (funext fun a => Fin.ext ?_)
  match a with
  | 0 => rfl
  | 1 => exact colAt_apply u hu c x

/-! ## A scatter whose lanes name different elements -/

omit [FloatOps F] in
theorem foldl_miss {ι α β : Type} (P : ι → β → Prop) [∀ k j, Decidable (P k j)] (v : ι → α) (j : β) :
    ∀ (L : List ι) (g : β → α), (∀ k ∈ L, ¬ P k j) → (L.foldl (fun g k => fun j => if P k j then v k else g j) g) j = g j
  | [], _, _ => rfl
  | k :: L, g, h => by
    rw [List.foldl_cons, foldl_miss P v j L _ (fun k' hk' => h k' (List.mem_cons_of_mem _ hk')), if_neg (h k List.mem_cons_self)]

omit [FloatOps F] in
theorem foldl_hit {ι α β : Type} (P : ι → β → Prop) [∀ k j, Decidable (P k j)] (v : ι → α) (j : β) (k₀ : ι) (h₀ : P k₀ j)
    (huniq : ∀ k, P k j → k = k₀) :
    ∀ (L : List ι) (g : β → α), (k₀ ∈ L ∨ g j = v k₀) → (L.foldl (fun g k => fun j => if P k j then v k else g j) g) j = v k₀
  | [], _, h => h.resolve_left (by simp)
  | k :: L, g, h => by
    rw [List.foldl_cons]
    refine foldl_hit P v j k₀ h₀ huniq L _ ?_
    by_cases hk : P k j
    · exact Or.inr (by rw [if_pos hk, huniq k hk])
    · rcases h with h | h
      · rcases List.mem_cons.mp h with rfl | h
        · exact absurd h₀ hk
        · exact Or.inl h
      · exact Or.inr (by rw [if_neg hk]; exact h)

section Scatter

variable (O : Vec F S8x1024 .f32) (v : Vec F S16 .f32) (u ch : BitVec 32) (hu : u.toNat < 32) (hch : ch.toNat < 8)
  (h : k0_chk9 (outAt iotaV u) (broadcast S16 ch))

/-- The output buffer after the group's scatter. -/
abbrev scat : Vec F S8x1024 .f32 :=
  storeIdx O ![broadcast S16 ch, outAt iotaV u] v (fun _ => 1#1) false (k0_idx9_inb _ _ h)

/-- The element `(r, q)` is the one lane `l` names. -/
abbrev Names (l : Fin 16) (j : S8x1024.Idx) : Prop :=
  ∀ a, (j a).val = (idxAt ![broadcast S16 ch, outAt iotaV u] (k0_idx9_inb _ _ h) (Shape.ofLane (d := ![16]) l) a).val

omit [FloatOps F] in
include hu in
theorem names_iff (l : Fin 16) (r : Fin 8) (q : Fin 1024) :
    Names u ch h l (ValueIdx.ix2 r q) ↔ r.val = ch.toNat ∧ q.val = 2 * (16 * u.toNat + l.val) := by
  have h1 : (outAt iotaV u (Shape.ofLane (d := ![16]) l)).toNat = 2 * (16 * u.toNat + l.val) := outAt_apply u hu _
  constructor
  · intro H
    exact ⟨H 0, (H 1).trans h1⟩
  · rintro ⟨H0, H1⟩ a
    match a with
    | 0 => exact H0
    | 1 => exact H1.trans h1.symm

theorem scat_eq : scat O v u ch h
    = (List.finRange 16).foldl (fun g l => fun j => if Names u ch h l j then v (Shape.ofLane (d := ![16]) l) else g j) O := by
  show List.foldl _ _ _ = _
  refine congrArg (fun f => List.foldl f O (List.finRange 16)) (funext fun g => funext fun l => ?_)
  refine (if_pos (c := (1#1 : BitVec 1) = 1) rfl).trans (funext fun j => ?_)
  by_cases H : Names u ch h l j
  · exact (if_pos H).trans (if_pos H).symm
  · exact (if_neg H).trans (if_neg H).symm

include hu in
theorem scat_hit (l : Fin 16) (r : Fin 8) (q : Fin 1024) (hr : r.val = ch.toNat) (hq : q.val = 2 * (16 * u.toNat + l.val)) :
    scat O v u ch h (ValueIdx.ix2 r q) = v (Shape.ofLane (d := ![16]) l) := by
  rw [scat_eq]
  refine foldl_hit (Names u ch h) (fun l => v (Shape.ofLane (d := ![16]) l)) (ValueIdx.ix2 r q) l ((names_iff u ch hu h l r q).mpr ⟨hr, hq⟩) ?_ _ O
    (Or.inl (List.mem_finRange l))
  intro l' hl'
  have := ((names_iff u ch hu h l' r q).mp hl').2
  exact Fin.ext (by omega)

include hu in
theorem scat_miss (r : Fin 8) (q : Fin 1024) (hn : ∀ l : Fin 16, ¬ (r.val = ch.toNat ∧ q.val = 2 * (16 * u.toNat + l.val))) :
    scat O v u ch h (ValueIdx.ix2 r q) = O (ValueIdx.ix2 r q) := by
  rw [scat_eq]
  exact foldl_miss (Names u ch h) (fun l => v (Shape.ofLane (d := ![16]) l)) (ValueIdx.ix2 r q) _ O fun l _ hl => hn l ((names_iff u ch hu h l r q).mp hl)

end Scatter

/-! ## The output buffer after so many groups -/

/-- What the kernel's zero is. -/
abbrev zeroF : F .f32 := Scalar.ofBits .f32 0#32

/-- After the first `n` groups on the input buffer `X`: the odd columns are zero, and an even column of a group already done
    holds its parent's maximum. Group `8 u + ch` writes row `ch` of the columns `32 u … 32 u + 31`. -/
structure Pooled (X : Vec F S8x4096 .f32) (O : Vec F S8x1024 .f32) (n : ℕ) : Prop where
  odd : ∀ (r : Fin 8) (q : Fin 1024), q.val % 2 = 1 → O (ValueIdx.ix2 r q) = zeroF
  even : ∀ (r : Fin 8) (q : Fin 1024), q.val % 2 = 0 → 8 * (q.val / 32) + r.val < n →
    O (ValueIdx.ix2 r q) = max8 fun c => X (ValueIdx.ix2 r (childCol (q.val / 2) (by omega) c))

/-- One group more. -/
theorem Pooled.step {X : Vec F S8x4096 .f32} {O : Vec F S8x1024 .f32} {u ch : BitVec 32} (hu : u.toNat < 32) (hch : ch.toNat < 8)
    (hO : Pooled X O (8 * u.toNat + ch.toNat)) (hs : k0_chk9 (outAt iotaV u) (broadcast S16 ch))
    (hl : ∀ c : Fin 8, k0_chk1 (broadcast S16 ch) (colAt u (off (BitVec.ofNat 32 c.val)))) (v : Vec F S16 .f32)
    (hv : v = fun x => max8 fun c => loadIdx X ![broadcast S16 ch, colAt u (off (BitVec.ofNat 32 c.val))] (k0_idx1_inb _ _ (hl c)) x) :
    Pooled X (scat O v u ch hs) (8 * u.toNat + ch.toNat + 1) := by
  constructor
  · intro r q hq
    rw [scat_miss O v u ch hu hs r q (fun l h => by omega)]
    exact hO.odd r q hq
  · intro r q hq hn
    by_cases hrq : r.val = ch.toNat ∧ q.val / 32 = u.toNat
    · have hlt : (q.val % 32) / 2 < 16 := by omega
      rw [scat_hit O v u ch hu hs ⟨(q.val % 32) / 2, hlt⟩ r q hrq.1 (by show q.val = 2 * (16 * u.toNat + (q.val % 32) / 2); omega), hv]
      have hp : 16 * u.toNat + (q.val % 32) / 2 = q.val / 2 := by omega
      show (max8 fun c => _) = max8 fun c => _
      refine congrArg max8 (funext fun c => ?_)
      rw [load_child X u ch hu hch c (hl c) _ (by show 8 * (16 * u.toNat + (q.val % 32) / 2) + 8 ≤ 4096; omega)]
      refine congrArg X ?_
      have e1 : (⟨ch.toNat, hch⟩ : Fin 8) = r := Fin.ext hrq.1.symm
      rw [e1]
      refine congrArg (ValueIdx.ix2 r) (Fin.ext ?_)
      show 8 * (16 * u.toNat + (q.val % 32) / 2) + (16 * u.toNat + (q.val % 32) / 2 + c.val) % 8 = 8 * (q.val / 2) + (q.val / 2 + c.val) % 8
      rw [hp]
    · rw [scat_miss O v u ch hu hs r q (fun l h => hrq ⟨h.1, by have := l.isLt; omega⟩)]
      exact hO.even r q hq (by omega)

/-! ## The output buffer while it is cleared -/

/-- The first `n` vectors of sixteen, in row-major order, are zero. -/
def Cleared (O : Vec F S8x1024 .f32) (n : ℕ) : Prop :=
  ∀ (r : Fin 8) (q : Fin 1024), 1024 * r.val + q.val < 16 * n → O (ValueIdx.ix2 r q) = zeroF

theorem Cleared.pooled {O : Vec F S8x1024 .f32} (h : Cleared O 512) (X : Vec F S8x4096 .f32) : Pooled X O 0 :=
  ⟨fun r q _ => h r q (by omega), fun _ _ _ hn => absurd hn (Nat.not_lt_zero _)⟩

/-- A buffer that is pooled from one input is, before the first group, as good for any other. -/
theorem Pooled.again {X : Vec F S8x4096 .f32} {O : Vec F S8x1024 .f32} {n : ℕ} (h : Pooled X O n) (X' : Vec F S8x4096 .f32) : Pooled X' O 0 :=
  ⟨h.odd, fun _ _ _ hn => absurd hn (Nat.not_lt_zero _)⟩

end Cert.Proof.Pool

end
-- ==== Proof.Regions.lean ====
/-
  Where the copies go. A tile `(i 0, i 1)` works on the eight channels `8 (i 0) …` and on a segment of 64 chunks: chunk `g`
  fetches 4096 columns of the transposed input and stores 1024 of the transposed result. A REGION is the columns of a range
  of chunks. The closed forms of the printed offsets and conditions are here, and the value a chunk's store leaves.
-/
module

public import proofs.«01_k».proof.Proof.Rows

@[expose] public section

noncomputable section

namespace Cert.Proof.Pool

open Cert.KernelIdeal Cert.KernelIdeal.Gen
open Idealize.ShloMosaic

variable {F : FTy → Type} [FloatOps F]

/-! ## The printed offsets and conditions -/

abbrev inOff (i : grid0.Coords) (g : ℕ) : Fin 2 → ℕ := ![8 * (i 0).val, 262144 * (i 1).val + 4096 * g]
abbrev outOff (i : grid0.Coords) (g : ℕ) : Fin 2 → ℕ := ![8 * (i 0).val, 65536 * (i 1).val + 1024 * g]

theorem off1_eq : ∀ (i : grid0.Coords) (r : Fin 2), k0_off1 i (BitVec.ofNat 32 (4096 * r.val)) = inOff i r.val := by decide +kernel
theorem off3_eq : ∀ (i : grid0.Coords) (t : Fin k0_t2_loop.trips) (r : Fin 2), k0_off3 i t (BitVec.ofNat 32 r.val) = inOff i (2 * t.val + r.val) := by
  decide +kernel
theorem off5_eq : ∀ (i : grid0.Coords) (t : Fin k0_t2_loop.trips) (r : Fin 2), k0_off5 i t (BitVec.ofNat 32 r.val) = outOff i (2 * t.val + r.val) := by
  decide +kernel
theorem off6_eq : ∀ (i : grid0.Coords) (t : Fin k0_t2_loop.trips), k0_cond2 t = 1#1 → k0_off6 i t = inOff i (2 * t.val + 2) := by decide +kernel
theorem off8_eq : ∀ (i : grid0.Coords) (t : Fin k0_t2_loop.trips), k0_cond4 t = 1#1 → k0_off8 i t = inOff i (2 * t.val + 1 + 2) := by decide +kernel
theorem cond1_iff : ∀ t : Fin k0_t2_loop.trips, k0_cond1 t = 1#1 ↔ 2 ≤ 2 * t.val := by decide +kernel
theorem cond2_iff : ∀ t : Fin k0_t2_loop.trips, k0_cond2 t = 1#1 ↔ 2 * t.val + 2 < 64 := by decide +kernel
theorem cond3_iff : ∀ t : Fin k0_t2_loop.trips, k0_cond3 t = 1#1 ↔ 2 ≤ 2 * t.val + 1 := by decide +kernel
theorem cond4_iff : ∀ t : Fin k0_t2_loop.trips, k0_cond4 t = 1#1 ↔ 2 * t.val + 1 + 2 < 64 := by decide +kernel

theorem coord0 (i : grid0.Coords) : (i 0).val < 2 := (i 0).isLt
theorem coord1 (i : grid0.Coords) : (i 1).val < 16 := (i 1).isLt

theorem inOff_inb (i : grid0.Coords) (g : ℕ) (hg : g < 64) : ∀ a, inOff i g a + S8x4096.size a ≤ S16x4194304.size a := by
  have h0 := coord0 i
  have h1 := coord1 i
  intro a
  match a with
  | 0 => show 8 * (i 0).val + 8 ≤ 16; omega
  | 1 => show 262144 * (i 1).val + 4096 * g + 4096 ≤ 4194304; omega

theorem outOff_inb (i : grid0.Coords) (g : ℕ) (hg : g < 64) : ∀ a, outOff i g a + S8x1024.size a ≤ S16x1048576.size a := by
  have h0 := coord0 i
  have h1 := coord1 i
  intro a
  match a with
  | 0 => show 8 * (i 0).val + 8 ≤ 16; omega
  | 1 => show 65536 * (i 1).val + 1024 * g + 1024 ≤ 1048576; omega

/-- The transposed input and the transposed result, whole. -/
abbrev xM : Memref sig .scVector .hbm S16x4194304 .f32 := Memref.whole main_v0_scv
abbrev oM : Memref sig .scVector .hbm S16x1048576 .f32 := Memref.whole main_v1_scv

/-- Chunk `g`'s columns of the two. -/
abbrev xChunk (i : grid0.Coords) (g : ℕ) (hg : g < 64) : Memref sig .scVector .hbm S8x4096 .f32 :=
  xM.slice (Rect.unit (s := S16x4194304) (inOff i g) S8x4096.size (inOff_inb i g hg)) (fun _ => rfl)
abbrev oChunk (i : grid0.Coords) (g : ℕ) (hg : g < 64) : Memref sig .scVector .hbm S8x1024 .f32 :=
  oM.slice (Rect.unit (s := S16x1048576) (outOff i g) S8x1024.size (outOff_inb i g hg)) (fun _ => rfl)

/-! ## Regions -/

/-- The columns of chunks `lo ≤ g < hi`, each `w` wide, of segment `s` and channel half `r`. -/
def region (N w r s lo hi : ℕ) : Finset (⟨2, ![16, N]⟩ : Shape).Idx :=
  Finset.univ.filter fun x => (x 0).val / 8 = r ∧ 64 * w * s + w * lo ≤ (x 1).val ∧ (x 1).val < 64 * w * s + w * hi

theorem mem_region {N w r s lo hi : ℕ} {x : (⟨2, ![16, N]⟩ : Shape).Idx} :
    x ∈ region N w r s lo hi ↔ (x 0).val / 8 = r ∧ 64 * w * s + w * lo ≤ (x 1).val ∧ (x 1).val < 64 * w * s + w * hi := by
  simp [region]

theorem region_union {N w r s lo mid hi : ℕ} (h1 : lo ≤ mid) (h2 : mid ≤ hi) :
    region N w r s lo hi = region N w r s lo mid ∪ region N w r s mid hi := by
  ext x
  have e1 : w * lo ≤ w * mid := Nat.mul_le_mul_left w h1
  have e2 : w * mid ≤ w * hi := Nat.mul_le_mul_left w h2
  simp only [Finset.mem_union, mem_region]
  generalize 64 * w * s = a at *
  omega

theorem region_disjoint {N w r s lo mid hi : ℕ} : Disjoint (region N w r s lo mid) (region N w r s mid hi) := by
  refine Finset.disjoint_left.mpr fun x hx hx' => ?_
  rw [mem_region] at hx hx'
  omega

theorem region_past {N w r s lo hi : ℕ} (h : hi ≤ lo) : region N w r s lo hi = ∅ := by
  refine Finset.eq_empty_of_forall_notMem fun x hx => ?_
  rw [mem_region] at hx
  have e : w * hi ≤ w * lo := Nat.mul_le_mul_left w h
  omega

theorem xChunk_set (i : grid0.Coords) (g : ℕ) (hg : g < 64) :
    (xChunk i g hg).view.set = region 4194304 4096 (i 0).val (i 1).val g (g + 1) := by
  have h : (xChunk i g hg).view.set = (Rect.unit (s := S16x4194304) (inOff i g) S8x4096.size (inOff_inb i g hg)).set := View.set_slice_whole _ _
  rw [h]
  ext x
  rw [Rect.mem_set_unit, mem_region]
  constructor
  · intro H
    have a0 := H 0
    have a1 := H 1
    change 8 * (i 0).val ≤ (x 0).val ∧ (x 0).val < 8 * (i 0).val + 8 at a0
    change 262144 * (i 1).val + 4096 * g ≤ (x 1).val ∧ (x 1).val < 262144 * (i 1).val + 4096 * g + 4096 at a1
    omega
  · rintro ⟨a0, a1, a2⟩ a
    match a with
    | 0 => show 8 * (i 0).val ≤ (x 0).val ∧ (x 0).val < 8 * (i 0).val + 8; omega
    | 1 => show 262144 * (i 1).val + 4096 * g ≤ (x 1).val ∧ (x 1).val < 262144 * (i 1).val + 4096 * g + 4096; omega

theorem oChunk_set (i : grid0.Coords) (g : ℕ) (hg : g < 64) :
    (oChunk i g hg).view.set = region 1048576 1024 (i 0).val (i 1).val g (g + 1) := by
  have h : (oChunk i g hg).view.set = (Rect.unit (s := S16x1048576) (outOff i g) S8x1024.size (outOff_inb i g hg)).set := View.set_slice_whole _ _
  rw [h]
  ext x
  rw [Rect.mem_set_unit, mem_region]
  constructor
  · intro H
    have a0 := H 0
    have a1 := H 1
    change 8 * (i 0).val ≤ (x 0).val ∧ (x 0).val < 8 * (i 0).val + 8 at a0
    change 65536 * (i 1).val + 1024 * g ≤ (x 1).val ∧ (x 1).val < 65536 * (i 1).val + 1024 * g + 1024 at a1
    omega
  · rintro ⟨a0, a1, a2⟩ a
    match a with
    | 0 => show 8 * (i 0).val ≤ (x 0).val ∧ (x 0).val < 8 * (i 0).val + 8; omega
    | 1 => show 65536 * (i 1).val + 1024 * g ≤ (x 1).val ∧ (x 1).val < 65536 * (i 1).val + 1024 * g + 1024; omega

/-! ## What the kernel computes -/

/-- The transposed result: an even node's column is the maximum over its parent's children, an odd node's zero. -/
def outSpec (X : Vec F S16x4194304 .f32) : Vec F S16x1048576 .f32 := fun y =>
  if (y 1).val % 2 = 1 then zeroF
  else max8 fun c => X (ValueIdx.ix2 (y 0) (childCol ((y 1).val / 2) (by have h : (y 1).val < 1048576 := (y 1).isLt; omega) c))

/-- What is fetched as chunk `g`. -/
abbrev xPart (i : grid0.Coords) (g : ℕ) (hg : g < 64) (X : Vec F S16x4194304 .f32) : Vec F S8x4096 .f32 :=
  (xChunk i g hg).view.read (Elt F) X

/-- An output buffer pooled from chunk `g` holds the result's values at the chunk's place. -/
theorem pooled_out (i : grid0.Coords) (g : ℕ) (hg : g < 64) (X : Vec F S16x4194304 .f32) (O : Vec F S8x1024 .f32)
    (h : Pooled (xPart i g hg X) O 256) (x : S8x1024.Idx) : O x = outSpec X ((oChunk i g hg).view.emb x) := by
  have hx : x = ValueIdx.ix2 (x 0) (x 1) := by
    funext a; match a with
    | 0 => rfl
    | 1 => rfl
  have l0 : (x 0).val < 8 := (x 0).isLt
  have l1 : (x 1).val < 1024 := (x 1).isLt
  have e0 : ((oChunk i g hg).view.emb x 0).val = 8 * (i 0).val + 1 * (x 0).val := rfl
  have e1 : ((oChunk i g hg).view.emb x 1).val = 65536 * (i 1).val + 1024 * g + 1 * (x 1).val := rfl
  have hi := coord1 i
  unfold outSpec
  by_cases hq : (x 1).val % 2 = 1
  · rw [if_pos (by rw [e1]; omega), hx]
    exact h.odd (x 0) (x 1) hq
  · rw [if_neg (by rw [e1]; omega)]
    refine (congrArg O hx).trans ((h.even (x 0) (x 1) (by omega) (by omega)).trans ?_)
    refine congrArg max8 (funext fun c => ?_)
    unfold xPart
    rw [View.read_apply]
    refine (cast_eq _ _).trans (congrArg X (funext fun a => Fin.ext ?_))
    match a with
    | 0 => exact e0.symm
    | 1 =>
      show 262144 * (i 1).val + 4096 * g + 1 * (8 * ((x 1).val / 2) + ((x 1).val / 2 + c.val) % 8)
        = 8 * (((oChunk i g hg).view.emb x 1).val / 2) + (((oChunk i g hg).view.emb x 1).val / 2 + c.val) % 8
      rw [e1]
      omega

end Cert.Proof.Pool

end
-- ==== Proof.Trip.lean ====
/-
  The pooling loop of one chunk, run: a group, a trip of sixteen groups, and the loop of sixteen trips, each taking the
  output buffer from `Pooled … n` to as many groups further (`wp_grp`, `wp_trip`, `wp_pool`). The input buffer is only read.
-/
module

public import proofs.«01_k».proof.Proof.Rows
public import Idealize.ShloMosaic.Lib.SparseCore.Ops
public import Idealize.ShloMosaic.Lib.Tactic

@[expose] public section

noncomputable section

namespace Cert.Proof.Pool

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type} [FloatOps F] {Ix : Type} [DecidableEq Ix] {Name : Type} [DecidableEq Name] {U : Type} [URA U] {Lvl : Type} [Preorder Lvl]
  (defs : Defs nD τ sig (Elt F) Λ₀) (𝒱 : Variants) (bd : Option 𝒱.V) (d : Dev nD) (i : grid0.Coords)

local notation "𝕄" => MT nD τ sig Ix (Elt F) Name U Lvl

/-- The tile that the grid coordinates `i` name. -/
abbrev tile : Thread nD τ := V d ((i 0).castLE hcore0) ((i 1).castLE hsub0)

section

variable (src : Memref sig .scVector .vmem S8x4096 .f32) (hsrc : src.IsWhole) (dst : Memref sig .scVector .vmem S8x1024 .f32) (hdst : dst.IsWhole)

/-- The input buffer at `f` and the output buffer after `n` groups. -/
def poolAt (f : Buf (Elt F) (src.view.loc (tile d i))) (n : ℕ) : sProp 𝕄 :=
  iprop((src.view.loc (tile d i) ↦{fullShare} f)
    ∗ ∃ o, (dst.view.loc (tile d i) ↦{fullShare} o) ∗ ⌜Pooled (src.view.read (Elt F) f) (dst.view.read (Elt F) o) n⌝)

omit [FloatOps F] in
theorem read_whole_access {sp : Space} {s : Shape} {e : EltTy} (m : Memref sig .scVector sp s e) (f : m.view.ty.Contents (Elt F)) :
    (m.access (.whole s)).read (Elt F) f = m.view.read (Elt F) f := by
  funext x
  rw [View.read_apply, View.read_apply]
  have h : (m.access (.whole s)).emb x = m.view.emb x := congrArg m.view.emb (Rect.emb_whole_apply s x)
  rw [h]

theorem set_whole_access {sp : Space} {s : Shape} {e : EltTy} {m : Memref sig .scVector sp s e} (hm : m.IsWhole) :
    (m.access (.whole s)).set = Finset.univ := by
  obtain ⟨b, rfl, rfl, rfl, h⟩ := hm; cases h; exact Memref.set_access_whole b

include hsrc hdst in
theorem wp_grp (u ch : BitVec 32) (hu : u.toNat < 32) (hch : ch.toNat < 8) (f : Buf (Elt F) (src.view.loc (tile d i))) (n : ℕ)
    (hn : n = 8 * u.toNat + ch.toNat) :
    (poolAt d i src dst f n : sProp 𝕄)
      ⊢ wp frame (wpE defs 𝒱 (tile d i) bd) Set.univ
          (grp i src dst iotaV (off 0#32) (off 1#32) (off 2#32) (off 3#32) (off 4#32) (off 5#32) (off 6#32) (off 7#32) u ch)
          fun _ => poolAt d i src dst f (n + 1) := by
  subst hn
  have hl := chk_load u ch hu hch
  have hs := chk_store u ch hu hch
  unfold poolAt
  iintro ⟨Hf, %o, Ho, %ho⟩
  unfold grp
  simp only [Prog.lift, Prog.bind_op, Prog.bind_ret, Prog.pure_eq_ret, bind_assoc]
  rw [wp_assume_of 𝒱 (tile d i) bd Set.univ hs]
  rw [wp_assume_of 𝒱 (tile d i) bd Set.univ (show k0_chk1 (broadcast S16 ch) (colAt u (off 0#32)) from hl 0)]
  iapply (SparseCore.wp_vectorLoadIdx (defs := defs) 𝒱 (tile d i) bd Set.univ (base := src) (q := fullShare) (f := f) (Finset.subset_univ _)) $$ Hf
  iintro Hf
  rw [wp_assume_of 𝒱 (tile d i) bd Set.univ (show k0_chk1 (broadcast S16 ch) (colAt u (off 1#32)) from hl 1)]
  iapply (SparseCore.wp_vectorLoadIdx (defs := defs) 𝒱 (tile d i) bd Set.univ (base := src) (q := fullShare) (f := f) (Finset.subset_univ _)) $$ Hf
  iintro Hf
  rw [wp_assume_of 𝒱 (tile d i) bd Set.univ (show k0_chk1 (broadcast S16 ch) (colAt u (off 2#32)) from hl 2)]
  iapply (SparseCore.wp_vectorLoadIdx (defs := defs) 𝒱 (tile d i) bd Set.univ (base := src) (q := fullShare) (f := f) (Finset.subset_univ _)) $$ Hf
  iintro Hf
  rw [wp_assume_of 𝒱 (tile d i) bd Set.univ (show k0_chk1 (broadcast S16 ch) (colAt u (off 3#32)) from hl 3)]
  iapply (SparseCore.wp_vectorLoadIdx (defs := defs) 𝒱 (tile d i) bd Set.univ (base := src) (q := fullShare) (f := f) (Finset.subset_univ _)) $$ Hf
  iintro Hf
  rw [wp_assume_of 𝒱 (tile d i) bd Set.univ (show k0_chk1 (broadcast S16 ch) (colAt u (off 4#32)) from hl 4)]
  iapply (SparseCore.wp_vectorLoadIdx (defs := defs) 𝒱 (tile d i) bd Set.univ (base := src) (q := fullShare) (f := f) (Finset.subset_univ _)) $$ Hf
  iintro Hf
  rw [wp_assume_of 𝒱 (tile d i) bd Set.univ (show k0_chk1 (broadcast S16 ch) (colAt u (off 5#32)) from hl 5)]
  iapply (SparseCore.wp_vectorLoadIdx (defs := defs) 𝒱 (tile d i) bd Set.univ (base := src) (q := fullShare) (f := f) (Finset.subset_univ _)) $$ Hf
  iintro Hf
  rw [wp_assume_of 𝒱 (tile d i) bd Set.univ (show k0_chk1 (broadcast S16 ch) (colAt u (off 6#32)) from hl 6)]
  iapply (SparseCore.wp_vectorLoadIdx (defs := defs) 𝒱 (tile d i) bd Set.univ (base := src) (q := fullShare) (f := f) (Finset.subset_univ _)) $$ Hf
  iintro Hf
  rw [wp_assume_of 𝒱 (tile d i) bd Set.univ (show k0_chk1 (broadcast S16 ch) (colAt u (off 7#32)) from hl 7)]
  iapply (SparseCore.wp_vectorLoadIdx (defs := defs) 𝒱 (tile d i) bd Set.univ (base := src) (q := fullShare) (f := f) (Finset.subset_univ _)) $$ Hf
  iintro Hf
  rw [← bind_pure (SparseCore.vectorStoreIdx _ _ _ _ _ _ _)]
  ihave Ho := (Entails.of_eq (by rw [← set_whole_access hdst] :
    (dst.view.loc (tile d i) ↦{fullShare} o : sProp 𝕄) = (dst.view.loc (tile d i) ↦[(dst.access (.whole S8x1024)).set]{fullShare} o))) $$ Ho
  iapply (SparseCore.wp_vectorStoreIdx (defs := defs) 𝒱 (tile d i) bd Set.univ (base := dst) (f := o)) $$ Ho
  iintro Ho
  ihave Ho := (Entails.of_eq (by rw [set_whole_access hdst] :
    (dst.view.loc (tile d i) ↦[(dst.access (.whole S8x1024)).set]{fullShare} _ : sProp 𝕄) = (dst.view.loc (tile d i) ↦{fullShare} _))) $$ Ho
  rw [Prog.pure_eq_ret, wp_ret]
  imodintro
  isplitl [Hf]
  · iexact Hf
  iexists _
  isplitl [Ho]
  · iexact Ho
  ipureintro
  rw [← read_whole_access dst, View.read_write_univ, ← read_whole_access src f]
  rw [← read_whole_access src f, ← read_whole_access dst o] at ho
  exact ho.step hu hch hs hl _ rfl

/-- One program after another. -/
theorem wp_seq {c : Thread nD τ} {p q : Prog (TpuEff nD τ sig (Elt F) Λ₀ c.2) PUnit} {P R : sProp 𝕄} {Q : PUnit → sProp 𝕄}
    (h1 : P ⊢ wp frame (wpE defs 𝒱 c bd) Set.univ p fun _ => R) (h2 : R ⊢ wp frame (wpE defs 𝒱 c bd) Set.univ q Q) :
    P ⊢ wp frame (wpE defs 𝒱 c bd) Set.univ (p >>= fun _ => q) Q := by
  rw [wp_bind]
  exact h1.trans ((wp frame (wpE defs 𝒱 c bd) Set.univ p).mono fun _ => h2)

theorem vec_even : ∀ t : Fin 16, (Scalar.addi (Scalar.muli (Scf.iv 0#32 1#32 t.val) 2#32) 0#32).toNat = 2 * t.val := by decide +kernel
theorem vec_odd : ∀ t : Fin 16, (Scalar.addi (Scalar.muli (Scf.iv 0#32 1#32 t.val) 2#32) 1#32).toNat = 2 * t.val + 1 := by decide +kernel

include hsrc hdst in
/-- A trip: the sixteen groups of vectors `2 t` and `2 t + 1`. -/
theorem wp_trip (f : Buf (Elt F) (src.view.loc (tile d i))) (t : ℕ) (ht : t < 16) :
    (poolAt d i src dst f (16 * t) : sProp 𝕄)
      ⊢ wp frame (wpE defs 𝒱 (tile d i) bd) Set.univ
          (trip i src dst iotaV (off 0#32) (off 1#32) (off 2#32) (off 3#32) (off 4#32) (off 5#32) (off 6#32) (off 7#32) (Scf.iv 0#32 1#32 t))
          fun _ => poolAt d i src dst f (16 * (t + 1)) := by
  have e : (Scalar.addi (Scalar.muli (Scf.iv 0#32 1#32 t) 2#32) 0#32).toNat = 2 * t := vec_even ⟨t, ht⟩
  have o : (Scalar.addi (Scalar.muli (Scf.iv 0#32 1#32 t) 2#32) 1#32).toNat = 2 * t + 1 := vec_odd ⟨t, ht⟩
  have g0 := fun (ch : Fin 8) => wp_grp (Ix := Ix) (Name := Name) (U := U) (Lvl := Lvl) defs 𝒱 bd d i src hsrc dst hdst
    (Scalar.addi (Scalar.muli (Scf.iv 0#32 1#32 t) 2#32) 0#32) (BitVec.ofNat 32 ch.val) (by omega)
    (by have := ch.isLt; rw [BitVec.toNat_ofNat]; omega) f (16 * t + ch.val) (by have := ch.isLt; rw [e, BitVec.toNat_ofNat]; omega)
  have g1 := fun (ch : Fin 8) => wp_grp (Ix := Ix) (Name := Name) (U := U) (Lvl := Lvl) defs 𝒱 bd d i src hsrc dst hdst
    (Scalar.addi (Scalar.muli (Scf.iv 0#32 1#32 t) 2#32) 1#32) (BitVec.ofNat 32 ch.val) (by omega)
    (by have := ch.isLt; rw [BitVec.toNat_ofNat]; omega) f (16 * t + 8 + ch.val) (by have := ch.isLt; rw [o, BitVec.toNat_ofNat]; omega)
  unfold trip
  refine wp_seq defs 𝒱 bd (g0 0) ?_
  refine wp_seq defs 𝒱 bd (g0 1) ?_
  refine wp_seq defs 𝒱 bd (g0 2) ?_
  refine wp_seq defs 𝒱 bd (g0 3) ?_
  refine wp_seq defs 𝒱 bd (g0 4) ?_
  refine wp_seq defs 𝒱 bd (g0 5) ?_
  refine wp_seq defs 𝒱 bd (g0 6) ?_
  refine wp_seq defs 𝒱 bd (g0 7) ?_
  refine wp_seq defs 𝒱 bd (g1 0) ?_
  refine wp_seq defs 𝒱 bd (g1 1) ?_
  refine wp_seq defs 𝒱 bd (g1 2) ?_
  refine wp_seq defs 𝒱 bd (g1 3) ?_
  refine wp_seq defs 𝒱 bd (g1 4) ?_
  refine wp_seq defs 𝒱 bd (g1 5) ?_
  refine wp_seq defs 𝒱 bd (g1 6) ?_
  exact g1 7

theorem trips3 : k0_t3_loop.trips = 16 := by decide +kernel

set_option maxRecDepth 8192 in
include hsrc hdst in
/-- The loop of sixteen trips pools the whole chunk: its 256 groups. -/
theorem wp_pool (f : Buf (Elt F) (src.view.loc (tile d i))) :
    (poolAt d i src dst f 0 : sProp 𝕄)
      ⊢ wp frame (wpE defs 𝒱 (tile d i) bd) Set.univ
          (Scf.Loop.for k0_t3_loop k0_t3_ok () fun (t : Fin k0_t3_loop.trips) (_ : Unit) =>
            trip i src dst iotaV (off 0#32) (off 1#32) (off 2#32) (off 3#32) (off 4#32) (off 5#32) (off 6#32) (off 7#32) (Scf.iv 0#32 1#32 t))
          fun _ => poolAt d i src dst f 256 := by
  have ht : (256 : ℕ) = 16 * k0_t3_loop.trips := by rw [trips3]
  rw [ht]
  refine BIBase.Entails.trans ?_ (Scf.wp_for (M := 𝕄) frame (wpE defs 𝒱 (tile d i) bd) Set.univ _ _ _ k0_t3_ok () _
    (fun k _ => poolAt d i src dst f (16 * k)) ?_)
  rotate_left
  · rintro ⟨t, ht⟩ _
    dsimp only
    refine wp_trip defs 𝒱 bd d i src hsrc dst hdst f t ?_
    exact trips3 ▸ ht
  iintro H
  isplitl [H]
  · iexact H
  · iintro %_ H
    iexact H

end

end Cert.Proof.Pool

end
-- ==== Proof.Pipe.lean ====
/-
  One chunk of the double-buffered pipeline, run (`wp_chunk`). What is outstanding on a buffer is one fetch and one store at
  most, each with a semaphore of its own, and each holds the memory it moves until its wait: the fetch of chunk `g` the
  chunk's columns of the input and the input buffer, the store of chunk `g - 2` the chunk's columns of the result and the
  output buffer. The rest of the tile's columns is held by the tile.
-/
module

public import proofs.«01_k».proof.Proof.Regions
public import proofs.«01_k».proof.Proof.Trip
public import Idealize.ShloMosaic.Lib.Transfers

@[expose] public section

noncomputable section

namespace Cert.Proof.Pool

open Cert.KernelIdeal Cert.KernelIdeal.Gen
open Idealize.ShloMosaic
open Idealize.ShloMosaic.SparseCore (S V T)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] {Ix : Type} [DecidableEq Ix] {Name : Type} [DecidableEq Name] {U : Type} [URA U] {Lvl : Type} [Preorder Lvl]

local notation "𝕄" => MT nD τ sig Ix (Elt F) Name U Lvl

variable (EC : UEmb Counters (MT nD τ sig Ix (Elt F) Name U Lvl)) (ι : Ix)
  (defs : Defs nD τ sig (Elt F) Λ₀) (𝒱 : Variants) (bd : Option 𝒱.V) (d : Dev nD) (i : grid0.Coords)

/-! ## What is held -/

/-- The transposed input's memory, and the transposed result's. -/
abbrev xLoc : Loc nD τ sig := xM.view.loc (tile d i)
abbrev oLoc : Loc nD τ sig := oM.view.loc (tile d i)

/-- The columns of chunks `lo ≤ g < hi` of the input, and of the result, of the tile's segment. -/
abbrev xReg (lo hi : ℕ) : Finset (Idx (xLoc d i)) := region 4194304 4096 (i 0).val (i 1).val lo hi
abbrev oReg (lo hi : ℕ) : Finset (Idx (oLoc d i)) := region 1048576 1024 (i 0).val (i 1).val lo hi

section

variable (X : Buf (Elt F) (xLoc d i)) (O : CellTallies nD τ sig Ix) (W : Waits sig Ix)
  (src : Memref sig .scVector .vmem S8x4096 .f32) (hsrc : src.IsWhole) (dst : Memref sig .scVector .vmem S8x1024 .f32) (hdst : dst.IsWhole)
  (sin sout : DmaSems sig S_)

/-- The bytes a fetch moves, and a store. -/
abbrev inAmt : ℕ := src.view.dmaCredit
def outAmt : ℕ := (oChunk i 0 (by decide)).view.dmaCredit

/-- A fetch's outcome: the input buffer holds chunk `g`, and the chunk's columns are back. -/
def fetched (g : ℕ) (hg : g < 64) : sProp 𝕄 :=
  iprop((∃ f, (src.view.loc (tile d i) ↦{fullShare} f) ∗ ⌜src.view.read (Elt F) f = xPart i g hg X⌝)
    ∗ (xLoc d i ↦[xReg d i g (g + 1)]{fullShare} X))

/-- An output buffer whose odd columns are zeros. -/
def ready : sProp 𝕄 :=
  iprop(∃ o, (dst.view.loc (tile d i) ↦{fullShare} o) ∗ ⌜∀ X', Pooled X' (dst.view.read (Elt F) o) 0⌝)

/-- A store's outcome: chunk `g`'s columns hold the result, and the output buffer is back. -/
def stored (g : ℕ) : sProp 𝕄 :=
  iprop((oLoc d i ↦[oReg d i g (g + 1)]{fullShare} outSpec X) ∗ ready d i dst)

/-- The input side of a buffer whose next chunk is `g`: that chunk on its way, or nothing left to fetch. -/
def fetching (g : ℕ) : sProp 𝕄 :=
  if h : g < 64 then Flight EC (tile d i) (.dma sin.sem) ι (inAmt src) (fetched d i X src g h)
  else iprop((∃ f, src.view.loc (tile d i) ↦{fullShare} f) ∗ semVal ((tile d i), SemLoc.dma sin.sem) 0)

/-- The output side: the buffer's previous chunk `g - 2` on its way out, or none yet. -/
def storing (g : ℕ) : sProp 𝕄 :=
  if 2 ≤ g then Flight EC (tile d i) (.dma sout.sem) ι (outAmt i) (stored d i X dst (g - 2))
  else iprop(ready d i dst ∗ semVal ((tile d i), SemLoc.dma sout.sem) 0)

/-- What the thread owes, its waits so far all at index `ι` past `W`. -/
def owing : sProp 𝕄 :=
  iprop(∃ W', ⌜∀ p ∈ W', p ∈ W ∨ p.2 = ι⌝ ∗ owes (tile d i) O W')

/-- What the tile holds itself before chunk `g`. -/
def held (g : ℕ) : sProp 𝕄 :=
  iprop((xLoc d i ↦[xReg d i 0 g]{fullShare} X) ∗ (xLoc d i ↦[xReg d i (g + 2) 64]{fullShare} X)
    ∗ (oLoc d i ↦[oReg d i 0 (g - 2)]{fullShare} outSpec X) ∗ (∃ f, oLoc d i ↦[oReg d i g 64]{fullShare} f)
    ∗ MayWaits (tile d i) ι O ∗ owing ι d i O W)

/-! ## Regions joined and divided -/

omit [FloatOps F] in
theorem x_join (g : ℕ) :
    iprop((xLoc d i ↦[xReg d i 0 g]{fullShare} X) ∗ (xLoc d i ↦[xReg d i g (g + 1)]{fullShare} X)) ⊢ (xLoc d i ↦[xReg d i 0 (g + 1)]{fullShare} X : sProp 𝕄) := by
  have h : xReg d i 0 (g + 1) = xReg d i 0 g ∪ xReg d i g (g + 1) := region_union (Nat.zero_le _) (Nat.le_succ _)
  rw [h]
  exact (pointsTo_union (region_disjoint (lo := 0) (mid := g) (hi := g + 1))).2

omit [FloatOps F] in
theorem x_take (g : ℕ) (hg : g < 64) :
    (xLoc d i ↦[xReg d i g 64]{fullShare} X : sProp 𝕄) ⊢ iprop((xLoc d i ↦[xReg d i g (g + 1)]{fullShare} X) ∗ (xLoc d i ↦[xReg d i (g + 1) 64]{fullShare} X)) := by
  have h : xReg d i g 64 = xReg d i g (g + 1) ∪ xReg d i (g + 1) 64 := region_union (Nat.le_succ _) hg
  rw [h]
  exact (pointsTo_union (region_disjoint (lo := g) (mid := g + 1) (hi := 64))).1

omit [FloatOps F] in
theorem o_join (g : ℕ) (f : Buf (Elt F) (oLoc d i)) :
    iprop((oLoc d i ↦[oReg d i 0 g]{fullShare} f) ∗ (oLoc d i ↦[oReg d i g (g + 1)]{fullShare} f)) ⊢ (oLoc d i ↦[oReg d i 0 (g + 1)]{fullShare} f : sProp 𝕄) := by
  have h : oReg d i 0 (g + 1) = oReg d i 0 g ∪ oReg d i g (g + 1) := region_union (Nat.zero_le _) (Nat.le_succ _)
  rw [h]
  exact (pointsTo_union (region_disjoint (lo := 0) (mid := g) (hi := g + 1))).2

omit [FloatOps F] in
theorem o_take (g : ℕ) (hg : g < 64) (f : Buf (Elt F) (oLoc d i)) :
    (oLoc d i ↦[oReg d i g 64]{fullShare} f : sProp 𝕄) ⊢ iprop((oLoc d i ↦[oReg d i g (g + 1)]{fullShare} f) ∗ (oLoc d i ↦[oReg d i (g + 1) 64]{fullShare} f)) := by
  have h : oReg d i g 64 = oReg d i g (g + 1) ∪ oReg d i (g + 1) 64 := region_union (Nat.le_succ _) hg
  rw [h]
  exact (pointsTo_union (region_disjoint (lo := g) (mid := g + 1) (hi := 64))).1

/-! ## The four copies' steps -/

/-- `owing` after one more wait. -/
theorem owing_insert {W' : Waits sig Ix} (hW' : ∀ p ∈ W', p ∈ W ∨ p.2 = ι) (sm : SemLoc sig) :
    (owes (tile d i) O (insert (sm, ι) W') : sProp 𝕄) ⊢ owing ι d i O W := by
  unfold owing
  iintro H
  iexists (insert (sm, ι) W')
  isplitr [H]
  · ipureintro
    intro p hp
    rcases Finset.mem_insert.mp hp with rfl | hp
    · exact .inr rfl
    · exact hW' p hp
  · iexact H

variable [Infinite Name] [EC.LandsIn (upEmb : UEmb _ (MT nD τ sig Ix (Elt F) Name U Lvl))]

include hsrc in
/-- A fetch issued. -/
theorem wp_fetch (g : ℕ) (hg : g < 64) (hT : (src.view).WordExact) :
    iprop((∃ f, src.view.loc (tile d i) ↦{fullShare} f) ∗ semVal ((tile d i), SemLoc.dma sin.sem) 0 ∗ (xLoc d i ↦[xReg d i g (g + 1)]{fullShare} X))
      ⊢ wp frame (wpE defs 𝒱 (tile d i) bd) Set.univ
          (Prog.lift (.enqueueDma (xChunk i g hg) (.here src) (.dma sin.sem) (View.wordExact_bits rfl) hT ⟨Or.inl rfl, trivial⟩) :
            Prog (TpuEff nD τ sig (Elt F) Λ₀ (tile d i).2) PUnit)
          fun _ => (Flight EC (tile d i) (.dma sin.sem) ι (inAmt src) (fetched d i X src g hg) : sProp 𝕄) := by
  have hs : (xReg d i g (g + 1)) = (xChunk i g hg).view.set := (xChunk_set i g hg).symm
  unfold fetched
  rw [hs]
  have hu : src.view.set = Finset.univ := hsrc.set_eq_univ
  iintro ⟨⟨%f, Hb⟩, Hs, Hx⟩
  iapply (wp_dmaLocal EC 𝒱 (tile d i) bd ι (inAmt src) rfl (View.dmaCredit_pos _ (by decide)) (Finset.subset_univ _)) $$ [Hb Hs Hx]
  · isplitl [Hx]
    · iexact Hx
    · isplitl [Hb]
      · iexact Hb
      · iexact Hs
  iintro Hf
  simp only [wp_ret]
  imodintro
  iapply (Flight_mono EC (tile d i) ?_) $$ Hf
  iintro ⟨H1, H2⟩
  isplitl [H1]
  · iexists _
    isplitl [H1]
    · iexact H1
    · ipureintro
      exact View.read_write_univ ..
  · iexact H2

include hdst in
/-- A store issued. -/
theorem wp_store (g : ℕ) (hg : g < 64) (hT : dst.view.WordExact) (o : Buf (Elt F) (dst.view.loc (tile d i)))
    (ho : Pooled (xPart i g hg X) (dst.view.read (Elt F) o) 256) :
    iprop((dst.view.loc (tile d i) ↦{fullShare} o) ∗ semVal ((tile d i), SemLoc.dma sout.sem) 0 ∗ (∃ f, oLoc d i ↦[oReg d i g (g + 1)]{fullShare} f))
      ⊢ wp frame (wpE defs 𝒱 (tile d i) bd) Set.univ
          (Prog.lift (.enqueueDma dst (.here (oChunk i g hg)) (.dma sout.sem) hT (View.wordExact_bits rfl) ⟨Or.inl rfl, trivial⟩) :
            Prog (TpuEff nD τ sig (Elt F) Λ₀ (tile d i).2) PUnit)
          fun _ => (Flight EC (tile d i) (.dma sout.sem) ι (outAmt i) (stored d i X dst g) : sProp 𝕄) := by
  have hs : (oReg d i g (g + 1)) = (oChunk i g hg).view.set := (oChunk_set i g hg).symm
  unfold stored ready
  rw [hs]
  have hu : dst.view.set = Finset.univ := hdst.set_eq_univ
  have hv : ∀ f : Buf (Elt F) (oLoc d i), ∀ y ∈ (oChunk i g hg).view.set,
      (oChunk i g hg).view.write (Elt F) f (ReadAs.same.apply (dst.view.read (Elt F) o)) Finset.univ y = outSpec X y := by
    intro f y hy
    obtain ⟨x, -, rfl⟩ := Finset.mem_map.mp hy
    rw [View.write_emb_of_mem _ _ (Finset.mem_univ _)]
    exact (cast_eq _ _).trans (pooled_out i g hg X _ ho x)
  iintro ⟨Hb, Hs, %f, Hx⟩
  iapply (wp_dmaLocal EC 𝒱 (tile d i) bd ι (outAmt i) rfl (View.dmaCredit_pos _ (by decide)) (Finset.Subset.refl _)) $$ [Hb Hs Hx]
  · isplitl [Hb]
    · rw [hu]
      iexact Hb
    · isplitl [Hx]
      · iexact Hx
      · iexact Hs
  rw [pointsTo_congr (hv f), hu]
  iintro Hf
  simp only [wp_ret]
  imodintro
  iapply (Flight_mono EC (tile d i) ?_) $$ Hf
  iintro ⟨H1, H2⟩
  isplitl [H1]
  · iexact H1
  · iexists o
    isplitl [H2]
    · iexact H2
    · ipureintro
      exact fun X' => ho.again X'

/-- A transfer waited for. -/
theorem wp_await {N : ℕ} {D : sProp 𝕄} (sem : DmaSems sig S_) {sp sp' : Space} {s s' : Shape} {e e' : EltTy}
    (srcw : Memref sig .scVector sp' s' e') (dstw : Memref sig .scVector sp s e) (h1 : srcw.view.WordExact) (h2 : dstw.view.WordExact)
    (hN : dstw.view.dmaCredit = N) :
    iprop(Flight EC (tile d i) (.dma sem.sem) ι N D ∗ MayWaits (tile d i) ι O ∗ owing ι d i O W)
      ⊢ wp frame (wpE defs 𝒱 (tile d i) bd) Set.univ
          (Prog.lift (.waitDma2 sem.sem srcw dstw h1 h2) : Prog (TpuEff nD τ sig (Elt F) Λ₀ (tile d i).2) PUnit)
          fun _ => (iprop(D ∗ semVal ((tile d i), SemLoc.dma sem.sem) 0 ∗ MayWaits (tile d i) ι O ∗ owing ι d i O W) : sProp 𝕄) := by
  iintro ⟨Hf, #Hm, Ho⟩
  unfold owing
  icases Ho with ⟨%W', %hW', Ho⟩
  iapply (wp_waitLocalO EC 𝒱 (tile d i) bd ι hN) $$ [Hf Ho]
  · isplitl [Hf]
    · iexact Hf
    · isplitl [Ho]
      · iexact Ho
      · iapply (MayWaits.elim (SemLoc.dma sem.sem)) $$ Hm
  iintro ⟨HD, Hs, Ho⟩
  simp only [wp_ret]
  imodintro
  isplitl [HD]
  · iexact HD
  isplitl [Hs]
  · iexact Hs
  isplitr [Ho]
  · iexact Hm
  · have hw := owing_insert (F := F) (Name := Name) (U := U) (Lvl := Lvl) ι d i O W hW' (SemLoc.dma sem.sem)
    unfold owing at hw
    iapply hw $$ Ho

/-! ## A chunk -/

omit [FloatOps F] [DecidableEq Ix] [DecidableEq Name] [URA U] [Preorder Lvl] in
/-- A chunk as its five steps one after the other. -/
theorem chunk_seq [FloatOps F] (v32 g0 g1 g2 g3 g4 g5 g6 g7 : IVec S16 32) (cur : Memref sig .scVector .hbm S8x4096 .f32)
    (c1 : Prop) [Decidable c1] (old : c1 → Memref sig .scVector .hbm S8x1024 .f32)
    (new : Memref sig .scVector .hbm S8x1024 .f32) (c2 : Prop) [Decidable c2] (nxt : c2 → Memref sig .scVector .hbm S8x4096 .f32) :
    (chunk (F := F) i src hsrc dst hdst sin sout v32 g0 g1 g2 g3 g4 g5 g6 g7 cur c1 old new c2 nxt)
      = Prog.lift (.waitDma2 sin.sem cur src (View.wordExact_bits rfl) hsrc.wordExact) >>= fun _ =>
        (if h : c1 then Prog.lift (.waitDma2 sout.sem dst (old h) hdst.wordExact (View.wordExact_bits rfl)) else Pure.pure ⟨⟩) >>= fun _ =>
        (Scf.Loop.for k0_t3_loop k0_t3_ok () fun (t : Fin k0_t3_loop.trips) (_ : Unit) =>
          (trip i src dst v32 g0 g1 g2 g3 g4 g5 g6 g7 (Scf.iv 0#32 1#32 t) : Prog _ Unit)) >>= fun _ =>
        Prog.lift (.enqueueDma dst (.here new) (.dma sout.sem) hdst.wordExact (View.wordExact_bits rfl) ⟨Or.inl rfl, trivial⟩) >>= fun _ =>
        (if h : c2 then Prog.lift (.enqueueDma (nxt h) (.here src) (.dma sin.sem) (View.wordExact_bits rfl) hsrc.wordExact ⟨Or.inl rfl, trivial⟩)
          else Pure.pure ⟨⟩) := by
  unfold chunk
  by_cases h1 : c1 <;> simp only [h1, ↓reduceDIte, pure_bind]

include hsrc hdst in
/-- A chunk: both of its buffer's waits, the pooling, and both of the copies it starts. -/
theorem wp_chunk (g : ℕ) (hg : g < 64) (cur : Memref sig .scVector .hbm S8x4096 .f32) (c1 : Prop) [Decidable c1] (hc1 : c1 ↔ 2 ≤ g)
    (old : c1 → Memref sig .scVector .hbm S8x1024 .f32) (hold : ∀ h, (old h).view.dmaCredit = outAmt i)
    (new : Memref sig .scVector .hbm S8x1024 .f32) (hnew : new = oChunk i g hg) (c2 : Prop) [Decidable c2] (hc2 : c2 ↔ g + 2 < 64)
    (nxt : c2 → Memref sig .scVector .hbm S8x4096 .f32) (hnxt : ∀ h, nxt h = xChunk i (g + 2) (hc2.mp h)) :
    iprop(fetching EC ι d i X src sin g ∗ storing EC ι d i X dst sout g ∗ held ι d i X O W g)
      ⊢ wp frame (wpE defs 𝒱 (tile d i) bd) Set.univ
          (chunk i src hsrc dst hdst sin sout iotaV (off 0#32) (off 1#32) (off 2#32) (off 3#32) (off 4#32) (off 5#32) (off 6#32) (off 7#32)
            cur c1 old new c2 nxt)
          fun _ => (iprop(fetching EC ι d i X src sin (g + 2) ∗ storing EC ι d i X dst sout (g + 2) ∗ held ι d i X O W (g + 1)) : sProp 𝕄) := by
  subst hnew
  rw [chunk_seq]
  -- the chunk has come in
  refine wp_seq defs 𝒱 bd (R := (iprop((∃ f, (src.view.loc (tile d i) ↦{fullShare} f) ∗ ⌜src.view.read (Elt F) f = xPart i g hg X⌝)
    ∗ semVal ((tile d i), SemLoc.dma sin.sem) 0 ∗ storing EC ι d i X dst sout g
    ∗ (xLoc d i ↦[xReg d i 0 (g + 1)]{fullShare} X) ∗ (xLoc d i ↦[xReg d i (g + 2) 64]{fullShare} X)
    ∗ (oLoc d i ↦[oReg d i 0 (g - 2)]{fullShare} outSpec X) ∗ (∃ f, oLoc d i ↦[oReg d i g 64]{fullShare} f)
    ∗ MayWaits (tile d i) ι O ∗ owing ι d i O W) : sProp 𝕄)) ?_ ?_
  · unfold fetching held
    rw [dif_pos hg]
    iintro ⟨Hf, Hst, Hx0, Hx1, Ho0, Ho1, Hm, Hw⟩
    ihave H := (wp_await EC ι defs 𝒱 bd d i O W sin cur src (View.wordExact_bits rfl) hsrc.wordExact rfl) $$ [Hf Hm Hw]
    · isplitl [Hf]
      · iexact Hf
      · isplitl [Hm]
        · iexact Hm
        · iexact Hw
    iapply (wp_wand_r frame (wpE defs 𝒱 (tile d i) bd))
    isplitl [H]
    · iexact H
    iintro %_ ⟨HD, Hs, Hm, Hw⟩
    unfold fetched
    icases HD with ⟨Hb, Hx⟩
    isplitl [Hb]
    · iexact Hb
    isplitl [Hs]
    · iexact Hs
    isplitl [Hst]
    · iexact Hst
    isplitl [Hx0 Hx]
    · iapply (x_join d i X g)
      isplitl [Hx0]
      · iexact Hx0
      · iexact Hx
    isplitl [Hx1]
    · iexact Hx1
    isplitl [Ho0]
    · iexact Ho0
    isplitl [Ho1]
    · iexact Ho1
    isplitl [Hm]
    · iexact Hm
    · iexact Hw
  -- the buffer's previous store is over
  refine wp_seq defs 𝒱 bd (R := (iprop((∃ f, (src.view.loc (tile d i) ↦{fullShare} f) ∗ ⌜src.view.read (Elt F) f = xPart i g hg X⌝)
    ∗ semVal ((tile d i), SemLoc.dma sin.sem) 0 ∗ ready d i dst ∗ semVal ((tile d i), SemLoc.dma sout.sem) 0
    ∗ (xLoc d i ↦[xReg d i 0 (g + 1)]{fullShare} X) ∗ (xLoc d i ↦[xReg d i (g + 2) 64]{fullShare} X)
    ∗ (oLoc d i ↦[oReg d i 0 (g + 1 - 2)]{fullShare} outSpec X) ∗ (∃ f, oLoc d i ↦[oReg d i g 64]{fullShare} f)
    ∗ MayWaits (tile d i) ι O ∗ owing ι d i O W) : sProp 𝕄)) ?_ ?_
  · by_cases h2 : 2 ≤ g
    · have hc : c1 := hc1.mpr h2
      rw [dif_pos hc]
      unfold storing
      rw [if_pos h2]
      iintro ⟨Hb, Hs, Hst, Hx0, Hx1, Ho0, Ho1, Hm, Hw⟩
      ihave H := (wp_await EC ι defs 𝒱 bd d i O W sout dst (old hc) hdst.wordExact (View.wordExact_bits rfl) (hold hc)) $$ [Hst Hm Hw]
      · isplitl [Hst]
        · iexact Hst
        · isplitl [Hm]
          · iexact Hm
          · iexact Hw
      iapply (wp_wand_r frame (wpE defs 𝒱 (tile d i) bd))
      isplitl [H]
      · iexact H
      iintro %_ ⟨HD, Hs', Hm, Hw⟩
      unfold stored
      icases HD with ⟨Ho, Hd⟩
      isplitl [Hb]
      · iexact Hb
      isplitl [Hs]
      · iexact Hs
      isplitl [Hd]
      · iexact Hd
      isplitl [Hs']
      · iexact Hs'
      isplitl [Hx0]
      · iexact Hx0
      isplitl [Hx1]
      · iexact Hx1
      isplitl [Ho0 Ho]
      · have e : g + 1 - 2 = (g - 2) + 1 := by omega
        rw [e]
        iapply (o_join d i (g - 2) (outSpec X))
        isplitl [Ho0]
        · iexact Ho0
        · iexact Ho
      isplitl [Ho1]
      · iexact Ho1
      isplitl [Hm]
      · iexact Hm
      · iexact Hw
    · have hc : ¬ c1 := fun h => h2 (hc1.mp h)
      have e : g + 1 - 2 = g - 2 := by omega
      rw [dif_neg hc, e]
      unfold storing
      rw [if_neg h2]
      iintro ⟨Hb, Hs, ⟨Hd, Hs'⟩, Hr⟩
      simp only [wp_pure]
      imodintro
      isplitl [Hb]
      · iexact Hb
      isplitl [Hs]
      · iexact Hs
      isplitl [Hd]
      · iexact Hd
      isplitl [Hs']
      · iexact Hs'
      · iexact Hr
  -- the pooling
  refine wp_seq defs 𝒱 bd (R := (iprop((∃ f, src.view.loc (tile d i) ↦{fullShare} f)
    ∗ semVal ((tile d i), SemLoc.dma sin.sem) 0
    ∗ (∃ o, (dst.view.loc (tile d i) ↦{fullShare} o) ∗ ⌜Pooled (xPart i g hg X) (dst.view.read (Elt F) o) 256⌝)
    ∗ semVal ((tile d i), SemLoc.dma sout.sem) 0
    ∗ (xLoc d i ↦[xReg d i 0 (g + 1)]{fullShare} X) ∗ (xLoc d i ↦[xReg d i (g + 2) 64]{fullShare} X)
    ∗ (oLoc d i ↦[oReg d i 0 (g + 1 - 2)]{fullShare} outSpec X) ∗ (∃ f, oLoc d i ↦[oReg d i g 64]{fullShare} f)
    ∗ MayWaits (tile d i) ι O ∗ owing ι d i O W) : sProp 𝕄)) ?_ ?_
  · unfold ready
    iintro ⟨⟨%f, Hb, %hf⟩, Hs, ⟨%o, Hd, %ho⟩, Hr⟩
    ihave H := (wp_pool defs 𝒱 bd d i src hsrc dst hdst f) $$ [Hb Hd]
    · unfold poolAt
      isplitl [Hb]
      · iexact Hb
      · iexists o
        isplitl [Hd]
        · iexact Hd
        · ipureintro
          exact ho _
    iapply (wp_wand_r frame (wpE defs 𝒱 (tile d i) bd))
    isplitl [H]
    · iexact H
    iintro %_ HD
    unfold poolAt
    icases HD with ⟨Hb, %o', Hd, %ho'⟩
    rw [hf] at ho'
    isplitl [Hb]
    · iexists f
      iexact Hb
    isplitl [Hs]
    · iexact Hs
    isplitl [Hd]
    · iexists o'
      isplitl [Hd]
      · iexact Hd
      · ipureintro
        exact ho'
    · iexact Hr
  -- the store starts
  refine wp_seq defs 𝒱 bd (R := (iprop((∃ f, src.view.loc (tile d i) ↦{fullShare} f)
    ∗ semVal ((tile d i), SemLoc.dma sin.sem) 0 ∗ storing EC ι d i X dst sout (g + 2)
    ∗ (xLoc d i ↦[xReg d i 0 (g + 1)]{fullShare} X) ∗ (xLoc d i ↦[xReg d i (g + 2) 64]{fullShare} X)
    ∗ (oLoc d i ↦[oReg d i 0 (g + 1 - 2)]{fullShare} outSpec X) ∗ (∃ f, oLoc d i ↦[oReg d i (g + 1) 64]{fullShare} f)
    ∗ MayWaits (tile d i) ι O ∗ owing ι d i O W) : sProp 𝕄)) ?_ ?_
  · have e : storing EC ι d i X dst sout (g + 2) = Flight EC (tile d i) (.dma sout.sem) ι (outAmt i) (stored d i X dst g) := by
      unfold storing
      rw [if_pos (by omega : 2 ≤ g + 2), Nat.add_sub_cancel]
    rw [e]
    iintro ⟨Hb, Hs, ⟨%o, Hd, %ho⟩, Hs', Hx0, Hx1, Ho0, ⟨%f, Ho1⟩, Hm, Hw⟩
    ihave Ho1 := (o_take d i g hg f) $$ Ho1
    icases Ho1 with ⟨Ho, Ho1⟩
    ihave H := (wp_store EC ι defs 𝒱 bd d i X dst hdst sout g hg hdst.wordExact o ho) $$ [Hd Hs' Ho]
    · isplitl [Hd]
      · iexact Hd
      isplitl [Hs']
      · iexact Hs'
      · iexists f
        iexact Ho
    iapply (wp_wand_r frame (wpE defs 𝒱 (tile d i) bd))
    isplitl [H]
    · iexact H
    iintro %_ HD
    isplitl [Hb]
    · iexact Hb
    isplitl [Hs]
    · iexact Hs
    isplitl [HD]
    · iexact HD
    isplitl [Hx0]
    · iexact Hx0
    isplitl [Hx1]
    · iexact Hx1
    isplitl [Ho0]
    · iexact Ho0
    isplitl [Ho1]
    · iexists f
      iexact Ho1
    isplitl [Hm]
    · iexact Hm
    · iexact Hw
  -- the next fetch starts
  unfold held
  by_cases h2 : g + 2 < 64
  · have hc : c2 := hc2.mpr h2
    rw [dif_pos hc, hnxt hc]
    have e : fetching EC ι d i X src sin (g + 2) = Flight EC (tile d i) (.dma sin.sem) ι (inAmt src) (fetched d i X src (g + 2) h2) := by
      unfold fetching
      rw [dif_pos h2]
    rw [e]
    iintro ⟨Hb, Hs, Hst, Hx0, Hx1, Hr⟩
    ihave Hx1 := (x_take d i X (g + 2) h2) $$ Hx1
    icases Hx1 with ⟨Hx, Hx1⟩
    ihave H := (wp_fetch EC ι defs 𝒱 bd d i X src hsrc sin (g + 2) h2 hsrc.wordExact) $$ [Hb Hs Hx]
    · isplitl [Hb]
      · iexact Hb
      isplitl [Hs]
      · iexact Hs
      · iexact Hx
    iapply (wp_wand_r frame (wpE defs 𝒱 (tile d i) bd))
    isplitl [H]
    · iexact H
    iintro %_ HD
    isplitl [HD]
    · iexact HD
    isplitl [Hst]
    · iexact Hst
    isplitl [Hx0]
    · iexact Hx0
    isplitl [Hx1]
    · iexact Hx1
    · iexact Hr
  · have hc : ¬ c2 := fun h => h2 (hc2.mp h)
    rw [dif_neg hc]
    have e : fetching EC ι d i X src sin (g + 2)
        = iprop((∃ f, src.view.loc (tile d i) ↦{fullShare} f) ∗ semVal ((tile d i), SemLoc.dma sin.sem) 0) := by
      unfold fetching
      rw [dif_neg h2]
    have hx : xReg d i (g + 2) 64 = xReg d i (g + 1 + 2) 64 := (region_past (by omega)).trans (region_past (by omega)).symm
    rw [e, hx]
    iintro ⟨Hb, Hs, Hst, Hr⟩
    simp only [wp_pure]
    imodintro
    isplitl [Hb Hs]
    · isplitl [Hb]
      · iexact Hb
      · iexact Hs
    isplitl [Hst]
    · iexact Hst
    · iexact Hr

end

end Cert.Proof.Pool

end
-- ==== Proof.Tile.lean ====
/-
  A tile's whole run (`wp_kernel`): from its segment of the transposed input, its segment of the result at anything, its four
  buffers and its four semaphores at zero, to the result's values in its segment, with everything else handed back.
-/
module

public import proofs.«01_k».proof.Proof.Pipe
public import Idealize.ShloMosaic.Lib.Writes

@[expose] public section

noncomputable section

namespace Cert.Proof.Pool

open Cert.KernelIdeal Cert.KernelIdeal.Gen
open Idealize.ShloMosaic
open Idealize.ShloMosaic.SparseCore (S V T)
open Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F] {Ix : Type} [DecidableEq Ix] {Name : Type} [DecidableEq Name] {U : Type} [URA U] {Lvl : Type} [Preorder Lvl]

local notation "𝕄" => MT nD τ sig Ix (Elt F) Name U Lvl

/-! ## The output buffers cleared -/

theorem off2_row : ∀ t : Fin k0_t1_loop.trips, k0_off2 t 0 = t.val / 64 := by decide +kernel
theorem off2_col : ∀ t : Fin k0_t1_loop.trips, k0_off2 t 1 = 16 * (t.val % 64) := by decide +kernel
theorem trips1 : k0_t1_loop.trips = 512 := by decide +kernel
theorem trips2 : k0_t2_loop.trips = 32 := by decide +kernel

/-- Sixteen zeros. -/
abbrev zeros16 : Vec F S1x16 .f32 := shapeCast S1x16 k0_pay329 shapeCasts_S16_S1x16

/-- The vector that trip `t` clears. -/
abbrev clearRect (t : Fin k0_t1_loop.trips) : Rect S8x1024 := Rect.unit (s := S8x1024) (k0_off2 t) S1x16.size (k0_off2_inb t)

theorem cleared_hit (dst : Memref sig .scVector .vmem S8x1024 .f32) (o : dst.view.ty.Contents (Elt F)) (t : Fin k0_t1_loop.trips)
    (y : S8x1024.Idx) (hy : y ∈ (clearRect t).set) :
    dst.view.read (Elt F) ((dst.access (clearRect t)).write (Elt F) o zeros16 Finset.univ) y = zeroF := by
  rw [← Rect.map_emb_univ] at hy
  obtain ⟨x, -, hx⟩ := Finset.mem_map.mp hy
  refine (congrFun (congrArg (dst.view.read (Elt F)) (View.writes_singleton dst.view o (clearRect t) zeros16).symm) y).trans ?_
  rw [← hx]
  exact (View.read_writes_cons_emb _ _ _ _ _ x).trans rfl

omit [FloatOps F] in
theorem cleared_miss (dst : Memref sig .scVector .vmem S8x1024 .f32) (o : dst.view.ty.Contents (Elt F)) (t : Fin k0_t1_loop.trips)
    (w : Vec F S1x16 .f32) (y : S8x1024.Idx) (hy : y ∉ (clearRect t).set) :
    dst.view.read (Elt F) ((dst.access (clearRect t)).write (Elt F) o w Finset.univ) y = dst.view.read (Elt F) o y :=
  (congrFun (congrArg (dst.view.read (Elt F)) (View.writes_singleton dst.view o (clearRect t) w).symm) y).trans
    (View.read_writes_cons_miss dst.view o ⟨clearRect t, w⟩ [] y hy)

theorem mem_clearRect (t : Fin k0_t1_loop.trips) (y : S8x1024.Idx) :
    y ∈ (clearRect t).set ↔ (y 0).val = t.val / 64 ∧ 16 * (t.val % 64) ≤ (y 1).val ∧ (y 1).val < 16 * (t.val % 64) + 16 := by
  have hr := off2_row t
  have hc := off2_col t
  rw [Rect.mem_set_unit]
  constructor
  · intro h
    have a0 := h 0
    have a1 := h 1
    change k0_off2 t 0 ≤ (y 0).val ∧ (y 0).val < k0_off2 t 0 + 1 at a0
    change k0_off2 t 1 ≤ (y 1).val ∧ (y 1).val < k0_off2 t 1 + 16 at a1
    omega
  · rintro ⟨a0, a1, a2⟩ a
    match a with
    | 0 => show k0_off2 t 0 ≤ (y 0).val ∧ (y 0).val < k0_off2 t 0 + 1; omega
    | 1 => show k0_off2 t 1 ≤ (y 1).val ∧ (y 1).val < k0_off2 t 1 + 16; omega

theorem Cleared.step (dst : Memref sig .scVector .vmem S8x1024 .f32) (o : dst.view.ty.Contents (Elt F)) (t : Fin k0_t1_loop.trips)
    (h : Cleared (dst.view.read (Elt F) o) t.val) :
    Cleared (dst.view.read (Elt F) ((dst.access (clearRect t)).write (Elt F) o zeros16 Finset.univ)) (t.val + 1) := by
  intro r q hrq
  have hq : q.val < 1024 := q.isLt
  by_cases hm : ValueIdx.ix2 r q ∈ (clearRect t).set
  · exact cleared_hit dst o t _ hm
  · refine (cleared_miss dst o t _ _ hm).trans (h r q ?_)
    rw [mem_clearRect] at hm
    change ¬ (r.val = t.val / 64 ∧ 16 * (t.val % 64) ≤ q.val ∧ q.val < 16 * (t.val % 64) + 16) at hm
    omega

variable (EC : UEmb Counters (MT nD τ sig Ix (Elt F) Name U Lvl)) (ι : Ix)
  (defs : Defs nD τ sig (Elt F) Λ₀) (𝒱 : Variants) (bd : Option 𝒱.V) (d : Dev nD) (i : grid0.Coords)

section

variable (dst dst' : Memref sig .scVector .vmem S8x1024 .f32)

/-- An output buffer whose first `n` vectors are zeros. -/
def clearAt (n : ℕ) : sProp 𝕄 :=
  iprop(∃ o, (dst.view.loc (tile d i) ↦{fullShare} o) ∗ ⌜Cleared (dst.view.read (Elt F) o) n⌝)

theorem wp_clear (t : Fin k0_t1_loop.trips) (u : Unit) :
    iprop(clearAt d i dst t.val ∗ clearAt d i dst' t.val)
      ⊢ wp frame (wpE defs 𝒱 (tile d i) bd) Set.univ (clearBody i dst dst' t u)
          fun _ => (iprop(clearAt d i dst (t.val + 1) ∗ clearAt d i dst' (t.val + 1)) : sProp 𝕄) := by
  unfold clearAt clearBody
  simp only [Prog.lift, Prog.bind_op, Prog.bind_ret, Prog.pure_eq_ret]
  iintro ⟨⟨%o, Ho, %ho⟩, %o', Ho', %ho'⟩
  iapply (Idealize.ShloMosaic.wp_load 𝒱 (tile d i) bd Set.univ (Finset.subset_univ _)) $$ Ho
  iintro Ho
  iapply (Idealize.ShloMosaic.wp_store 𝒱 (tile d i) bd Set.univ (m := dst) (r := clearRect t) (f := o) (Finset.subset_univ _)) $$ Ho
  iintro Ho
  iapply (Idealize.ShloMosaic.wp_load 𝒱 (tile d i) bd Set.univ (Finset.subset_univ _)) $$ Ho'
  iintro Ho'
  iapply (Idealize.ShloMosaic.wp_store 𝒱 (tile d i) bd Set.univ (m := dst') (r := clearRect t) (f := o') (Finset.subset_univ _)) $$ Ho'
  iintro Ho'
  simp only [wp_ret]
  imodintro
  isplitl [Ho]
  · iexists _
    isplitl [Ho]
    · iexact Ho
    · ipureintro
      exact ho.step dst o t
  · iexists _
    isplitl [Ho']
    · iexact Ho'
    · ipureintro
      exact ho'.step dst' o' t

set_option maxRecDepth 8192 in
theorem wp_clears :
    iprop((∃ o, dst.view.loc (tile d i) ↦{fullShare} o) ∗ (∃ o, dst'.view.loc (tile d i) ↦{fullShare} o))
      ⊢ wp frame (wpE defs 𝒱 (tile d i) bd) Set.univ (Scf.Loop.for k0_t1_loop k0_t1_ok () (clearBody i dst dst'))
          fun _ => (iprop(ready d i dst ∗ ready d i dst') : sProp 𝕄) := by
  refine BIBase.Entails.trans ?_ (Scf.wp_for (M := 𝕄) frame (wpE defs 𝒱 (tile d i) bd) Set.univ _ _ _ k0_t1_ok () _
    (fun k _ => iprop(clearAt d i dst k ∗ clearAt d i dst' k)) ?_)
  rotate_left
  · rintro t u
    exact wp_clear defs 𝒱 bd d i dst dst' t u
  have hend : ∀ m : Memref sig .scVector .vmem S8x1024 .f32, (clearAt d i m k0_t1_loop.trips : sProp 𝕄) ⊢ ready d i m := by
    intro m
    rw [trips1]
    unfold clearAt ready
    iintro ⟨%o, Ho, %ho⟩
    iexists o
    isplitl [Ho]
    · iexact Ho
    · ipureintro
      exact fun X' => ho.pooled X'
  iintro ⟨⟨%o, Ho⟩, %o', Ho'⟩
  isplitl [Ho Ho']
  · unfold clearAt
    isplitl [Ho]
    · iexists o
      isplitl [Ho]
      · iexact Ho
      · ipureintro
        exact fun r q h => absurd h (by omega)
    · iexists o'
      isplitl [Ho']
      · iexact Ho'
      · ipureintro
        exact fun r q h => absurd h (by omega)
  · iintro %_ ⟨H, H'⟩
    isplitl [H]
    · iapply (hend dst) $$ H
    · iapply (hend dst') $$ H'

end

/-! ## The pipeline -/

section

variable (X : Buf (Elt F) (xLoc d i)) (O : CellTallies nD τ sig Ix) (W : Waits sig Ix)
  (a4 : Memref sig .scVector .vmem S8x4096 .f32) (h4 : a4.IsWhole) (a5 : Memref sig .scVector .vmem S8x4096 .f32) (h5 : a5.IsWhole)
  (a6 : Memref sig .scVector .vmem S8x1024 .f32) (h6 : a6.IsWhole) (a7 : Memref sig .scVector .vmem S8x1024 .f32) (h7 : a7.IsWhole)
  (a8 a9 a10 a11 : DmaSems sig S_)

/-- Before chunk `g`, which goes through the even buffers: both buffers' copies and the rest. -/
def pipeAt (g : ℕ) : sProp 𝕄 :=
  iprop(fetching EC ι d i X a4 a8 g ∗ storing EC ι d i X a6 a10 g ∗ fetching EC ι d i X a5 a9 (g + 1) ∗ storing EC ι d i X a7 a11 (g + 1)
    ∗ Pool.held ι d i X O W g)

variable [Infinite Name] [EC.LandsIn (upEmb : UEmb _ (MT nD τ sig Ix (Elt F) Name U Lvl))]

theorem wp_pipe (t : Fin k0_t2_loop.trips) :
    (pipeAt EC ι d i X O W a4 a5 a6 a7 a8 a9 a10 a11 (2 * t.val) : sProp 𝕄)
      ⊢ wp frame (wpE defs 𝒱 (tile d i) bd) Set.univ (pipeBody i xM oM a4 h4 a5 h5 a6 h6 a7 h7 a8 a9 a10 a11 t)
          fun _ => pipeAt EC ι d i X O W a4 a5 a6 a7 a8 a9 a10 a11 (2 * (t.val + 1)) := by
  have ht : t.val < 32 := lt_of_lt_of_eq t.isLt trips2
  have E := wp_chunk EC ι defs 𝒱 bd d i X O W a4 h4 a6 h6 a8 a10 (2 * t.val) (by omega)
    (xM.slice (Rect.unit (s := S16x4194304) (k0_off3 i t 0#32) S8x4096.size (k0_off3_inb i t 0)) (fun _ => rfl))
    (k0_cond1 t = 1#1) (cond1_iff t)
    (fun h => oM.slice (Rect.unit (s := S16x1048576) (k0_off4 i t) S8x1024.size (k0_off4_inb i t h)) (fun _ => rfl)) (fun _ => rfl)
    (oM.slice (Rect.unit (s := S16x1048576) (k0_off5 i t 0#32) S8x1024.size (k0_off5_inb i t 0)) (fun _ => rfl))
    (Memref.slice_unit_congr oM (off5_eq i t 0) _ _ _ _)
    (k0_cond2 t = 1#1) (cond2_iff t)
    (fun h => xM.slice (Rect.unit (s := S16x4194304) (k0_off6 i t) S8x4096.size (k0_off6_inb i t h)) (fun _ => rfl))
    (fun h => Memref.slice_unit_congr xM (off6_eq i t h) _ _ _ _)
  have D := wp_chunk EC ι defs 𝒱 bd d i X O W a5 h5 a7 h7 a9 a11 (2 * t.val + 1) (by omega)
    (xM.slice (Rect.unit (s := S16x4194304) (k0_off3 i t 1#32) S8x4096.size (k0_off3_inb i t 1)) (fun _ => rfl))
    (k0_cond3 t = 1#1) (cond3_iff t)
    (fun h => oM.slice (Rect.unit (s := S16x1048576) (k0_off7 i t) S8x1024.size (k0_off7_inb i t h)) (fun _ => rfl)) (fun _ => rfl)
    (oM.slice (Rect.unit (s := S16x1048576) (k0_off5 i t 1#32) S8x1024.size (k0_off5_inb i t 1)) (fun _ => rfl))
    (Memref.slice_unit_congr oM (off5_eq i t 1) _ _ _ _)
    (k0_cond4 t = 1#1) (cond4_iff t)
    (fun h => xM.slice (Rect.unit (s := S16x4194304) (k0_off8 i t) S8x4096.size (k0_off8_inb i t h)) (fun _ => rfl))
    (fun h => Memref.slice_unit_congr xM (off8_eq i t h) _ _ _ _)
  have e : 2 * (t.val + 1) = 2 * t.val + 1 + 1 := by omega
  unfold pipeAt pipeBody
  rw [e]
  refine wp_seq defs 𝒱 bd (R := (iprop((fetching EC ι d i X a5 a9 (2 * t.val + 1) ∗ storing EC ι d i X a7 a11 (2 * t.val + 1)
    ∗ Pool.held ι d i X O W (2 * t.val + 1)) ∗ fetching EC ι d i X a4 a8 (2 * t.val + 2) ∗ storing EC ι d i X a6 a10 (2 * t.val + 2)) : sProp 𝕄)) ?_ ?_
  · iintro ⟨Hf, Hs, Hf', Hs', Hh⟩
    ihave H := E $$ [Hf Hs Hh]
    · isplitl [Hf]
      · iexact Hf
      isplitl [Hs]
      · iexact Hs
      · iexact Hh
    iapply (wp_wand_r frame (wpE defs 𝒱 (tile d i) bd))
    isplitl [H]
    · iexact H
    iintro %_ ⟨Hf, Hs, Hh⟩
    isplitl [Hf' Hs' Hh]
    · isplitl [Hf']
      · iexact Hf'
      isplitl [Hs']
      · iexact Hs'
      · iexact Hh
    isplitl [Hf]
    · iexact Hf
    · iexact Hs
  · iintro ⟨H, Hf, Hs⟩
    ihave H := D $$ H
    iapply (wp_wand_r frame (wpE defs 𝒱 (tile d i) bd))
    isplitl [H]
    · iexact H
    iintro %_ ⟨Hf', Hs', Hh⟩
    isplitl [Hf]
    · iexact Hf
    isplitl [Hs]
    · iexact Hs
    isplitl [Hf']
    · iexact Hf'
    isplitl [Hs']
    · iexact Hs'
    · iexact Hh

set_option maxRecDepth 8192 in
theorem wp_pipes :
    (pipeAt EC ι d i X O W a4 a5 a6 a7 a8 a9 a10 a11 0 : sProp 𝕄)
      ⊢ wp frame (wpE defs 𝒱 (tile d i) bd) Set.univ
          (Scf.Loop.for k0_t2_loop k0_t2_ok () fun (t : Fin k0_t2_loop.trips) (_ : Unit) =>
            (pipeBody i xM oM a4 h4 a5 h5 a6 h6 a7 h7 a8 a9 a10 a11 t : Prog _ Unit))
          fun _ => pipeAt EC ι d i X O W a4 a5 a6 a7 a8 a9 a10 a11 64 := by
  have ht : (64 : ℕ) = 2 * k0_t2_loop.trips := by rw [trips2]
  rw [ht]
  refine BIBase.Entails.trans ?_ (Scf.wp_for (M := 𝕄) frame (wpE defs 𝒱 (tile d i) bd) Set.univ _ _ _ k0_t2_ok () _
    (fun k _ => pipeAt EC ι d i X O W a4 a5 a6 a7 a8 a9 a10 a11 (2 * k)) ?_)
  rotate_left
  · rintro t _
    exact wp_pipe EC ι defs 𝒱 bd d i X O W a4 h4 a5 h5 a6 h6 a7 h7 a8 a9 a10 a11 t
  iintro H
  isplitl [H]
  · iexact H
  · iintro %_ H
    iexact H

/-! ## The kernel -/

/-- The buffers and the semaphores, idle. -/
def idle : sProp 𝕄 :=
  iprop((∃ f, a4.view.loc (tile d i) ↦{fullShare} f) ∗ (∃ f, a5.view.loc (tile d i) ↦{fullShare} f)
    ∗ (∃ f, a6.view.loc (tile d i) ↦{fullShare} f) ∗ (∃ f, a7.view.loc (tile d i) ↦{fullShare} f)
    ∗ semVal ((tile d i), SemLoc.dma a8.sem) 0 ∗ semVal ((tile d i), SemLoc.dma a9.sem) 0
    ∗ semVal ((tile d i), SemLoc.dma a10.sem) 0 ∗ semVal ((tile d i), SemLoc.dma a11.sem) 0)

omit [FloatOps F] [Infinite Name] [EC.LandsIn (upEmb : UEmb _ (MT nD τ sig Ix (Elt F) Name U Lvl))] in
theorem ready_any [FloatOps F] (dst : Memref sig .scVector .vmem S8x1024 .f32) :
    (ready d i dst : sProp 𝕄) ⊢ iprop(∃ f, dst.view.loc (tile d i) ↦{fullShare} f) := by
  unfold ready
  iintro ⟨%o, Ho, -⟩
  iexists o
  iexact Ho

omit [FloatOps F] [Infinite Name] [EC.LandsIn (upEmb : UEmb _ (MT nD τ sig Ix (Elt F) Name U Lvl))] in
theorem x_none (f : Buf (Elt F) (xLoc d i)) (lo hi : ℕ) (h : hi ≤ lo) : (xLoc d i ↦[xReg d i lo hi]{fullShare} f : sProp 𝕄) = iprop(emp) := by
  have e : xReg d i lo hi = ∅ := region_past h
  rw [e]
  exact pointsTo_empty

omit [FloatOps F] [Infinite Name] [EC.LandsIn (upEmb : UEmb _ (MT nD τ sig Ix (Elt F) Name U Lvl))] in
theorem o_none (f : Buf (Elt F) (oLoc d i)) (lo hi : ℕ) (h : hi ≤ lo) : (oLoc d i ↦[oReg d i lo hi]{fullShare} f : sProp 𝕄) = iprop(emp) := by
  have e : oReg d i lo hi = ∅ := region_past h
  rw [e]
  exact pointsTo_empty

/-- What a tile is given, and what it gives back: its segment of the input, the buffers and the semaphores, and what it owes. -/
def tileAt : sProp 𝕄 :=
  iprop(idle d i a4 a5 a6 a7 a8 a9 a10 a11 ∗ (xLoc d i ↦[xReg d i 0 64]{fullShare} X) ∗ MayWaits (tile d i) ι O ∗ owing ι d i O W)

include EC in
/-- The tile's run. -/
theorem wp_kernel (h2 : xM.IsWhole) (h3 : oM.IsWhole) :
    iprop(tileAt ι d i X O W a4 a5 a6 a7 a8 a9 a10 a11 ∗ (∃ f, oLoc d i ↦[oReg d i 0 64]{fullShare} f))
      ⊢ wp frame (wpE defs 𝒱 (tile d i) bd) Set.univ (cc0__mp_kernel (F := F) i xM h2 oM h3 a4 h4 a5 h5 a6 h6 a7 h7 a8 a9 a10 a11)
          fun _ => (iprop(tileAt ι d i X O W a4 a5 a6 a7 a8 a9 a10 a11 ∗ (oLoc d i ↦[oReg d i 0 64]{fullShare} outSpec X)) : sProp 𝕄) := by
  rw [kernel_eq]
  have e0 : xM.slice (Rect.unit (s := S16x4194304) (k0_off1 i 0#32) S8x4096.size (k0_off1_inb i 0)) (fun _ => rfl) = xChunk i 0 (by decide) :=
    Memref.slice_unit_congr xM (off1_eq i 0) _ _ _ _
  have e1 : xM.slice (Rect.unit (s := S16x4194304) (k0_off1 i 4096#32) S8x4096.size (k0_off1_inb i 1)) (fun _ => rfl) = xChunk i 1 (by decide) :=
    Memref.slice_unit_congr xM (off1_eq i 1) _ _ _ _
  have f0 : fetching EC ι d i X a4 a8 0 = Flight EC (tile d i) (.dma a8.sem) ι (inAmt a4) (fetched d i X a4 0 (by decide)) := by
    unfold fetching; rw [dif_pos (by decide : 0 < 64)]
  have f1 : fetching EC ι d i X a5 a9 1 = Flight EC (tile d i) (.dma a9.sem) ι (inAmt a5) (fetched d i X a5 1 (by decide)) := by
    unfold fetching; rw [dif_pos (by decide : 1 < 64)]
  rw [e0, e1]
  -- the first fetch
  refine wp_seq defs 𝒱 bd (R := (iprop(fetching EC ι d i X a4 a8 0 ∗ (xLoc d i ↦[xReg d i 1 64]{fullShare} X)
    ∗ ((∃ f, a5.view.loc (tile d i) ↦{fullShare} f) ∗ semVal ((tile d i), SemLoc.dma a9.sem) 0)
    ∗ ((∃ f, a6.view.loc (tile d i) ↦{fullShare} f) ∗ (∃ f, a7.view.loc (tile d i) ↦{fullShare} f))
    ∗ (semVal ((tile d i), SemLoc.dma a10.sem) 0 ∗ semVal ((tile d i), SemLoc.dma a11.sem) 0)
    ∗ (∃ f, oLoc d i ↦[oReg d i 0 64]{fullShare} f) ∗ MayWaits (tile d i) ι O ∗ owing ι d i O W) : sProp 𝕄)) ?_ ?_
  · rw [f0]
    unfold tileAt idle
    iintro ⟨⟨⟨H4, H5, H6, H7, H8, H9, H10, H11⟩, Hx, Hm, Hw⟩, Ho⟩
    ihave Hx := (x_take d i X 0 (by decide)) $$ Hx
    icases Hx with ⟨Hc, Hx⟩
    ihave H := (wp_fetch EC ι defs 𝒱 bd d i X a4 h4 a8 0 (by decide) h4.wordExact) $$ [H4 H8 Hc]
    · isplitl [H4]
      · iexact H4
      isplitl [H8]
      · iexact H8
      · iexact Hc
    iapply (wp_wand_r frame (wpE defs 𝒱 (tile d i) bd))
    isplitl [H]
    · iexact H
    iintro %_ HD
    isplitl [HD]
    · iexact HD
    isplitl [Hx]
    · iexact Hx
    isplitl [H5 H9]
    · isplitl [H5]
      · iexact H5
      · iexact H9
    isplitl [H6 H7]
    · isplitl [H6]
      · iexact H6
      · iexact H7
    isplitl [H10 H11]
    · isplitl [H10]
      · iexact H10
      · iexact H11
    isplitl [Ho]
    · iexact Ho
    isplitl [Hm]
    · iexact Hm
    · iexact Hw
  -- the second
  refine wp_seq defs 𝒱 bd (R := (iprop(((∃ f, a6.view.loc (tile d i) ↦{fullShare} f) ∗ (∃ f, a7.view.loc (tile d i) ↦{fullShare} f))
    ∗ fetching EC ι d i X a4 a8 0 ∗ fetching EC ι d i X a5 a9 1 ∗ (xLoc d i ↦[xReg d i 2 64]{fullShare} X)
    ∗ (semVal ((tile d i), SemLoc.dma a10.sem) 0 ∗ semVal ((tile d i), SemLoc.dma a11.sem) 0)
    ∗ (∃ f, oLoc d i ↦[oReg d i 0 64]{fullShare} f) ∗ MayWaits (tile d i) ι O ∗ owing ι d i O W) : sProp 𝕄)) ?_ ?_
  · rw [f1]
    iintro ⟨Hf, Hx, ⟨H5, H9⟩, Hb, Hs, Hr⟩
    ihave Hx := (x_take d i X 1 (by decide)) $$ Hx
    icases Hx with ⟨Hc, Hx⟩
    ihave H := (wp_fetch EC ι defs 𝒱 bd d i X a5 h5 a9 1 (by decide) h5.wordExact) $$ [H5 H9 Hc]
    · isplitl [H5]
      · iexact H5
      isplitl [H9]
      · iexact H9
      · iexact Hc
    iapply (wp_wand_r frame (wpE defs 𝒱 (tile d i) bd))
    isplitl [H]
    · iexact H
    iintro %_ HD
    isplitl [Hb]
    · iexact Hb
    isplitl [Hf]
    · iexact Hf
    isplitl [HD]
    · iexact HD
    isplitl [Hx]
    · iexact Hx
    isplitl [Hs]
    · iexact Hs
    · iexact Hr
  -- the output buffers cleared
  refine wp_seq defs 𝒱 bd (R := (pipeAt EC ι d i X O W a4 a5 a6 a7 a8 a9 a10 a11 0 : sProp 𝕄)) ?_ ?_
  · iintro ⟨Hb, Hf, Hf', Hx, ⟨H10, H11⟩, Ho, Hm, Hw⟩
    ihave H := (wp_clears defs 𝒱 bd d i a6 a7) $$ Hb
    iapply (wp_wand_r frame (wpE defs 𝒱 (tile d i) bd))
    isplitl [H]
    · iexact H
    iintro %_ ⟨H6, H7⟩
    unfold pipeAt storing Pool.held
    rw [if_neg (by decide), if_neg (by decide), x_none d i X 0 0 (le_refl _), o_none d i _ 0 (0 - 2) (Nat.sub_le _ _)]
    isplitl [Hf]
    · iexact Hf
    isplitl [H6 H10]
    · isplitl [H6]
      · iexact H6
      · iexact H10
    isplitl [Hf']
    · iexact Hf'
    isplitl [H7 H11]
    · isplitl [H7]
      · iexact H7
      · iexact H11
    isplitr
    · iempintro
    isplitl [Hx]
    · iexact Hx
    isplitr
    · iempintro
    isplitl [Ho]
    · iexact Ho
    isplitl [Hm]
    · iexact Hm
    · iexact Hw
  -- the pipeline
  refine wp_seq defs 𝒱 bd (wp_pipes EC ι defs 𝒱 bd d i X O W a4 h4 a5 h5 a6 h6 a7 h7 a8 a9 a10 a11) ?_
  have g4 : fetching EC ι d i X a4 a8 64 = iprop((∃ f, a4.view.loc (tile d i) ↦{fullShare} f) ∗ semVal ((tile d i), SemLoc.dma a8.sem) 0) := by
    unfold fetching; rw [dif_neg (by decide)]
  have g5 : fetching EC ι d i X a5 a9 (64 + 1) = iprop((∃ f, a5.view.loc (tile d i) ↦{fullShare} f) ∗ semVal ((tile d i), SemLoc.dma a9.sem) 0) := by
    unfold fetching; rw [dif_neg (by decide)]
  have s6 : storing EC ι d i X a6 a10 64 = Flight EC (tile d i) (.dma a10.sem) ι (outAmt i) (stored d i X a6 62) := by
    unfold storing; rw [if_pos (by decide)]
  have s7 : storing EC ι d i X a7 a11 (64 + 1) = Flight EC (tile d i) (.dma a11.sem) ι (outAmt i) (stored d i X a7 63) := by
    unfold storing; rw [if_pos (by decide)]
  unfold pipeAt
  rw [g4, g5, s6, s7]
  -- the last two stores are over
  refine wp_seq defs 𝒱 bd (R := (iprop((((∃ f, a4.view.loc (tile d i) ↦{fullShare} f) ∗ semVal ((tile d i), SemLoc.dma a8.sem) 0)
      ∗ ((∃ f, a5.view.loc (tile d i) ↦{fullShare} f) ∗ semVal ((tile d i), SemLoc.dma a9.sem) 0)
      ∗ ((∃ f, a6.view.loc (tile d i) ↦{fullShare} f) ∗ semVal ((tile d i), SemLoc.dma a10.sem) 0))
    ∗ (xLoc d i ↦[xReg d i 0 64]{fullShare} X) ∗ (oLoc d i ↦[oReg d i 0 63]{fullShare} outSpec X)
    ∗ Flight EC (tile d i) (.dma a11.sem) ι (outAmt i) (stored d i X a7 63) ∗ MayWaits (tile d i) ι O ∗ owing ι d i O W) : sProp 𝕄)) ?_ ?_
  · unfold Pool.held
    rw [x_none d i X (64 + 2) 64 (by decide)]
    iintro ⟨H4, Hst, H5, Hst', Hx, -, Ho, -, Hm, Hw⟩
    ihave H := (wp_await EC ι defs 𝒱 bd d i O W a10 a6
        (oM.slice (Rect.unit (s := S16x1048576) (k0_off9 i 253952#32) S8x1024.size (k0_off9_inb i 0)) (fun _ => rfl))
        h6.wordExact (View.wordExact_bits rfl) rfl) $$ [Hst Hm Hw]
    · isplitl [Hst]
      · iexact Hst
      isplitl [Hm]
      · iexact Hm
      · iexact Hw
    iapply (wp_wand_r frame (wpE defs 𝒱 (tile d i) bd))
    isplitl [H]
    · iexact H
    iintro %_ ⟨HD, Hs, Hm, Hw⟩
    unfold stored
    icases HD with ⟨Hc, Hd⟩
    isplitl [H4 H5 Hd Hs]
    · isplitl [H4]
      · iexact H4
      isplitl [H5]
      · iexact H5
      isplitl [Hd]
      · iapply (ready_any d i a6) $$ Hd
      · iexact Hs
    isplitl [Hx]
    · iexact Hx
    isplitl [Ho Hc]
    · iapply (o_join d i 62 (outSpec X))
      isplitl [Ho]
      · iexact Ho
      · iexact Hc
    isplitl [Hst']
    · iexact Hst'
    isplitl [Hm]
    · iexact Hm
    · iexact Hw
  · iintro ⟨⟨⟨H4, H8⟩, ⟨H5, H9⟩, H6, H10⟩, Hx, Ho, Hst, Hm, Hw⟩
    ihave H := (wp_await EC ι defs 𝒱 bd d i O W a11 a7
        (oM.slice (Rect.unit (s := S16x1048576) (k0_off9 i 258048#32) S8x1024.size (k0_off9_inb i 1)) (fun _ => rfl))
        h7.wordExact (View.wordExact_bits rfl) rfl) $$ [Hst Hm Hw]
    · isplitl [Hst]
      · iexact Hst
      isplitl [Hm]
      · iexact Hm
      · iexact Hw
    iapply (wp_wand_r frame (wpE defs 𝒱 (tile d i) bd))
    isplitl [H]
    · iexact H
    iintro %_ ⟨HD, H11, Hm, Hw⟩
    unfold stored
    icases HD with ⟨Hc, Hd⟩
    ihave H7 := (ready_any d i a7) $$ Hd
    unfold tileAt idle
    isplitr [Ho Hc]
    · isplitr [Hx Hm Hw]
      · isplitl [H4]
        · iexact H4
        isplitl [H5]
        · iexact H5
        isplitl [H6]
        · iexact H6
        isplitl [H7]
        · iexact H7
        isplitl [H8]
        · iexact H8
        isplitl [H9]
        · iexact H9
        isplitl [H10]
        · iexact H10
        · iexact H11
      isplitl [Hx]
      · iexact Hx
      isplitl [Hm]
      · iexact Hm
      · iexact Hw
    · iapply (o_join d i 63 (outSpec X))
      isplitl [Ho]
      · iexact Ho
      · iexact Hc

end

end Cert.Proof.Pool

end
-- ==== Proof.Launch.lean ====
/-
  The kernel's one SparseCore call as a launch: what each tile is handed and hands back (`P`), and a tile's task meeting that
  contract (`tileObl`). A tile gets its segment of the transposed input and its segment of the result array, and brings them
  back with the pooled values in the latter; a SparseCore's share is its sixteen tiles' segments.
-/
module

public import proofs.«01_k».proof.Defs
public import proofs.«01_k».proof.Proof.Tile
public import Idealize.ShloMosaic.Lib.SparseCore.Quiescent
public import Idealize.ShloMosaic.Lib.StableHlo.Run
public import Idealize.ShloMosaic.Lib.Pipeline.Kit
public import proofs.«01_k».proof.Proof.Gen.KernelIdeal

@[expose] public section

noncomputable section

namespace Cert.Proof.Launch

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Pool (region outSpec)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The ghost state: the handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the segments -/

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev cLoc (d : Dev nD) : Loc nD τ sig := (SparseCore.T d).loc main_arg2
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- Tile `(c, s)`'s segment of the transposed input, and of the result array. -/
abbrev xSeg (c s : ℕ) : Finset S16x4194304.Idx := region 4194304 4096 c s 0 64
abbrev oSeg (c s : ℕ) : Finset S16x1048576.Idx := region 1048576 1024 c s 0 64

variable [FloatOps F]

/-- The transposed input. -/
def xVal (d : Dev nD) : Vec F S16x4194304 .f32 := transpose S16x4194304 [1, 0] (m (aLoc d)) transposes_S4194304x16_S16x4194304_1_0

abbrev xAt (d : Dev nD) (c s : ℕ) : sProp 𝕄 := xLoc d ↦[xSeg c s]{fullShare} xVal m d
abbrev oAt (d : Dev nD) (c s : ℕ) (f : Buf (Elt F) (oLoc d)) : sProp 𝕄 := oLoc d ↦[oSeg c s]{fullShare} f

/-- What tile `(c, s)` is handed, the result array at its launch contents, and what it hands back. -/
def before (d : Dev nD) (c s : ℕ) : sProp 𝕄 := iprop(xAt m d c s ∗ oAt d c s (m (oLoc d)))
def after (d : Dev nD) (c s : ℕ) : sProp 𝕄 := iprop(xAt m d c s ∗ oAt d c s (outSpec (xVal m d)))

instance before_storable (d : Dev nD) (c s : ℕ) : BI.Storable (upEmb : UEmb _ 𝕄) (before m d c s) := by
  unfold before; infer_instance
instance after_storable (d : Dev nD) (c s : ℕ) : BI.Storable (upEmb : UEmb _ 𝕄) (after m d c s) := by
  unfold after; infer_instance

/-- What the call carries: a tile its segments, a SparseCore its sixteen tiles'. -/
def P : (K (F := F)).Pay (nD := nD) (Val := Elt F) (Name := ℕ) (U := UU) where
  st := fun q d c => bigSep Finset.univ fun s : Fin ((K (F := F)).nSub q) => before m d c.val s.val
  dn := fun q d c => bigSep Finset.univ fun s : Fin ((K (F := F)).nSub q) => after m d c.val s.val
  go := fun _ d c s => before m d c.val s.val
  td := fun _ d c s => after m d c.val s.val
  x := fun _ _ => iprop(emp)

instance P_storable : (P (F := F) m).IsStorable where
  st _ d c := by unfold P; infer_instance
  dn _ d c := by unfold P; infer_instance
  go _ d c s := by unfold P; infer_instance
  td _ d c s := by unfold P; infer_instance

/-- A SparseCore's share is its tiles' by definition. -/
theorem vecSplit : (K (F := F)).VecSplit' (P m) 0 := by
  intro d c
  show (bigSep Finset.univ fun s : Fin ((K (F := F)).nSub 0) => before m d c.val s.val)
    ⊢ |={Set.univ}=> iprop((bigSep Finset.univ fun s : Fin ((K (F := F)).nSub 0) => before m d c.val s.val)
      ∗ ((bigSep Finset.univ fun s : Fin ((K (F := F)).nSub 0) => after m d c.val s.val)
        -∗ bigSep Finset.univ fun s : Fin ((K (F := F)).nSub 0) => after m d c.val s.val))
  iintro H
  imodintro
  isplitl [H]
  · iexact H
  iintro H
  iexact H

/-! ## A tile's task -/

section Tile

variable (d : Dev nD) (i : grid0.Coords)

abbrev cV : Fin τ.nSC := (i 0).castLE hcore0
abbrev jV : Fin τ.nSub := (i 1).castLE hsub0

abbrev cell (s : DmaSem sig) : GSem nD τ sig := (V d (cV i) (jV i), .dma s)

omit [FloatOps F] in
/-- The four transfer semaphores are among the tile's own. -/
theorem ownSems0_V :
    (ownSems0 (V d (cV i) (jV i)) : sProp 𝕄)
      = iprop(semVal (cell d i cc0_scratch4.sem) 0 ∗ semVal (cell d i cc0_scratch5.sem) 0 ∗ semVal (cell d i cc0_scratch6.sem) 0
          ∗ semVal (cell d i cc0_scratch7.sem) 0
          ∗ bigSep (((((ownCells (V d (cV i) (jV i))).erase (cell d i cc0_scratch4.sem)).erase (cell d i cc0_scratch5.sem)).erase
              (cell d i cc0_scratch6.sem)).erase (cell d i cc0_scratch7.sem)) fun g => semVal g 0) := by
  have own (s : DmaSem sig) (h : (SemLoc.dma s : SemLoc sig).isScoped .scVector = true) :
      cell d i s ∈ ownCells (V d (cV i) (jV i)) := mem_ownCells.mpr ⟨rfl, h⟩
  have ne {s t : DmaSem sig} (h : s ≠ t) : cell d i s ≠ cell d i t := fun e => h (SemLoc.dma.inj (Prod.mk.inj e).2)
  have m4 := own cc0_scratch4.sem (by decide)
  have m5 := Finset.mem_erase.mpr ⟨ne (show cc0_scratch5.sem ≠ cc0_scratch4.sem by decide), own cc0_scratch5.sem (by decide)⟩
  have m6 := Finset.mem_erase.mpr ⟨ne (show cc0_scratch6.sem ≠ cc0_scratch5.sem by decide),
    Finset.mem_erase.mpr ⟨ne (show cc0_scratch6.sem ≠ cc0_scratch4.sem by decide), own cc0_scratch6.sem (by decide)⟩⟩
  have m7 := Finset.mem_erase.mpr ⟨ne (show cc0_scratch7.sem ≠ cc0_scratch6.sem by decide),
    Finset.mem_erase.mpr ⟨ne (show cc0_scratch7.sem ≠ cc0_scratch5.sem by decide),
      Finset.mem_erase.mpr ⟨ne (show cc0_scratch7.sem ≠ cc0_scratch4.sem by decide), own cc0_scratch7.sem (by decide)⟩⟩⟩
  unfold SparseCore.Cfg.ownSems0
  rw [SparseCore.bigSep_erase' m4, SparseCore.bigSep_erase' m5, SparseCore.bigSep_erase' m6, SparseCore.bigSep_erase' m7]

abbrev ref (b : Ref sig .scVector) : DevRef τ sig := (Proc.scVector (cV i) (jV i)).devRef b

omit [FloatOps F] in
/-- The four staging buffers are among the tile's own. -/
theorem ownBufs_V :
    (ownBufs (V d (cV i) (jV i)) : sProp 𝕄)
      = iprop((∃ f, (V d (cV i) (jV i)).loc cc0_scratch0 ↦{fullShare} f) ∗ (∃ f, (V d (cV i) (jV i)).loc cc0_scratch1 ↦{fullShare} f)
          ∗ (∃ f, (V d (cV i) (jV i)).loc cc0_scratch2 ↦{fullShare} f) ∗ (∃ f, (V d (cV i) (jV i)).loc cc0_scratch3 ↦{fullShare} f)
          ∗ bigSep (((((ownRefs (τ := τ) (.scVector (cV i) (jV i))).erase (ref i cc0_scratch0)).erase (ref i cc0_scratch1)).erase
              (ref i cc0_scratch2)).erase (ref i cc0_scratch3)) fun b => iprop(∃ f, ((d, b) : Loc nD τ sig) ↦{fullShare} f)) := by
  have ne {s t : Ref sig .scVector} (h : s ≠ t) : ref i s ≠ ref i t := fun e => h (Proc.devRef_injective _ e)
  have m0 : ref i cc0_scratch0 ∈ ownRefs (τ := τ) (.scVector (cV i) (jV i)) := SparseCore.Cfg.mem_ownRefs_of_owner rfl
  have m1 : ref i cc0_scratch1 ∈ ownRefs (τ := τ) (.scVector (cV i) (jV i)) := SparseCore.Cfg.mem_ownRefs_of_owner rfl
  have m2 : ref i cc0_scratch2 ∈ ownRefs (τ := τ) (.scVector (cV i) (jV i)) := SparseCore.Cfg.mem_ownRefs_of_owner rfl
  have m3 : ref i cc0_scratch3 ∈ ownRefs (τ := τ) (.scVector (cV i) (jV i)) := SparseCore.Cfg.mem_ownRefs_of_owner rfl
  have e1 := Finset.mem_erase.mpr ⟨ne (show (cc0_scratch1 : Ref sig .scVector) ≠ cc0_scratch0 by decide), m1⟩
  have e2 := Finset.mem_erase.mpr ⟨ne (show (cc0_scratch2 : Ref sig .scVector) ≠ cc0_scratch1 by decide),
    Finset.mem_erase.mpr ⟨ne (show (cc0_scratch2 : Ref sig .scVector) ≠ cc0_scratch0 by decide), m2⟩⟩
  have e3 := Finset.mem_erase.mpr ⟨ne (show (cc0_scratch3 : Ref sig .scVector) ≠ cc0_scratch2 by decide),
    Finset.mem_erase.mpr ⟨ne (show (cc0_scratch3 : Ref sig .scVector) ≠ cc0_scratch1 by decide),
      Finset.mem_erase.mpr ⟨ne (show (cc0_scratch3 : Ref sig .scVector) ≠ cc0_scratch0 by decide), m3⟩⟩⟩
  unfold SparseCore.Cfg.ownBufs
  refine (SparseCore.bigSep_erase' m0).trans ?_
  rw [SparseCore.bigSep_erase' e1, SparseCore.bigSep_erase' e2, SparseCore.bigSep_erase' e3]

abbrev a4 : Memref sig .scVector .vmem S8x4096 .f32 := Memref.whole cc0_scratch0
abbrev a5 : Memref sig .scVector .vmem S8x4096 .f32 := Memref.whole cc0_scratch1
abbrev a6 : Memref sig .scVector .vmem S8x1024 .f32 := Memref.whole cc0_scratch2
abbrev a7 : Memref sig .scVector .vmem S8x1024 .f32 := Memref.whole cc0_scratch3

/-- The task at tile `i`, under the launch's contract. -/
theorem tile_body (hF : (K (F := F)).Facts) (O : CellTallies nD τ sig (HIx 1)) (W : Waits sig (HIx 1)) (hO : ∀ g, O g none = 0) :
    iprop(levAts (K (F := F)).L (K (F := F)).lev ∗ emp ∗ before m d (i 0).val (i 1).val
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0__mp_kernel (F := F) i (Memref.whole main_v0_scv) (Memref.isWhole_whole _) (Memref.whole main_v1_scv) (Memref.isWhole_whole _)
            a4 (Memref.isWhole_whole _) a5 (Memref.isWhole_whole _) a6 (Memref.isWhole_whole _) a7 (Memref.isWhole_whole _)
            cc0_scratch4 cc0_scratch5 cc0_scratch6 cc0_scratch7)
          fun _ => (iprop(after m d (i 0).val (i 1).val ∗ scopedBufs (V d (cV i) (jV i)) ∗ scopedSems0 (V d (cV i) (jV i))
            ∗ ∃ W', ⌜∀ p ∈ W', p ∈ W ∨ p.2 = none⌝ ∗ owes (V d (cV i) (jV i)) O W') : sProp 𝕄) := by
  have hk := Pool.wp_kernel (F := F)
    (countersEmb : UEmb Counters (MT nD τ sig (HIx 1) (Elt F) ℕ UU ℕ)) (none : HIx 1) (defs₀ (F := F)) 𝒱₀ none d i (xVal m d) O W
    a4 (Memref.isWhole_whole _) a5 (Memref.isWhole_whole _) a6 (Memref.isWhole_whole _) a7 (Memref.isWhole_whole _)
    cc0_scratch4 cc0_scratch5 cc0_scratch6 cc0_scratch7 (Memref.isWhole_whole _) (Memref.isWhole_whole _)
  unfold Pool.tileAt Pool.idle Pool.owing at hk
  rw [(K (F := F)).scopedBufs_V hF d (cV i) (jV i), SparseCore.Cfg.scopedSems0_V (Val := Elt F) d (cV i) (jV i), ownSems0_V, ownBufs_V]
  unfold before after
  iintro ⟨#Hlv, -, ⟨Hx, Ho⟩, ⟨H0, H1, H2, H3, Hbufs⟩, ⟨H4, H5, H6, H7, Hsems⟩, HO⟩
  ihave Hmw := ((K (F := F)).mayWaits_none (thr := V d (cV i) (jV i)) hO) $$ Hlv
  ihave H := hk $$ [H0 H1 H2 H3 H4 H5 H6 H7 Hx Ho Hmw HO]
  · isplitr [Ho]
    · isplitl [H0 H1 H2 H3 H4 H5 H6 H7]
      · isplitl [H0]
        · iexact H0
        isplitl [H1]
        · iexact H1
        isplitl [H2]
        · iexact H2
        isplitl [H3]
        · iexact H3
        isplitl [H4]
        · iexact H4
        isplitl [H5]
        · iexact H5
        isplitl [H6]
        · iexact H6
        · iexact H7
      isplitl [Hx]
      · iexact Hx
      isplitl [Hmw]
      · iexact Hmw
      iexists W
      isplitr
      · ipureintro; exact fun p hp => .inl hp
      · iexact HO
    · iexists _; iexact Ho
  iapply (wp_wand_r frame (wpE (defs₀ (F := F)) 𝒱₀ (V d (cV i) (jV i)) none))
  isplitl [H]
  · iexact H
  iintro %_ ⟨⟨⟨H0, H1, H2, H3, H4, H5, H6, H7⟩, Hx, -, Hw⟩, Ho⟩
  isplitl [Hx Ho]
  · isplitl [Hx]
    · iexact Hx
    · iexact Ho
  isplitl [H0 H1 H2 H3 Hbufs]
  · isplitl [H0]
    · iexact H0
    isplitl [H1]
    · iexact H1
    isplitl [H2]
    · iexact H2
    isplitl [H3]
    · iexact H3
    · iexact Hbufs
  isplitl [H4 H5 H6 H7 Hsems]
  · isplitl [H4]
    · iexact H4
    isplitl [H5]
    · iexact H5
    isplitl [H6]
    · iexact H6
    isplitl [H7]
    · iexact H7
    · iexact Hsems
  · iexact Hw

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__mp_kernel (F := F) (coordsV c s)
          (Memref.whole main_v0_scv) (Memref.isWhole_whole _) (Memref.whole main_v1_scv) (Memref.isWhole_whole _)
          a4 (Memref.isWhole_whole _) a5 (Memref.isWhole_whole _) a6 (Memref.isWhole_whole _) a7 (Memref.isWhole_whole _)
          cc0_scratch4 cc0_scratch5 cc0_scratch6 cc0_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.Launch

end
-- ==== Proof.Run.lean ====
/-
  The kernel's program from its launch to its end: the host's transpose, the SparseCore call over the tiles' segments, the
  transpose back. `run_main`: every weakly fair execution ends with the arguments unchanged, every counter at zero, and the
  result at `rVal` of the first argument.
-/
module

public import proofs.«01_k».proof.Proof.Launch

@[expose] public section

noncomputable section

namespace Cert.Proof.Launch

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Cert.Proof.Pool (region outSpec)

variable {F : FTy → Type}

local notation "𝕄" => MT nD τ sig (HIx 1) (Elt F) ℕ UU ℕ

variable (m : (ℓ : Loc nD τ sig) → Buf (Elt F) ℓ) (ρ : Dev nD → PrngReg)

/-! ## The segments make up the arrays -/

theorem region_apart {N w : ℕ} (p q : Fin 2 × Fin 16) (h : p ≠ q) :
    Disjoint (region N w p.1.val p.2.val 0 64) (region N w q.1.val q.2.val 0 64) := by
  refine Finset.disjoint_left.mpr fun x hp hq => h ?_
  obtain ⟨h1, h2, h3⟩ := Pool.mem_region.mp hp
  obtain ⟨h4, h5, h6⟩ := Pool.mem_region.mp hq
  refine Prod.ext (Fin.ext (h1.symm.trans h4)) (Fin.ext ?_)
  by_contra hne
  rcases Nat.lt_or_gt_of_ne hne with hlt | hlt
  · have := Nat.mul_le_mul_left (64 * w) (Nat.succ_le_of_lt hlt)
    rw [Nat.mul_succ] at this
    have e : w * 64 = 64 * w := Nat.mul_comm _ _
    omega
  · have := Nat.mul_le_mul_left (64 * w) (Nat.succ_le_of_lt hlt)
    rw [Nat.mul_succ] at this
    have e : w * 64 = 64 * w := Nat.mul_comm _ _
    omega

theorem region_cover {N w : ℕ} (hw : 0 < w) (hN : N = 16 * (64 * w)) :
    ((Finset.univ : Finset (Fin 2 × Fin 16)).biUnion fun p => region N w p.1.val p.2.val 0 64) = Finset.univ := by
  refine Finset.eq_univ_iff_forall.mpr fun x => Finset.mem_biUnion.mpr ?_
  have h0 : (x 0).val < 16 := (x 0).isLt
  have h1 : (x 1).val < N := (x 1).isLt
  have hs : (x 1).val / (64 * w) < 16 := by
    rw [Nat.div_lt_iff_lt_mul (by omega)]; omega
  refine ⟨(⟨(x 0).val / 8, by omega⟩, ⟨(x 1).val / (64 * w), hs⟩), Finset.mem_univ _, Pool.mem_region.mpr ⟨rfl, ?_, ?_⟩⟩
  · have := Nat.mul_div_le (x 1).val (64 * w)
    show 64 * w * ((x 1).val / (64 * w)) + w * 0 ≤ _
    omega
  · have := Nat.lt_mul_div_succ (x 1).val (show 0 < 64 * w by omega)
    rw [Nat.mul_succ] at this
    show _ < 64 * w * ((x 1).val / (64 * w)) + w * 64
    omega

theorem x_deal (d : Dev nD) (f : Buf (Elt F) (xLoc d)) :
    (xLoc d ↦{fullShare} f : sProp 𝕄) = bigSep Finset.univ fun p : Fin 2 × Fin 16 => xLoc d ↦[xSeg p.1.val p.2.val]{fullShare} f := by
  rw [← pointsTo_biUnion Finset.univ (ℓ := xLoc d) (fun p : Fin 2 × Fin 16 => xSeg p.1.val p.2.val) fun p _ q _ h => region_apart p q h]
  exact congrArg (fun s => (xLoc d ↦[s]{fullShare} f : sProp 𝕄)) (region_cover (by decide) (by decide)).symm

theorem o_deal (d : Dev nD) (f : Buf (Elt F) (oLoc d)) :
    (oLoc d ↦{fullShare} f : sProp 𝕄) = bigSep Finset.univ fun p : Fin 2 × Fin 16 => oLoc d ↦[oSeg p.1.val p.2.val]{fullShare} f := by
  rw [← pointsTo_biUnion Finset.univ (ℓ := oLoc d) (fun p : Fin 2 × Fin 16 => oSeg p.1.val p.2.val) fun p _ q _ h => region_apart p q h]
  exact congrArg (fun s => (oLoc d ↦[s]{fullShare} f : sProp 𝕄)) (region_cover (by decide) (by decide)).symm

variable [FloatOps F]

theorem st0_eq (d : Dev nD) : (bigSep Finset.univ fun c : Fin ((K (F := F)).nCore 0) => (P m).st 0 d c)
    = iprop((xLoc d ↦{fullShare} (xVal m d : Buf (Elt F) (xLoc d))) ∗ oLoc d ↦{fullShare} m (oLoc d)) := by
  rw [x_deal, o_deal, ← bigSep_sep', bigSep_univ_prod]
  rfl

theorem dn0_eq (d : Dev nD) : (bigSep Finset.univ fun c : Fin ((K (F := F)).nCore 0) => (P m).dn 0 d c)
    = iprop((xLoc d ↦{fullShare} (xVal m d : Buf (Elt F) (xLoc d))) ∗ oLoc d ↦{fullShare} (outSpec (xVal m d) : Buf (Elt F) (oLoc d))) := by
  rw [x_deal, o_deal, ← bigSep_sep', bigSep_univ_prod]
  rfl

/-! ## The ghost state at the launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_emp_const _).trans (bigSep_emp_const _)
  have he : (bigSep Finset.univ fun _ : Dev nD => iprop(emp)) = (iprop(emp) : sProp 𝕄) := bigSep_emp_const _
  rw [hx, he]
  unfold u₀
  iintro Hu
  ihave H := (ownU_pair _ _) $$ Hu
  icases H with ⟨HH, -⟩
  imodintro
  isplitl [HH]
  · iexact HH
  isplitr
  · iempintro
  · iempintro

/-! ## The host's operations -/

abbrev aRef : DevRef τ sig := Proc.devRef .tc (main_arg0 : Ref sig .tc)
abbrev bRef : DevRef τ sig := Proc.devRef .tc (main_arg1 : Ref sig .tc)
abbrev cRef : DevRef τ sig := Proc.devRef .tc (main_arg2 : Ref sig .tc)
abbrev xRef : DevRef τ sig := Proc.devRef .tc (main_v0 : Ref sig .tc)
abbrev oRef : DevRef τ sig := Proc.devRef .tc (main_v1 : Ref sig .tc)
abbrev rRef : DevRef τ sig := Proc.devRef .tc (main_v2 : Ref sig .tc)

/-- The transpose in and the transpose out. -/
abbrev opIn : HloOp τ sig (Elt F) := StableHlo.unary main_arg0 main_v0
  ((transpose S16x4194304 [1, 0] · transposes_S4194304x16_S16x4194304_1_0) :
    (⟨S4194304x16, .f32⟩ : BufTy).Contents (Elt F) → (⟨S16x4194304, .f32⟩ : BufTy).Contents (Elt F))
abbrev opOut : HloOp τ sig (Elt F) := StableHlo.unary main_v1 main_v2
  ((transpose S1048576x16 [1, 0] · transposes_S16x1048576_S1048576x16_1_0) :
    (⟨S16x1048576, .f32⟩ : BufTy).Contents (Elt F) → (⟨S1048576x16, .f32⟩ : BufTy).Contents (Elt F))

/-- The program's arrays, and holding them all. -/
abbrev arrays : Finset (DevRef τ sig) := {aRef, bRef, cRef, xRef, oRef, rRef}

abbrev all (d : Dev nD) (a : Buf (Elt F) (aLoc d)) (b : Buf (Elt F) (bLoc d)) (c : Buf (Elt F) (cLoc d)) (x : Buf (Elt F) (xLoc d))
    (o : Buf (Elt F) (oLoc d)) (r : Buf (Elt F) (rLoc d)) : sProp 𝕄 :=
  iprop((aLoc d ↦{fullShare} a) ∗ (bLoc d ↦{fullShare} b) ∗ (cLoc d ↦{fullShare} c) ∗ (xLoc d ↦{fullShare} x) ∗ (oLoc d ↦{fullShare} o)
    ∗ rLoc d ↦{fullShare} r)

omit [FloatOps F] in
theorem held_all (d : Dev nD) (W : Valuation τ sig (Elt F)) :
    (held (SparseCore.T d) arrays W : sProp 𝕄) = all d (W aRef) (W bRef) (W cRef) (W xRef) (W oRef) (W rRef) := by
  unfold held arrays
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscoped_all (d : Dev nD) (W : (b : Ref sig .tc) → Buf (Elt F) ((d.tc : Thread nD τ).loc b)) :
    (unscopedBufs d W : sProp 𝕄) = all d (W main_arg0) (W main_arg1) (W main_arg2) (W main_v0) (W main_v1) (W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The arrays at the launch, and as the call leaves them. -/
def V0 (d : Dev nD) : Valuation τ sig (Elt F) := fun b => m (d, b)
def V1 (d : Dev nD) : Valuation τ sig (Elt F) :=
  Function.update (opIn.result (V0 m d)) oRef (outSpec (xVal m d) : Buf (Elt F) (oLoc d))

/-- The rows the program ends with. -/
def rVal (d : Dev nD) : Vec F S1048576x16 .f32 := transpose S1048576x16 [1, 0] (outSpec (xVal m d)) transposes_S16x1048576_S1048576x16_1_0

theorem held_V0 (d : Dev nD) : (unscopedBufs d (fun b => m ((SparseCore.T d).loc b)) : sProp 𝕄) = held (SparseCore.T d) arrays (V0 m d) := by
  rw [unscoped_all, held_all]; rfl

theorem held_in (d : Dev nD) : (held (SparseCore.T d) arrays ((opIn (F := F)).result (V0 m d)) : sProp 𝕄)
    = all d (m (aLoc d)) (m (bLoc d)) (m (cLoc d)) (xVal m d) (m (oLoc d)) (m (rLoc d)) := by
  rw [held_all, (opIn (F := F)).result_of_not_mem (V0 m d) (b := aRef) (show aRef ∉ ({xRef} : Finset (DevRef τ sig)) by decide),
    (opIn (F := F)).result_of_not_mem (V0 m d) (b := bRef) (show bRef ∉ ({xRef} : Finset (DevRef τ sig)) by decide),
    (opIn (F := F)).result_of_not_mem (V0 m d) (b := cRef) (show cRef ∉ ({xRef} : Finset (DevRef τ sig)) by decide),
    (opIn (F := F)).result_of_not_mem (V0 m d) (b := oRef) (show oRef ∉ ({xRef} : Finset (DevRef τ sig)) by decide),
    (opIn (F := F)).result_of_not_mem (V0 m d) (b := rRef) (show rRef ∉ ({xRef} : Finset (DevRef τ sig)) by decide),
    StableHlo.unary_result main_arg0 main_v0]
  rfl

theorem held_V1 (d : Dev nD) : (held (SparseCore.T d) arrays (V1 m d) : sProp 𝕄)
    = all d (m (aLoc d)) (m (bLoc d)) (m (cLoc d)) (xVal m d) (outSpec (xVal m d)) (m (rLoc d)) := by
  have h := (held_all (F := F) d _).symm.trans (held_in m d)
  rw [held_all]
  unfold V1
  rw [Function.update_self, Function.update_of_ne (show aRef ≠ oRef by decide), Function.update_of_ne (show bRef ≠ oRef by decide),
    Function.update_of_ne (show cRef ≠ oRef by decide), Function.update_of_ne (show xRef ≠ oRef by decide),
    Function.update_of_ne (show rRef ≠ oRef by decide),
    (opIn (F := F)).result_of_not_mem (V0 m d) (b := aRef) (show aRef ∉ ({xRef} : Finset (DevRef τ sig)) by decide),
    (opIn (F := F)).result_of_not_mem (V0 m d) (b := bRef) (show bRef ∉ ({xRef} : Finset (DevRef τ sig)) by decide),
    (opIn (F := F)).result_of_not_mem (V0 m d) (b := cRef) (show cRef ∉ ({xRef} : Finset (DevRef τ sig)) by decide),
    (opIn (F := F)).result_of_not_mem (V0 m d) (b := rRef) (show rRef ∉ ({xRef} : Finset (DevRef τ sig)) by decide),
    StableHlo.unary_result main_arg0 main_v0]
  rfl

theorem held_out (d : Dev nD) : (held (SparseCore.T d) arrays ((opOut (F := F)).result (V1 m d)) : sProp 𝕄)
    = all d (m (aLoc d)) (m (bLoc d)) (m (cLoc d)) (xVal m d) (outSpec (xVal m d)) (rVal m d) := by
  have ho : V1 m d oRef = (outSpec (xVal m d) : Buf (Elt F) (oLoc d)) := Function.update_self _ _ _
  have hr : (opOut (F := F)).result (V1 m d) rRef = (rVal m d : Buf (Elt F) (rLoc d)) :=
    (StableHlo.unary_result main_v1 main_v2 _ _ _ _).trans (congrArg (fun o => (transpose S1048576x16 [1, 0] o transposes_S16x1048576_S1048576x16_1_0)) ho)
  rw [held_all, hr, (opOut (F := F)).result_of_not_mem (V1 m d) (b := aRef) (show aRef ∉ ({rRef} : Finset (DevRef τ sig)) by decide),
    (opOut (F := F)).result_of_not_mem (V1 m d) (b := bRef) (show bRef ∉ ({rRef} : Finset (DevRef τ sig)) by decide),
    (opOut (F := F)).result_of_not_mem (V1 m d) (b := cRef) (show cRef ∉ ({rRef} : Finset (DevRef τ sig)) by decide),
    (opOut (F := F)).result_of_not_mem (V1 m d) (b := xRef) (show xRef ∉ ({rRef} : Finset (DevRef τ sig)) by decide),
    (opOut (F := F)).result_of_not_mem (V1 m d) (b := oRef) (show oRef ∉ ({rRef} : Finset (DevRef τ sig)) by decide)]
  unfold V1
  rw [Function.update_self, Function.update_of_ne (show aRef ≠ oRef by decide), Function.update_of_ne (show bRef ≠ oRef by decide),
    Function.update_of_ne (show cRef ≠ oRef by decide), Function.update_of_ne (show xRef ≠ oRef by decide),
    (opIn (F := F)).result_of_not_mem (V0 m d) (b := aRef) (show aRef ∉ ({xRef} : Finset (DevRef τ sig)) by decide),
    (opIn (F := F)).result_of_not_mem (V0 m d) (b := bRef) (show bRef ∉ ({xRef} : Finset (DevRef τ sig)) by decide),
    (opIn (F := F)).result_of_not_mem (V0 m d) (b := cRef) (show cRef ∉ ({xRef} : Finset (DevRef τ sig)) by decide),
    StableHlo.unary_result main_arg0 main_v0]
  rfl

theorem in_bufs : (opIn (F := F)).bufs ⊆ arrays := show ({aRef, xRef} : Finset (DevRef τ sig)) ⊆ arrays by decide
theorem out_bufs : (opOut (F := F)).bufs ⊆ arrays := show ({oRef, rRef} : Finset (DevRef τ sig)) ⊆ arrays by decide

/-! ## @main -/

/-- What the program leaves: its arguments as they were, its result. -/
abbrev FIN (d : Dev nD) : sProp 𝕄 :=
  iprop((aLoc d ↦{fullShare} m (aLoc d)) ∗ (bLoc d ↦{fullShare} m (bLoc d)) ∗ (cLoc d ↦{fullShare} m (cLoc d))
    ∗ rLoc d ↦{fullShare} (rVal m d : Buf (Elt F) (rLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [held_V0]
  simp only [main, wp_bind, wp_pure]
  iintro ⟨#Hctx, Hst, ⟨Hb, Hheld, Hts, -⟩, -⟩
  iapply (wp_hlo_within 𝒱 (SparseCore.T d) none Set.univ (op := opIn) (S := arrays) in_bufs (V := V0 m d)) $$ [Hb Hheld]
  · isplitl [Hb]
    · iexact Hb
    · iexact Hheld
  iintro ⟨Hb, Hheld⟩
  ihave Hh := (Entails.of_eq (held_in m d)) $$ Hheld
  icases Hh with ⟨Ha, Hb1, Hc, Hx, Ho, Hr⟩
  rw [wp_ret]; imodintro
  iapply ((K (F := F)).wp_run (D (F := F)) 𝒱 (EH := EH) (P := P m) κ d 0) $$ [Hst Ha Hb1 Hc Hx Ho Hr Hb Hts]
  isplitr
  · iexact Hctx
  isplitl [Hst]
  · iexact Hst
  isplitl [Hx Ho]
  · rw [st0_eq]
    isplitl [Hx]
    · iexact Hx
    · iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := arrays) out_bufs (V := V1 m d)) $$ [Ha Hb1 Hc Hx Ho Hr Hb]
  · isplitl [Hb]
    · iexact Hb
    rw [held_V1]
    isplitl [Ha]
    · iexact Ha
    isplitl [Hb1]
    · iexact Hb1
    isplitl [Hc]
    · iexact Hc
    isplitl [Hx]
    · iexact Hx
    isplitl [Ho]
    · iexact Ho
    · iexact Hr
  iintro ⟨Hb, Hheld⟩
  ihave Hh := (Entails.of_eq (held_out m d)) $$ Hheld
  icases Hh with ⟨Ha, Hb1, Hc, -, -, Hr⟩
  rw [wp_ret]; imodintro; imodintro
  isplitl [Hst]
  · iexact Hst
  isplitr [Hb Hts]
  · isplitl [Ha]
    · iexact Ha
    isplitl [Hb1]
    · iexact Hb1
    isplitl [Hc]
    · iexact Hc
    · iexact Hr
  isplitl [Hb] <;> iassumption

/-! ## The run -/

/-- The end's memory on device `d`. -/
def Ends (d : Dev nD) (mem : (ℓ : Loc nD τ sig) → Buf (Elt F) ℓ) : Prop :=
  mem (aLoc d) = m (aLoc d) ∧ mem (bLoc d) = m (bLoc d) ∧ mem (cLoc d) = m (cLoc d) ∧ mem (rLoc d) = (rVal m d : Buf (Elt F) (rLoc d))

omit [FloatOps F] in
theorem agree (s' : Phys nD τ sig (Elt F)) (ℓ : Loc nD τ sig) (f : Buf (Elt F) ℓ) :
    iprop(SI s' ∗ ℓ ↦{fullShare} f) ⊢ (⌜s'.mem.mem ℓ = f⌝ : sProp 𝕄) :=
  SI_pointsTo_agree.trans (Laws.pure_mono fun h => funext fun i => h i (Finset.mem_univ i))

theorem hfin (d : Dev nD) (s' : Phys nD τ sig (Elt F)) : iprop(FIN m d ∗ SI s') ⊢ (⌜Ends m d s'.mem.mem⌝ : sProp 𝕄) := by
  iintro ⟨⟨Ha, Hb, Hc, Hr⟩, HSI⟩
  ihave H := (persistent_entails_right (agree s' (aLoc d) _)) $$ [HSI Ha]
  · isplitl [HSI] <;> iassumption
  icases H with ⟨%ha, HSI, -⟩
  ihave H := (persistent_entails_right (agree s' (bLoc d) _)) $$ [HSI Hb]
  · isplitl [HSI] <;> iassumption
  icases H with ⟨%hb, HSI, -⟩
  ihave H := (persistent_entails_right (agree s' (cLoc d) _)) $$ [HSI Hc]
  · isplitl [HSI] <;> iassumption
  icases H with ⟨%hc, HSI, -⟩
  ihave H := (agree s' (rLoc d) _) $$ [HSI Hr]
  · isplitl [HSI] <;> iassumption
  icases H with %hr
  ipureintro; exact ⟨ha, hb, hc, hr⟩

def QC : PUnit × MemSt nD τ sig (Elt F) → Prop := fun r => (∀ d : Dev nD, Ends m d r.2.mem) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fun d s' => Ends m d s'.mem.mem) (hfin m)
    (QC m) (fun _ h hz => ⟨h, hz⟩)

end Cert.Proof.Launch

end
-- ==== Proof.Words.lean ====
/-
  What the reference makes of a label array whose even slots, and no others, hold even labels: the positions of the even
  labels. It counts them with a running sum, counts with a histogram how often each count occurs, and sums the histogram;
  slot `v` of the sum is the position of the `v`-th even label, here `2 v`. Each step is read as the word of a natural number.
-/
module

public import proofs.«01_k».proof.Proof.Gen.ReferenceIdeal.Run
public import Idealize.ShloMosaic.Lib.Routing.Ops
public import Idealize.ShloMosaic.Lib.Routing.OpsPair
public import Idealize.ShloMosaic.Lib.Routing.OpsSet
public import Idealize.ShloMosaic.Lib.Routing.Words

@[expose] public section

noncomputable section

namespace Cert.Proof.Slots

open Cert.ReferenceIdeal Cert.ReferenceIdeal.Gen Cert.ReferenceIdeal.Value
open Idealize.ShloMosaic Idealize.ShloMosaic.Routing
open Idealize.ShloMosaic.StableHlo
open Idealize.ShloMosaic.ValueIdx (ix0 ix1)

/-! ## Sums and counts over natural numbers -/

/-- The number of even numbers below `n`. -/
theorem sum_even (n : ℕ) : ((List.range n).map fun i => if i % 2 = 0 then 1 else 0).sum = (n + 1) / 2 := by
  induction n with
  | zero => rfl
  | succ n ih =>
    rw [List.range_succ, List.map_append, List.sum_append, ih]
    simp only [List.map_cons, List.map_nil, List.sum_cons, List.sum_nil]
    split <;> omega

/-- How often the running count `i / 2 + 1` takes the value `x`, over the first `n` positions. -/
theorem count_half (x n : ℕ) : Nat.count (fun i => i / 2 + 1 = x) n = if x = 0 then 0 else min (2 * x) n - min (2 * x - 2) n := by
  induction n with
  | zero => simp
  | succ n ih =>
    rw [Nat.count_succ, ih]
    split <;> split <;> omega

/-- The sum of the histogram up to `v`. -/
theorem sum_hist (v : ℕ) : ((List.range (v + 1)).map fun x => if x = 0 then 0 else 2).sum = 2 * v := by
  induction v with
  | zero => rfl
  | succ v ih =>
    rw [List.range_succ, List.map_append, List.sum_append, ih]
    simp only [List.map_cons, List.map_nil, List.sum_cons, List.sum_nil]
    rw [if_neg (by omega)]
    omega

/-! ## A histogram with fewer bins than updates -/

/-- Update `i` of a scatter of `N` scalars into a vector of `M`, one index each, lands at `x` exactly when its index word, read
    signed, is `x`. -/
theorem lands {N M : ℕ} (d : ScatterDims (shape1 M) (shape2 N 1) (shape1 N)) (hiw : d.insertedWindowDims = [0])
    (hsd : d.scatterDimsToOperandDims = [0]) (hivd : d.indexVectorDim = 1) (idx : IVec (shape2 N 1) 32) (i : Fin N) (x : Fin M) :
    d.resultIdx? (ix1 i) idx = some (ix1 x) ↔ (idx (ValueIdx.ix2 i (0 : Fin 1))).toInt = (x.val : Int) := by
  have hm : (0 : Fin 1) ∈ d.scatterDimsToOperandDims := by rw [hsd]; exact List.mem_singleton.2 rfl
  have hwin : d.window (ix1 i) 0 = 0 := by
    unfold ScatterDims.window
    exact dif_neg fun h => (of_decide_eq_true (List.mem_filter.1 h).2) (by rw [hiw]; exact List.mem_singleton.2 rfl)
  have hsi : d.siIdx (ix1 i) ⟨d.scatterDimsToOperandDims.idxOf 0, List.idxOf_lt_length_iff.2 hm⟩ = ValueIdx.ix2 i (0 : Fin 1) := by
    refine funext fun b => Fin.ext ?_
    unfold ScatterDims.siIdx
    match b with
    | ⟨0, _⟩ =>
      rw [dif_neg (by rw [hivd]; exact Nat.zero_ne_one)]
      unfold ScatterDims.siCoord
      have e : ∀ y : Fin 1, (ix1 i y).val = i.val := fun y => by rw [Subsingleton.elim y 0]
      exact e _
    | ⟨1, _⟩ =>
      rw [dif_pos (by rw [hivd])]
      show d.scatterDimsToOperandDims.idxOf 0 = 0
      rw [hsd]
      exact List.idxOf_cons_self
  have hstart : d.start (ix1 i) idx 0 = (idx (ValueIdx.ix2 i (0 : Fin 1))).toInt := by
    unfold ScatterDims.start
    rw [dif_pos hm, hsi]
  rw [resultIdx?_ix1, hstart, hwin]
  simp

/-- Adding 1 at the hits of a list counts them. -/
theorem fold_hits {ι : Type} (P : ι → Prop) [DecidablePred P] (l : List ι) (z : ℕ) :
    l.foldl (fun a n => if P n then IntOp.addi a 1#32 else a) (BitVec.ofNat 32 z) = BitVec.ofNat 32 (z + l.countP fun n => decide (P n)) := by
  induction l generalizing z with
  | nil => rfl
  | cons n l ih =>
    rw [List.foldl_cons, List.countP_cons]
    by_cases h : P n
    · rw [if_pos h, show IntOp.addi (BitVec.ofNat 32 z) 1#32 = BitVec.ofNat 32 (z + 1) from (BitVec.ofNat_add z 1).symm, ih, if_pos (decide_eq_true h)]
      exact congrArg _ (by omega)
    · rw [if_neg h, ih]
      simp [h]

/-- A scatter that adds 1 at each index counts how often each index occurs; an index past the last bin counts nowhere. -/
theorem histogram {N M : ℕ} (d : ScatterDims (shape1 M) (shape2 N 1) (shape1 N)) (hiw : d.insertedWindowDims = [0])
    (hsd : d.scatterDimsToOperandDims = [0]) (hivd : d.indexVectorDim = 1) (x0 : IVec (shape1 M) 32) (hx0 : ∀ i, x0 i = 0#32)
    (idx : IVec (shape2 N 1) 32) (upd : IVec (shape1 N) 32) (hupd : ∀ i, upd i = 1#32) (g : ℕ → ℕ)
    (hg : ∀ i : Fin N, idx (ValueIdx.ix2 i (0 : Fin 1)) = BitVec.ofNat 32 (g i.val)) (hg31 : ∀ i : Fin N, g i.val < 2 ^ 31) (x : Fin M) :
    Host.scatter d IntOp.addi x0 idx upd (ix1 x) = BitVec.ofNat 32 (Nat.count (fun i => g i = x.val) N) := by
  have hit : ∀ n : Fin (shape1 N).numel, d.resultIdx? ((shape1 N).rowMajor.symm n) idx = some (ix1 x) ↔ g n.val = x.val := fun n => by
    rw [symm1, lands d hiw hsd hivd, hg, WordCmp.toInt_ofNat_of_lt (w := 32) (hg31 _)]
    exact Int.ofNat_inj
  rw [scatter_at, hx0]
  refine Eq.trans ?_ ((fold_hits (fun n : Fin (shape1 N).numel => g n.val = x.val) (List.finRange (shape1 N).numel) 0).trans ?_)
  · refine congrArg (fun f => List.foldl f 0#32 (List.finRange (shape1 N).numel)) (funext fun a => funext fun n => ?_)
    rw [hupd]
    exact if_congr (hit n) rfl rfl
  · rw [Nat.zero_add, countP_finRange _ fun i => g i = x.val, numel1]

/-! ## The reference's steps -/

variable {F : FTy → Type} [FloatOps F] {V : Valuation τ sig (Elt F)}

/-- The even slots, and no others, hold even labels. -/
def EvenSlots (V : Valuation τ sig (Elt F)) : Prop :=
  ∀ i : Fin 1048576, res_main_v4 V (ix1 i) = BitVec.ofBool (decide (i.val % 2 = 0))

/-- The mask's bit at slot `i`, as the word of 0 or 1. -/
theorem mask_word (h : EvenSlots V) (i : Fin 1048576) :
    extui 32 (res_main_v4 V) natLt_1_32 (ix1 i) = BitVec.ofNat 32 (if i.val % 2 = 0 then 1 else 0) := by
  rw [WordCmp.extui_at, h i, setWidth_ofBool]

/-- The running count of even labels. -/
theorem running (h : EvenSlots V) (i : Fin 1048576) : res_main_v5 V (ix1 i) = BitVec.ofNat 32 (i.val / 2 + 1) := by
  unfold res_main_v5
  refine (cumsum1 (N := 1048576) (Nm1 := 1048575) rfl _ (fun i => if i % 2 = 0 then 1 else 0) (mask_word h) _ rfl _ _ i).trans ?_
  rw [sum_even]
  exact congrArg _ (by omega)

/-- A word of a natural number below 2³¹ is not negative, so the reference's wrapping of negative indices keeps it. -/
theorem wrapped (n : ℕ) (hn : n < 2 ^ 31) (y : BitVec 32) :
    Scalar.select (IntOp.cmpi .slt (BitVec.ofNat 32 n) 0#32) y (BitVec.ofNat 32 n) = BitVec.ofNat 32 n :=
  wrap_of_lt _ _ (by rw [BitVec.toNat_ofNat, Nat.mod_eq_of_lt (by omega)]; exact hn)

/-- The sum of the histogram of the running count: slot `v` holds `2 v`. -/
theorem summed (h : EvenSlots V) (v : Fin 524288) : res_main_v15 V (ix1 v) = BitVec.ofNat 32 (2 * v.val) := by
  unfold res_main_v15
  refine (cumsum1 (N := 524288) (Nm1 := 524287) rfl _ (fun x => if x = 0 then 0 else 2) (fun x => ?_) _ rfl _ _ v).trans ?_
  · refine (histogram (N := 1048576) (M := 524288) _ rfl rfl rfl _ (fun _ => rfl) _ _ (fun _ => rfl) (fun i => i / 2 + 1) (fun i => ?_)
      (fun i => ?_) x).trans ?_
    · refine (bcCol _ _ i).trans ?_
      rw [WordCmp.select_at, WordCmp.cmpi_at, running h i]
      exact wrapped _ (by have := i.isLt; omega) _
    · have := i.isLt
      omega
    · rw [count_half]
      have := x.isLt
      split
      · rfl
      · exact congrArg _ (by omega)
  · rw [sum_hist]

/-- The number of even labels. -/
theorem total (h : EvenSlots V) :
    Host.reduce IntOp.addi (extui 32 (res_main_v4 V) natLt_1_32) (constantI shape0 32 0#32) reducesTo_S1048576_S_d0 h_S_ ix0
      = BitVec.ofNat 32 524288 := by
  refine (reduce_sum (N := 1048576) _ (fun i => if i % 2 = 0 then 1 else 0) (mask_word h) _ _).trans ?_
  rw [sum_even]

/-- The reference's division by 1 is the library's. -/
theorem div_eq : select (andi (cmpi .ne (signi (res_main_v15 V)) (broadcastInDim S524288 ![] bcast_S_S524288 (signi (res_main_call3_v0 V))))
      (cmpi .ne (Host.remsi (res_main_v15 V) (broadcastInDim S524288 ![] bcast_S_S524288 (res_main_call3_v0 V)))
        (broadcastInDim S524288 ![] bcast_S_S524288 (constantI S_ 32 0#32))))
      (subi (res_main_call3_v2 V) (broadcastInDim S524288 ![] bcast_S_S524288 (constantI S_ 32 1#32))) (res_main_call3_v2 V)
    = pyDiv (s := shape1 524288) bcast_S_S524288 (res_main_v15 V) (constantI shape0 32 1#32) := rfl

/-- The reference's remainder by the array's length is the library's. -/
theorem rem_eq : select (andi (cmpi .ne (cmpi .slt (res_main_call4_v4 V) (broadcastInDim S524288 ![] bcast_S_S524288 (constantI S_ 32 0#32)))
        (broadcastInDim S524288 ![] bcast_S_S524288 (cmpi .slt (res_main_call4_v2 V) (constantI S_ 32 0#32))))
      (cmpi .ne (res_main_call4_v4 V) (broadcastInDim S524288 ![] bcast_S_S524288 (constantI S_ 32 0#32))))
      (addi (res_main_call4_v4 V) (broadcastInDim S524288 ![] bcast_S_S524288 (res_main_call4_v2 V))) (res_main_call4_v4 V)
    = pyRem (s := shape1 524288) bcast_S_S524288 (pyDiv (s := shape1 524288) bcast_S_S524288 (res_main_v15 V) (constantI shape0 32 1#32))
        (constantI shape0 32 1048576#32) := rfl

/-- A scalar spread to one entry and then to all: the scalar at every entry. -/
theorem spread {α : Type} {N : ℕ} (h₁ : (shape1 1).BroadcastsInDim (shape1 N) (![0] : Fin 1 → Fin 1))
    (h₂ : shape0.BroadcastsInDim (shape1 1) (![] : Fin 0 → Fin 1)) (v : shape0.Idx → α) (i : (shape1 N).Idx) :
    broadcastInDim (shape1 N) ![0] h₁ (broadcastInDim (shape1 1) ![] h₂ v) i = v ix0 := by
  unfold broadcastInDim
  exact congrArg v (funext fun a => a.elim0)

/-- The position of the `v`-th even label. -/
theorem position (h : EvenSlots V) (v : Fin 524288) : res_main_v24 V (ix1 v) = BitVec.ofNat 32 (2 * v.val) := by
  have hv := v.isLt
  have hd := pyDiv_ap (s := shape1 524288) bcast_S_S524288 (res_main_v15 V) (constantI shape0 32 1#32) (ix1 v) (summed h v)
    (b := 1) rfl (by omega) (by omega) (by omega)
  have hr := pyRem_ap (s := shape1 524288) bcast_S_S524288 _ (constantI shape0 32 1048576#32) (ix1 v) hd (b := 1048576) rfl (by omega)
    (by omega) (by omega)
  have hn : IntOp.cmpi .sge (BitVec.ofNat 32 v.val) (BitVec.ofNat 32 524288) = 0#1 := by
    rw [WordCmp.cmpi_sge_ofNat_eq_zero_iff (by omega) (by omega)]
    omega
  have hb := (spread (N := 524288) bcast_S1_S524288_0 bcast_S_S1 _ (ix1 v)).trans (total h)
  unfold res_main_v24
  rw [rem_eq, WordCmp.select_at, WordCmp.cmpi_at, hr]
  rw [hb, iota1_ap, hn]
  show BitVec.ofNat 32 (2 * v.val / 1 % 1048576) = _
  exact congrArg _ (by omega)

end Cert.Proof.Slots

end
-- ==== Proof.Max.lean ====
/-
  The maximum over a parent's eight children, on the extended reals: the reference's reduction from −∞ over the middle axis of
  the array grouped by eights is the kernel's tree of maxima, in whichever cyclic order the kernel takes the children.
-/
module

public import proofs.«01_k».proof.Proof.Rows
public import Idealize.ShloMosaic.Lib.Pointwise.Reduce
public import Idealize.ShloMosaic.Lib.Pipeline.Value

@[expose] public section

noncomputable section

namespace Cert.Proof.Pool

open Idealize.ShloMosaic Idealize.ShloMosaic.ValueIdx

/-! ## The tree of maxima as a supremum -/

/-- The kernel's tree of maxima of eight extended reals is their supremum. -/
theorem max8_eq_sup (x : Fin 8 → Ideal .f32) : max8 (F := Ideal) x = (Finset.univ : Finset (Fin 8)).sup (α := EReal) x := by
  have le : ∀ i, x i ≤ (Finset.univ : Finset (Fin 8)).sup (α := EReal) x := fun i => Finset.le_sup (α := EReal) (Finset.mem_univ i)
  show max (max (max (x 0) (x 1)) (max (x 2) (x 3))) (max (max (x 4) (x 5)) (max (x 6) (x 7))) = _
  refine le_antisymm ?_ (Finset.sup_le fun i _ => ?_)
  · exact max_le (max_le (max_le (le 0) (le 1)) (max_le (le 2) (le 3))) (max_le (max_le (le 4) (le 5)) (max_le (le 6) (le 7)))
  · match i with
    | 0 => simp
    | 1 => simp
    | 2 => simp
    | 3 => simp
    | 4 => simp
    | 5 => simp
    | 6 => simp
    | 7 => simp

/-- Taking the eight in a cyclic order that starts at the `p`-th makes no difference. -/
theorem max8_rotate (p : ℕ) (x : Fin 8 → Ideal .f32) :
    max8 (F := Ideal) (fun c => x ⟨(p + c.val) % 8, Nat.mod_lt _ (by decide)⟩) = max8 (F := Ideal) x := by
  rw [max8_eq_sup, max8_eq_sup]
  refine le_antisymm (Finset.sup_le fun c _ => Finset.le_sup (α := EReal) (f := x) (Finset.mem_univ _)) (Finset.sup_le fun i _ => ?_)
  have e : x i = (fun c : Fin 8 => x ⟨(p + c.val) % 8, Nat.mod_lt _ (by decide)⟩) ⟨(i.val + 8 - p % 8) % 8, Nat.mod_lt _ (by decide)⟩ := by
    refine congrArg x (Fin.ext ?_)
    show i.val = (p + (i.val + 8 - p % 8) % 8) % 8
    have := i.isLt
    omega
  rw [e]
  exact Finset.le_sup (α := EReal) (f := fun c : Fin 8 => x ⟨(p + c.val) % 8, Nat.mod_lt _ (by decide)⟩) (Finset.mem_univ _)

/-! ## The reference's reduction -/

/-- The fold of `max` from −∞ over eight extended reals is the kernel's tree of maxima. -/
theorem fold_max8 (x : Fin 8 → Ideal .f32) :
    (Finset.univ : Finset (Fin 8)).fold max (Ideal.ofBits .f32 0xFF800000#32 : EReal) x = max8 (F := Ideal) x := by
  have hb : (Ideal.ofBits .f32 0xFF800000#32 : EReal) = ⊥ := by simp [Ideal.ofBits, Ideal.ieee]
  rw [hb, max8_eq_sup]
  rfl

/-- The reference's maximum over the middle axis, at parent `v` and channel `r`: the tree of maxima of the eight children's rows. -/
theorem children_max {A : ℕ} (x : FVec Ideal ⟨2, ![8 * A, 16]⟩ .f32) (hc : (⟨2, ![8 * A, 16]⟩ : Shape).ShapeCasts ⟨3, ![A, 8, 16]⟩)
    (h : (⟨3, ![A, 8, 16]⟩ : Shape).ReducesTo [1] ⟨2, ![A, 16]⟩) (hu : 0 < (⟨0, ![]⟩ : Shape).numel) (v : Fin A) (r : Fin 16) :
    Host.reduce FloatOps.maximumf (shapeCast ⟨3, ![A, 8, 16]⟩ x hc) (constant (F := Ideal) ⟨0, ![]⟩ .f32 0xFF800000#32) h hu (ValueIdx.ix2 v r)
      = max8 (F := Ideal) fun k => x (ValueIdx.ix2 (⟨8 * v.val + k.val, by have := v.isLt; have := k.isLt; omega⟩ : Fin (8 * A)) r) := by
  refine Eq.trans ?_ (fold_max8 _)
  simp only [pointwise]
  refine congrArg (fun f => (Finset.univ : Finset (Fin 8)).fold max (Ideal.ofBits .f32 0xFF800000#32 : EReal) f) (funext fun k => ?_)
  refine congrArg x (Shape.reshapeEquiv_eq_of_rowMajor hc ?_)
  rw [Shape.rowMajor_val_two, Shape.rowMajor_val_three]
  show (8 * v.val + k.val) * 16 + r.val = (v.val * 8 + k.val) * 16 + r.val
  omega

end Cert.Proof.Pool

end
-- ==== Proof.Result.lean ====
/-
  What the reference's result holds: the precondition says that the even slots, and no others, hold even labels, so the
  reference's last step writes parent `v`'s maximum to row `2 v` and leaves every odd row zero.
-/
module

public import proofs.«01_k».proof.Proof.Words
public import proofs.«01_k».proof.Proof.Max
public import proofs.«01_k».proof.Proof.Gen.Pre_occupied
public import Idealize.ShloMosaic.Lib.ReduceAll

@[expose] public section

noncomputable section

namespace Cert.Proof.Slots

open Cert.ReferenceIdeal Cert.ReferenceIdeal.Gen Cert.ReferenceIdeal.Value
open Idealize.ShloMosaic Idealize.ShloMosaic.Routing
open Idealize.ShloMosaic.StableHlo
open Idealize.ShloMosaic.ValueIdx (ix0 ix1)
open Cert.Proof.Pool (max8 zeroF)

/-! ## The precondition, slot by slot -/

variable {F : FTy → Type} [FloatOps F] {V : Valuation τ sig (Elt F)}

/-- Two bits that compare equal are equal. -/
theorem bit_eq (x y : BitVec 1) (h : IntOp.cmpi .eq x y = 1#1) : x = y := by
  revert h; revert x y; decide

/-- The even slots, as the precondition computes them. -/
def evens : IVec (shape1 1048576) 1 :=
  cmpi .eq (pyRem (s := shape1 1048576) bcast_S_S1048576 (iotaInDim (shape1 1048576) 32 0) (constantI shape0 32 2#32))
    (broadcastInDim (shape1 1048576) ![] bcast_S_S1048576 (constantI shape0 32 0#32))

/-- The precondition is the comparison of the mask with the even slots, at every slot. -/
theorem evenSlots (x0 : FVec F S4194304x16 .f32) (x2 : IVec S_ 32)
    (h : Cert.Pre_occupied.fn (F := F) x0 (V (Proc.devRef .tc main_arg1)) x2 = fun _ => 1#1) : EvenSlots V := by
  intro i
  have hf : Cert.Pre_occupied.fn (F := F) x0 (V (Proc.devRef .tc main_arg1)) x2
      = Host.reduce IntOp.andi (cmpi .eq (res_main_v4 V) evens) (constantI shape0 1 1#1) reducesTo_S1048576_S_d0 h_S_ := rfl
  have hall := Host.reduce_andi_all _ _ _ _ ValueIdx.ix0 (congrFun (hf.symm.trans h) ValueIdx.ix0) (ValueIdx.ix1 i)
  have hi := i.isLt
  have e := bit_eq _ _ hall
  rw [e, evens, WordCmp.cmpi_at, pyRem_ap (s := shape1 1048576) bcast_S_S1048576 (iotaInDim (shape1 1048576) 32 0) (constantI shape0 32 2#32) (ValueIdx.ix1 i)
    (iota1_ap i) (b := 2) rfl (by omega) (by omega) (by omega)]
  exact WordCmp.cmpi_eq_ofNat (w := 32) (by omega) (by omega)

/-! ## Rows scattered to rows -/

/-- Entry `(v, c)` of a scatter of rows lands at `(q, r)` exactly when row `v`'s index word, read signed, is `q` and `c` is `r`. -/
theorem row_lands {A B C : ℕ} (d : ScatterDims (shape2 B C) (shape2 A 1) (shape2 A C)) (huw : d.updateWindowDims = [1])
    (hiw : d.insertedWindowDims = [0]) (hsd : d.scatterDimsToOperandDims = [0]) (hivd : d.indexVectorDim = 1) (idx : IVec (shape2 A 1) 32)
    (v : Fin A) (c : Fin C) (q : Fin B) (r : Fin C) :
    d.resultIdx? (ValueIdx.ix2 v c) idx = some (ValueIdx.ix2 q r) ↔ (idx (ValueIdx.ix2 v (0 : Fin 1))).toInt = (q.val : Int) ∧ c = r := by
  obtain ⟨uw, iw, sd, iv, wf⟩ := d
  simp only at huw hiw hsd hivd
  subst huw; subst hiw; subst hsd; subst hivd
  rw [resultIdx?_ix2]
  have hs0 : ScatterDims.start (⟨[1], [0], [0], 1, wf⟩ : ScatterDims (shape2 B C) (shape2 A 1) (shape2 A C)) (ValueIdx.ix2 v c) idx 0
      = (idx (ValueIdx.ix2 v (0 : Fin 1))).toInt := by
    refine (dif_pos (List.mem_singleton.2 rfl)).trans (congrArg (fun j => (idx j).toInt) (funext fun b => Fin.ext ?_))
    match b with
    | ⟨0, _⟩ => rfl
    | ⟨1, _⟩ => rfl
  have hs1 : ScatterDims.start (⟨[1], [0], [0], 1, wf⟩ : ScatterDims (shape2 B C) (shape2 A 1) (shape2 A C)) (ValueIdx.ix2 v c) idx 1 = 0 := rfl
  have hw0 : ScatterDims.window (⟨[1], [0], [0], 1, wf⟩ : ScatterDims (shape2 B C) (shape2 A 1) (shape2 A C)) (ValueIdx.ix2 v c) 0 = 0 := rfl
  have hw1 : ScatterDims.window (⟨[1], [0], [0], 1, wf⟩ : ScatterDims (shape2 B C) (shape2 A 1) (shape2 A C)) (ValueIdx.ix2 v c) 1 = c.val := rfl
  rw [hs0, hs1, hw0, hw1]
  constructor
  · rintro ⟨h1, h2⟩
    exact ⟨by simpa using h1, Fin.ext (by simpa using h2)⟩
  · rintro ⟨h1, h2⟩
    subst h2
    exact ⟨by simpa using h1, by simp⟩

/-- Rows written to the even rows of an array: row `2 v` is the `v`-th, and the odd rows keep what they held. -/
theorem even_rows {A C : ℕ} {α : Type} (hA : 2 * A < 2 ^ 31) (d : ScatterDims (shape2 (2 * A) C) (shape2 A 1) (shape2 A C))
    (huw : d.updateWindowDims = [1]) (hiw : d.insertedWindowDims = [0]) (hsd : d.scatterDimsToOperandDims = [0]) (hivd : d.indexVectorDim = 1)
    (x0 : (shape2 (2 * A) C).Idx → α) (idx : IVec (shape2 A 1) 32) (upd : (shape2 A C).Idx → α)
    (hidx : ∀ v : Fin A, idx (ValueIdx.ix2 v (0 : Fin 1)) = BitVec.ofNat 32 (2 * v.val)) (q : Fin (2 * A)) (r : Fin C) :
    Host.scatter d (fun _ b => b) x0 idx upd (ValueIdx.ix2 q r)
      = if q.val % 2 = 1 then x0 (ValueIdx.ix2 q r) else upd (ValueIdx.ix2 (⟨q.val / 2, by omega⟩ : Fin A) r) := by
  have hit : ∀ (v : Fin A) (c : Fin C), d.resultIdx? (ValueIdx.ix2 v c) idx = some (ValueIdx.ix2 q r) ↔ 2 * v.val = q.val ∧ c = r := fun v c => by
    rw [row_lands d huw hiw hsd hivd, hidx, WordCmp.toInt_ofNat_of_lt (w := 32) (by have := v.isLt; omega)]
    exact and_congr_left fun _ => Int.ofNat_inj
  have pair : ∀ k : (shape2 A C).Idx, k = ValueIdx.ix2 (k 0) (k 1) := fun k => funext fun a => match a with
    | ⟨0, _⟩ => rfl
    | ⟨1, _⟩ => rfl
  by_cases hq : q.val % 2 = 1
  · rw [if_pos hq]
    refine scatter_set_miss d x0 idx upd _ fun k hk => ?_
    rw [pair k] at hk
    have := ((hit _ _).1 hk).1
    omega
  · rw [if_neg hq]
    refine scatter_set_hit d x0 idx upd _ _ (fun k hk => ?_) (ValueIdx.ix2 (⟨q.val / 2, by omega⟩ : Fin A) r)
      ((hit _ _).2 ⟨by show 2 * (q.val / 2) = q.val; omega, rfl⟩)
    rw [pair k] at hk ⊢
    obtain ⟨h1, h2⟩ := (hit _ _).1 hk
    rw [h2, show k 0 = (⟨q.val / 2, by omega⟩ : Fin A) from Fin.ext (by show (k 0).val = q.val / 2; omega)]
    rfl

/-! ## The result -/

/-- The row numbers the reference writes to, one column. -/
def slots (V : Valuation τ sig (Elt F)) : IVec S524288x1 32 :=
  broadcastInDim S524288x1 ![0] bcast_S524288_S524288x1_0
    (select (cmpi .slt (res_main_v24 V) (broadcastInDim S524288 ![] bcast_S_S524288 (constantI S_ 32 0#32)))
      (addi (res_main_v24 V) (broadcastInDim S524288 ![] bcast_S_S524288 (constantI S_ 32 1048576#32))) (res_main_v24 V))

/-- Parent `v` is written to row `2 v`. -/
theorem slots_word (h : EvenSlots V) (v : Fin 524288) : slots V (ValueIdx.ix2 v (0 : Fin 1)) = BitVec.ofNat 32 (2 * v.val) := by
  unfold slots
  refine (bcCol _ _ v).trans ?_
  rw [WordCmp.select_at, WordCmp.cmpi_at, position h v]
  exact wrapped _ (by have := v.isLt; omega) _

/-- The reference's result, on the extended reals, of its first argument `x` and the row numbers `idx`. -/
def refOut (x : FVec Ideal S4194304x16 .f32) (idx : IVec S524288x1 32) : FVec Ideal S1048576x16 .f32 :=
  Host.scatter scatter_S1048576x16_S524288x1_S524288x16_1_0_0_1 (fun _ b => b)
    (broadcastInDim S1048576x16 ![] bcast_S_S1048576x16 (constant S_ .f32 0x00000000#32)) idx
    (Host.reduce FloatOps.maximumf (shapeCast S524288x8x16 x shapeCasts_S4194304x16_S524288x8x16) (constant S_ .f32 0xFF800000#32)
      reducesTo_S524288x8x16_S524288x16_d1 h_S_)

/-- Row `q` of the result: zero when `q` is odd, and the maxima of parent `q / 2`'s children when it is even. -/
theorem refOut_apply (x : FVec Ideal S4194304x16 .f32) (idx : IVec S524288x1 32)
    (hidx : ∀ v : Fin 524288, idx (ValueIdx.ix2 v (0 : Fin 1)) = BitVec.ofNat 32 (2 * v.val)) (q : Fin 1048576) (r : Fin 16) :
    refOut x idx (ValueIdx.ix2 q r) = if q.val % 2 = 1 then zeroF (F := Ideal) else
      max8 (F := Ideal) fun k => x (ValueIdx.ix2 (⟨8 * (q.val / 2) + k.val, by have := q.isLt; have := k.isLt; omega⟩ : Fin 4194304) r) := by
  unfold refOut
  refine (even_rows (A := 524288) (C := 16) (by decide) _ rfl rfl rfl rfl _ _ _ hidx q r).trans ?_
  refine if_congr Iff.rfl rfl ?_
  exact Pool.children_max (A := 524288) x _ _ _ _ r

end Cert.Proof.Slots

end
-- ==== Proof.Equal.lean ====
/-
  The kernel's result is the reference's: both hold zero in the odd rows and a parent's maxima in the even ones, the kernel
  taking the children of parent `p` from the `p mod 8`-th on.
-/
module

public import proofs.«01_k».proof.Proof.Result
public import proofs.«01_k».proof.Proof.Regions
public import Idealize.ShloMosaic.Lib.ValueLayout

@[expose] public section

noncomputable section

namespace Cert.Proof.Slots

open Cert.ReferenceIdeal
open Idealize.ShloMosaic
open Cert.Proof.Pool (max8 max8_rotate childCol outSpec)

/-- The kernel's value at row `q`: its pooling of the transposed array, transposed back. -/
theorem pooled_apply (x : FVec Ideal S4194304x16 .f32) (h₁ : S4194304x16.Transposes [1, 0] (⟨2, ![16, 4194304]⟩ : Shape))
    (h₂ : (⟨2, ![16, 1048576]⟩ : Shape).Transposes [1, 0] S1048576x16) (q : Fin 1048576) (r : Fin 16) :
    transpose S1048576x16 [1, 0] (outSpec (F := Ideal) (transpose (⟨2, ![16, 4194304]⟩ : Shape) [1, 0] x h₁)) h₂ (ValueIdx.ix2 q r)
      = if q.val % 2 = 1 then Pool.zeroF (F := Ideal) else
        max8 (F := Ideal) fun k => x (ValueIdx.ix2 (⟨8 * (q.val / 2) + k.val, by have := q.isLt; have := k.isLt; omega⟩ : Fin 4194304) r) := by
  have hq := q.isLt
  refine (ValueIdx.transpose_ix2_apply _ h₂ q r).trans ?_
  unfold outSpec
  refine if_congr Iff.rfl rfl ?_
  refine Eq.trans (congrArg _ (funext fun c => ?_)) (max8_rotate (q.val / 2) fun k =>
    x (ValueIdx.ix2 (⟨8 * (q.val / 2) + k.val, by have := k.isLt; omega⟩ : Fin 4194304) r))
  exact ValueIdx.transpose_ix2_apply x h₁ r (childCol (q.val / 2) (by omega) c)

/-- The two programs' results agree when the row numbers are the even rows. -/
theorem pooled_eq (x : FVec Ideal S4194304x16 .f32) (h₁ : S4194304x16.Transposes [1, 0] (⟨2, ![16, 4194304]⟩ : Shape))
    (h₂ : (⟨2, ![16, 1048576]⟩ : Shape).Transposes [1, 0] S1048576x16) (idx : IVec S524288x1 32)
    (hidx : ∀ v : Fin 524288, idx (ValueIdx.ix2 v (0 : Fin 1)) = BitVec.ofNat 32 (2 * v.val)) :
    refOut x idx = transpose S1048576x16 [1, 0] (outSpec (F := Ideal) (transpose (⟨2, ![16, 4194304]⟩ : Shape) [1, 0] x h₁)) h₂ := by
  funext k
  have pair : k = ValueIdx.ix2 (k 0 : Fin 1048576) (k 1 : Fin 16) := funext fun a => match a with
    | ⟨0, _⟩ => rfl
    | ⟨1, _⟩ => rfl
  rw [pair]
  exact (refOut_apply x idx hidx _ _).trans (pooled_apply x h₁ h₂ _ _).symm

end Cert.Proof.Slots

end
-- ==== Proof.lean ====
/-
  The claims, put together. The two kernel programs' frames are the run theorem of Run.lean at the two float interpretations;
  the reference's frame is its run; the value claim joins the kernel's run and the reference's by Equal.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_occupied
public import proofs.«01_k».proof.Proof.Gen.ReferenceIdeal.Run
public import proofs.«01_k».proof.Proof.Run
public import proofs.«01_k».proof.Proof.Equal
public import Idealize.ShloMosaic.Lib.Quiescent

@[expose] public section

noncomputable section

namespace Cert.Proof

open Idealize.ShloMosaic Idealize.SL.Sem Idealize.ShloMosaic.TcCoe

/-- The kernel with the machine's floats runs, leaves its arguments alone and ends with every counter at zero. -/
theorem frame_kernel : quiescent_Kernel (hKernel := Cert.Kernel.Gen.facts) := fun m ρ _ =>
  (θ_run Cert.KernelIdeal.defs _ _).mono (fun _ h => ⟨fun c => ⟨(h.1 c).1, (h.1 c).2.1, (h.1 c).2.2.1⟩, h.2⟩) (Launch.run_main (F := Bits) m ρ)

/-- So does the kernel on the extended reals. -/
theorem frame_ideal : quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩) (Launch.run_main (F := Ideal) m ρ)

/-- So does the reference, which has no counters. -/
theorem frame_reference : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the extended reals the kernel and the reference end with one result, if the even slots, and no others, hold even labels. -/
theorem value : algebraic_KernelIdeal_ReferenceIdeal_pre_occupied (hKernelIdeal := Cert.KernelIdeal.Gen.facts)
    (hReferenceIdeal := Cert.ReferenceIdeal.Gen.facts) (hPre_occupied := Cert.Pre_occupied.Gen.facts) := by
  intro m g m' g' hpre hargs
  refine ⟨fun c => Launch.rVal (F := Ideal) m c, ?_, ?_⟩
  · exact (θ_run Cert.KernelIdeal.defs _ _).mono (fun _ h c => ⟨(h.1 c).2.2.2, (h.1 c).1, (h.1 c).2.1, (h.1 c).2.2.1⟩)
      (Launch.run_main (F := Ideal) m g)
  · refine (θ_run Cert.ReferenceIdeal.defs _ _).mono (fun r h c => ⟨(h c).1.trans ?_, (h c).2⟩) (Cert.ReferenceIdeal.Value.run (F := Ideal) m' g')
    obtain ⟨h0, h1, h2⟩ := hargs c
    have hp := hpre c
    rw [← h0, ← h1, ← h2] at hp
    have hs := Slots.evenSlots (V := StableHlo.launchContents m' c) _ _ hp
    refine Eq.trans (Slots.pooled_eq _ Cert.KernelIdeal.Facts₀.transposes_S4194304x16_S16x4194304_1_0
      Cert.KernelIdeal.Facts₀.transposes_S16x1048576_S1048576x16_1_0 (Slots.slots _) (Slots.slots_word hs)) ?_
    exact congrArg (fun x : FVec Ideal Cert.KernelIdeal.S4194304x16 .f32 => transpose Cert.KernelIdeal.S1048576x16 [1, 0]
      (Pool.outSpec (F := Ideal) (transpose Cert.KernelIdeal.S16x4194304 [1, 0] x
        Cert.KernelIdeal.Facts₀.transposes_S4194304x16_S16x4194304_1_0)) Cert.KernelIdeal.Facts₀.transposes_S16x1048576_S1048576x16_1_0) h0

theorem claim : Cert.Claim :=
  ⟨Cert.Kernel.Gen.facts, Cert.KernelIdeal.Gen.facts, Cert.ReferenceIdeal.Gen.facts, Cert.Pre_occupied.Gen.facts,
    frame_kernel, frame_ideal, fun m g _ => frame_ideal m g trivial, frame_reference, fun m g _ => frame_reference m g trivial, trivial, value⟩

end Cert.Proof

end
